-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "qscale" .f32 0x3E38AA3B#32 (((Real.sqrt 64)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x8192x1024 : Shape := ⟨3, ![4, 8192, 1024]⟩
abbrev S1024 : Shape := ⟨1, ![1024]⟩
abbrev S1024x3072 : Shape := ⟨2, ![1024, 3072]⟩
abbrev S16x513 : Shape := ⟨2, ![16, 513]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S16x513 : S_.BroadcastsInDim S16x513 (![] : Fin 0 → Fin S16x513.rank)
  reducesTo_S16x513_S_d0_1 : S16x513.ReducesTo [0, 1] S_

variable [Facts]

def fn {F : FTy → Type} [FloatOps F] (main_arg0 : FVec F S4x8192x1024 .f32) (main_arg1 : FVec F S1024 .f32) (main_arg2 : FVec F S1024x3072 .f32) (main_arg3 : FVec F S16x513 .f32) (main_arg4 : FVec F S1024x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S16x513 .f32 := Host.absf main_arg3
  let main_cst_2 : FVec F S_ .f32 := constant S_ .f32 0x7F800000#32
  let main_v10 : FVec F S16x513 .f32 := broadcastInDim S16x513 ![] bcast_S_S16x513 main_cst_2
  let main_v11 : IVec S16x513 1 := cmpf .olt main_v9 main_v10
  let main_c_3 : IVec S_ 1 := constantI S_ 1 1#1
  let main_v12 : IVec S_ 1 := (fun x v => Host.reduce IntOp.andi x v reducesTo_S16x513_S_d0_1 h_S_) main_v11 main_c_3
  let main_v13 : IVec S_ 1 := andi main_v8 main_v12
  main_v13
-- ==== Kernel.lean ====
abbrev S4x8192x1024 : Shape := ⟨3, ![4, 8192, 1024]⟩
abbrev S1024 : Shape := ⟨1, ![1024]⟩
abbrev S1024x3072 : Shape := ⟨2, ![1024, 3072]⟩
abbrev S16x513 : Shape := ⟨2, ![16, 513]⟩
abbrev S1024x1024 : Shape := ⟨2, ![1024, 1024]⟩
abbrev S1x1024 : Shape := ⟨2, ![1, 1024]⟩
abbrev S639 : Shape := ⟨1, ![639]⟩
abbrev S_ : Shape := ⟨0, ![]⟩
abbrev S639x1 : Shape := ⟨2, ![639, 1]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S16x64x64 : Shape := ⟨3, ![16, 64, 64]⟩
abbrev S16x64x640 : Shape := ⟨3, ![16, 64, 640]⟩
abbrev S16x128x640 : Shape := ⟨3, ![16, 128, 640]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S128x128 : Shape := ⟨2, ![128, 128]⟩
abbrev S128x256 : Shape := ⟨2, ![128, 256]⟩
abbrev S1x128x128 : Shape := ⟨3, ![1, 128, 128]⟩
abbrev S128 : Shape := ⟨1, ![128]⟩
abbrev S128x1 : Shape := ⟨2, ![128, 1]⟩
abbrev S256x128 : Shape := ⟨2, ![256, 128]⟩
abbrev S128x512 : Shape := ⟨2, ![128, 512]⟩
abbrev S1x128x256 : Shape := ⟨3, ![1, 128, 256]⟩
abbrev S512x128 : Shape := ⟨2, ![512, 128]⟩
abbrev S128x384 : Shape := ⟨2, ![128, 384]⟩
abbrev S128x768 : Shape := ⟨2, ![128, 768]⟩
abbrev S1x128x384 : Shape := ⟨3, ![1, 128, 384]⟩
abbrev S384x128 : Shape := ⟨2, ![384, 128]⟩
abbrev S768x128 : Shape := ⟨2, ![768, 128]⟩
abbrev S128x1024 : Shape := ⟨2, ![128, 1024]⟩
abbrev S1x128x512 : Shape := ⟨3, ![1, 128, 512]⟩
abbrev S1024x128 : Shape := ⟨2, ![1024, 128]⟩
abbrev S128x640 : Shape := ⟨2, ![128, 640]⟩
abbrev S128x1280 : Shape := ⟨2, ![128, 1280]⟩
abbrev S1x128x640 : Shape := ⟨3, ![1, 128, 640]⟩
abbrev S640x128 : Shape := ⟨2, ![640, 128]⟩
abbrev S1280x128 : Shape := ⟨2, ![1280, 128]⟩

abbrev nBuf : Space → Nat
  | .hbm => 177
  | .vmem => 16
  | .smem => 0
  | _ => 0

abbrev hbmTy0_0 (i : Nat) : BufTy := match i % 128 with
  | 0 => ⟨S4x8192x1024, .f32⟩
  | 1 => ⟨S1024, .f32⟩
  | 2 => ⟨S1024x3072, .f32⟩
  | 3 => ⟨S16x513, .f32⟩
  | 4 => ⟨S1024x1024, .f32⟩
  | 5 => ⟨S1x1024, .f32⟩
  | 6 => ⟨S1024x1024, .f32⟩
  | 7 => ⟨S1024x1024, .bf16⟩
  | 8 => ⟨S1024x1024, .f32⟩
  | 9 => ⟨S1024x1024, .f32⟩
  | 10 => ⟨S1024x1024, .bf16⟩
  | 11 => ⟨S1024x1024, .f32⟩
  | 12 => ⟨S1024x1024, .bf16⟩
  | 13 => ⟨S1024x1024, .bf16⟩
  | 14 => ⟨S639, .i32⟩
  | 15 => ⟨S_, .i32⟩
  | 16 => ⟨S639, .i32⟩
  | 17 => ⟨S639, .i32⟩
  | 18 => ⟨S_, .i32⟩
  | 19 => ⟨S_, .i32⟩
  | 20 => ⟨S_, .i32⟩
  | 21 => ⟨S639, .i32⟩
  | 22 => ⟨S639, .i32⟩
  | 23 => ⟨S_, .i32⟩
  | 24 => ⟨S639, .i32⟩
  | 25 => ⟨S639, .i32⟩
  | 26 => ⟨S_, .i32⟩
  | 27 => ⟨S639, .i32⟩
  | 28 => ⟨S639, .i32⟩
  | 29 => ⟨S_, .i32⟩
  | 30 => ⟨S639, .i32⟩
  | 31 => ⟨S639, .i1⟩
  | 32 => ⟨S_, .i32⟩
  | 33 => ⟨S639, .i32⟩
  | 34 => ⟨S639, .i32⟩
  | 35 => ⟨S639, .i32⟩
  | 36 => ⟨S639x1, .i32⟩
  | 37 => ⟨S16x639, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x576, .f32⟩
  | 81 => ⟨S16x576, .f32⟩
  | 82 => ⟨S16x576, .f32⟩
  | 83 => ⟨S16x576, .f32⟩
  | 84 => ⟨S16x576, .f32⟩
  | 85 => ⟨S16x576, .f32⟩
  | 86 => ⟨S16x576, .f32⟩
  | 87 => ⟨S16x576, .f32⟩
  | 88 => ⟨S16x576, .f32⟩
  | 89 => ⟨S16x576, .f32⟩
  | 90 => ⟨S16x576, .f32⟩
  | 91 => ⟨S16x576, .f32⟩
  | 92 => ⟨S16x576, .f32⟩
  | 93 => ⟨S16x576, .f32⟩
  | 94 => ⟨S16x576, .f32⟩
  | 95 => ⟨S16x576, .f32⟩
  | 96 => ⟨S16x576, .f32⟩
  | 97 => ⟨S16x576, .f32⟩
  | 98 => ⟨S16x576, .f32⟩
  | 99 => ⟨S16x576, .f32⟩
  | 100 => ⟨S16x576, .f32⟩
  | 101 => ⟨S16x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S4x8192x1024, .f32⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x1x576, .f32⟩
  | 17 => ⟨S16x1x576, .f32⟩
  | 18 => ⟨S16x1x576, .f32⟩
  | 19 => ⟨S16x1x576, .f32⟩
  | 20 => ⟨S16x1x576, .f32⟩
  | 21 => ⟨S16x1x576, .f32⟩
  | 22 => ⟨S16x1x576, .f32⟩
  | 23 => ⟨S16x1x576, .f32⟩
  | 24 => ⟨S16x1x576, .f32⟩
  | 25 => ⟨S16x1x576, .f32⟩
  | 26 => ⟨S16x1x576, .f32⟩
  | 27 => ⟨S16x1x576, .f32⟩
  | 28 => ⟨S16x1x576, .f32⟩
  | 29 => ⟨S16x1x576, .f32⟩
  | 30 => ⟨S16x1x576, .f32⟩
  | 31 => ⟨S16x1x576, .f32⟩
  | 32 => ⟨S16x1x576, .f32⟩
  | 33 => ⟨S16x1x576, .f32⟩
  | 34 => ⟨S16x1x576, .f32⟩
  | 35 => ⟨S16x1x576, .f32⟩
  | 36 => ⟨S16x1x576, .f32⟩
  | 37 => ⟨S16x1x576, .f32⟩
  | 38 => ⟨S16x16x576, .f32⟩
  | 39 => ⟨S16x16x576, .f32⟩
  | 40 => ⟨S16x16x576, .f32⟩
  | 41 => ⟨S16x16x576, .f32⟩
  | 42 => ⟨S16x64x576, .f32⟩
  | 43 => ⟨S_, .f32⟩
  | 44 => ⟨S16x64x64, .f32⟩
  | 45 => ⟨S16x64x640, .f32⟩
  | 46 => ⟨S16x64x640, .f32⟩
  | 47 => ⟨S16x128x640, .f32⟩
  | 48 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S16x128x640, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_cst : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((Real.sqrt 64)⁻¹ * (Real.log 2)⁻¹ : ℝ) : EReal)
  | _ => none
-- ==== ReferenceIdeal.lean ====
abbrev S4x8192x1024 : Shape := ⟨3, ![4, 8192, 1024]⟩
abbrev S1024 : Shape := ⟨1, ![1024]⟩
abbrev S1024x3072 : Shape := ⟨2, ![1024, 3072]⟩
abbrev S16x513 : Shape := ⟨2, ![16, 513]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x3x16x64 : Shape := ⟨5, ![4, 8192, 3, 16, 64]⟩
abbrev S4x8192x1x16x64 : Shape := ⟨5, ![4, 8192, 1, 16, 64]⟩
abbrev S4x8192x16x64 : Shape := ⟨4, ![4, 8192, 16, 64]⟩
abbrev S4x8704x16x64 : Shape := ⟨4, ![4, 8704, 16, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x576 : Shape := ⟨2, ![128, 576]⟩
abbrev S4x128x64x16x64 : Shape := ⟨5, ![4, 128, 64, 16, 64]⟩
abbrev S128x576x1 : Shape := ⟨3, ![128, 576, 1]⟩
abbrev S4x128x576x16x64 : Shape := ⟨5, ![4, 128, 576, 16, 64]⟩
abbrev S4x128x16x64x576 : Shape := ⟨5, ![4, 128, 16, 64, 576]⟩
abbrev S1x1x16x64x576 : Shape := ⟨5, ![1, 1, 16, 64, 576]⟩
abbrev S1x128x1x1x576 : Shape := ⟨5, ![1, 128, 1, 1, 576]⟩
abbrev S4x128x16x64 : Shape := ⟨4, ![4, 128, 16, 64]⟩
abbrev S4x128x16x64x1 : Shape := ⟨5, ![4, 128, 16, 64, 1]⟩
abbrev S4x128x16x64x64 : Shape := ⟨5, ![4, 128, 16, 64, 64]⟩

abbrev nBuf : Space → Nat
  | .hbm => 133
  | .vmem => 0
  | .smem => 0
  | _ => 0

abbrev hbmTy0_0 (i : Nat) : BufTy := match i % 128 with
  | 0 => ⟨S4x8192x1024, .f32⟩
  | 1 => ⟨S1024, .f32⟩
  | 2 => ⟨S1024x3072, .f32⟩
  | 3 => ⟨S16x513, .f32⟩
  | 4 => ⟨S1024x1024, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S_, .f32⟩
  | 13 => ⟨S4x8192x1, .f32⟩
  | 14 => ⟨S4x8192x1, .f32⟩
  | 15 => ⟨S4x8192x1, .f32⟩
  | 16 => ⟨S4x8192x1024, .f32⟩
  | 17 => ⟨S4x8192x1024, .f32⟩
  | 18 => ⟨S1x1x1024, .f32⟩
  | 19 => ⟨S4x8192x1024, .f32⟩
  | 20 => ⟨S4x8192x1024, .f32⟩
  | 21 => ⟨S4x8192x3072, .f32⟩
  | 22 => ⟨S4x8192x3x16x64, .f32⟩
  | 23 => ⟨S4x8192x1x16x64, .f32⟩
  | 24 => ⟨S4x8192x16x64, .f32⟩
  | 25 => ⟨S4x8192x1x16x64, .f32⟩
  | 26 => ⟨S4x8192x16x64, .f32⟩
  | 27 => ⟨S4x8192x1x16x64, .f32⟩
  | 28 => ⟨S4x8192x16x64, .f32⟩
  | 29 => ⟨S_, .i32⟩
  | 30 => ⟨S_, .f32⟩
  | 31 => ⟨S4x8704x16x64, .f32⟩
  | 32 => ⟨S_, .i32⟩
  | 33 => ⟨S_, .f32⟩
  | 34 => ⟨S4x8704x16x64, .f32⟩
  | 35 => ⟨S64, .i32⟩
  | 36 => ⟨S576, .i32⟩
  | 37 => ⟨S64x1, .i32⟩
  | 38 => ⟨S_, .i32⟩
  | 39 => ⟨S64x1, .i32⟩
  | 40 => ⟨S64x1, .i32⟩
  | 41 => ⟨S1x576, .i32⟩
  | 42 => ⟨S64x576, .i32⟩
  | 43 => ⟨S64x576, .i32⟩
  | 44 => ⟨S64x576, .i32⟩
  | 45 => ⟨S_, .i32⟩
  | 46 => ⟨S_, .i32⟩
  | 47 => ⟨S_, .i32⟩
  | 48 => ⟨S64x576, .i32⟩
  | 49 => ⟨S64x576, .i32⟩
  | 50 => ⟨S_, .i32⟩
  | 51 => ⟨S64x576, .i32⟩
  | 52 => ⟨S64x576, .i32⟩
  | 53 => ⟨S_, .i32⟩
  | 54 => ⟨S64x576, .i32⟩
  | 55 => ⟨S64x576, .i32⟩
  | 56 => ⟨S_, .i32⟩
  | 57 => ⟨S64x576, .i32⟩
  | 58 => ⟨S64x576, .i1⟩
  | 59 => ⟨S_, .i32⟩
  | 60 => ⟨S64x576, .i32⟩
  | 61 => ⟨S64x576, .i32⟩
  | 62 => ⟨S64x576, .i32⟩
  | 63 => ⟨S64x576x1, .i32⟩
  | 64 => ⟨S16x64x576, .f32⟩
  | 65 => ⟨S128, .i32⟩
  | 66 => ⟨S_, .i32⟩
  | 67 => ⟨S128, .i32⟩
  | 68 => ⟨S128, .i32⟩
  | 69 => ⟨S128x1, .i32⟩
  | 70 => ⟨S1x576, .i32⟩
  | 71 => ⟨S128x576, .i32⟩
  | 72 => ⟨S128x576, .i32⟩
  | 73 => ⟨S128x576, .i32⟩
  | 74 => ⟨S4x128x64x16x64, .f32⟩
  | 75 => ⟨S_, .i32⟩
  | 76 => ⟨S128x576, .i32⟩
  | 77 => ⟨S128x576, .i1⟩
  | 78 => ⟨S_, .i32⟩
  | 79 => ⟨S128x576, .i32⟩
  | 80 => ⟨S128x576, .i32⟩
  | 81 => ⟨S128x576, .i32⟩
  | 82 => ⟨S128x576x1, .i32⟩
  | 83 => ⟨S4x128x576x16x64, .f32⟩
  | 84 => ⟨S_, .i32⟩
  | 85 => ⟨S128x576, .i32⟩
  | 86 => ⟨S128x576, .i1⟩
  | 87 => ⟨S_, .i32⟩
  | 88 => ⟨S128x576, .i32⟩
  | 89 => ⟨S128x576, .i32⟩
  | 90 => ⟨S128x576, .i32⟩
  | 91 => ⟨S128x576x1, .i32⟩
  | 92 => ⟨S4x128x576x16x64, .f32⟩
  | 93 => ⟨S4x128x16x64x576, .f32⟩
  | 94 => ⟨S_, .f32⟩
  | 95 => ⟨S4x128x16x64x576, .f32⟩
  | 96 => ⟨S4x128x16x64x576, .f32⟩
  | 97 => ⟨S1x1x16x64x576, .f32⟩
  | 98 => ⟨S4x128x16x64x576, .f32⟩
  | 99 => ⟨S4x128x16x64x576, .f32⟩
  | 100 => ⟨S1x576, .i32⟩
  | 101 => ⟨S128x1, .i32⟩
  | 102 => ⟨S_, .i32⟩
  | 103 => ⟨S128x1, .i32⟩
  | 104 => ⟨S128x1, .i32⟩
  | 105 => ⟨S128x576, .i32⟩
  | 106 => ⟨S128x576, .i32⟩
  | 107 => ⟨S128x576, .i1⟩
  | 108 => ⟨S1x128x1x1x576, .i1⟩
  | 109 => ⟨S_, .f32⟩
  | 110 => ⟨S_, .f32⟩
  | 111 => ⟨S4x128x16x64x576, .i1⟩
  | 112 => ⟨S4x128x16x64x576, .f32⟩
  | 113 => ⟨S4x128x16x64x576, .f32⟩
  | 114 => ⟨S_, .f32⟩
  | 115 => ⟨S4x128x16x64, .f32⟩
  | 116 => ⟨S_, .f32⟩
  | 117 => ⟨S4x128x16x64, .f32⟩
  | 118 => ⟨S4x128x16x64, .f32⟩
  | 119 => ⟨S4x128x16x64x1, .f32⟩
  | 120 => ⟨S4x128x16x64x576, .f32⟩
  | 121 => ⟨S4x128x16x64x576, .f32⟩
  | 122 => ⟨S4x128x16x64x576, .f32⟩
  | 123 => ⟨S_, .f32⟩
  | 124 => ⟨S4x128x16x64, .f32⟩
  | 125 => ⟨S4x128x16x64x1, .f32⟩
  | 126 => ⟨S4x128x16x64x576, .f32⟩
  | 127 => ⟨S4x128x16x64x576, .f32⟩
  | _ => ⟨S4x8192x1024, .f32⟩

abbrev hbmTy0_1 (i : Nat) : BufTy := match i % 128 with
  | 0 => ⟨S4x128x16x64x64, .f32⟩
  | 1 => ⟨S4x128x64x16x64, .f32⟩
  | 2 => ⟨S4x8192x1024, .f32⟩
  | 3 => ⟨S4x8192x1024, .f32⟩
  | 4 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_c_2 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_c_5 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Kernel2.lean ====
abbrev S4x8192x1024 : Shape := ⟨3, ![4, 8192, 1024]⟩
abbrev S2x1024 : Shape := ⟨2, ![2, 1024]⟩
abbrev S2x1024x5504 : Shape := ⟨3, ![2, 1024, 5504]⟩
abbrev S2x3x5504 : Shape := ⟨3, ![2, 3, 5504]⟩
abbrev S2x5504 : Shape := ⟨2, ![2, 5504]⟩
abbrev S2x2752x1024 : Shape := ⟨3, ![2, 2752, 1024]⟩
abbrev S1024 : Shape := ⟨1, ![1024]⟩
abbrev S2x1024x2752 : Shape := ⟨3, ![2, 1024, 2752]⟩
abbrev S_ : Shape := ⟨0, ![]⟩
abbrev S2x1024x2816 : Shape := ⟨3, ![2, 1024, 2816]⟩
abbrev S2x1024x5632 : Shape := ⟨3, ![2, 1024, 5632]⟩
abbrev S2x1x5504 : Shape := ⟨3, ![2, 1, 5504]⟩
abbrev S2x4x5504 : Shape := ⟨3, ![2, 4, 5504]⟩
abbrev S2x8x5504 : Shape := ⟨3, ![2, 8, 5504]⟩
abbrev S2x8x2752 : Shape := ⟨3, ![2, 8, 2752]⟩
abbrev S2x8x2816 : Shape := ⟨3, ![2, 8, 2816]⟩
abbrev S2x8x5632 : Shape := ⟨3, ![2, 8, 5632]⟩
abbrev S2x2816x1024 : Shape := ⟨3, ![2, 2816, 1024]⟩
abbrev S2x1x1024 : Shape := ⟨3, ![2, 1, 1024]⟩
abbrev S1x1x1024 : Shape := ⟨3, ![1, 1, 1024]⟩
abbrev S1x1024x1024 : Shape := ⟨3, ![1, 1024, 1024]⟩
abbrev S1x1024x5632 : Shape := ⟨3, ![1, 1024, 5632]⟩
abbrev S1x8x5632 : Shape := ⟨3, ![1, 8, 5632]⟩
abbrev S1x2816x1024 : Shape := ⟨3, ![1, 2816, 1024]⟩
abbrev S1024x2816 : Shape := ⟨2, ![1024, 2816]⟩
abbrev S22x8x256 : Shape := ⟨3, ![22, 8, 256]⟩
abbrev S4x1032x256 : Shape := ⟨3, ![4, 1032, 256]⟩
abbrev S1024x1024 : Shape := ⟨2, ![1024, 1024]⟩
abbrev S1x1024 : Shape := ⟨2, ![1, 1024]⟩
abbrev S1024x1 : Shape := ⟨2, ![1024, 1]⟩
abbrev S1x1024x256 : Shape := ⟨3, ![1, 1024, 256]⟩
abbrev S1024x256 : Shape := ⟨2, ![1024, 256]⟩
abbrev S1x8x256 : Shape := ⟨3, ![1, 8, 256]⟩
abbrev S8x256 : Shape := ⟨2, ![8, 256]⟩
abbrev S1x1032x256 : Shape := ⟨3, ![1, 1032, 256]⟩
abbrev S1032x256 : Shape := ⟨2, ![1032, 256]⟩
abbrev S1x256 : Shape := ⟨2, ![1, 256]⟩
abbrev S1024x1280 : Shape := ⟨2, ![1024, 1280]⟩
abbrev S1x1280x1024 : Shape := ⟨3, ![1, 1280, 1024]⟩
abbrev S1280x1024 : Shape := ⟨2, ![1280, 1024]⟩
abbrev S1x256x1024 : Shape := ⟨3, ![1, 256, 1024]⟩
abbrev S256x1024 : Shape := ⟨2, ![256, 1024]⟩

abbrev nBuf : Space → Nat
  | .hbm => 37
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x5504, .f32⟩
  | .hbm, ⟨3, _⟩ => ⟨S2x3x5504, .f32⟩
  | .hbm, ⟨4, _⟩ => ⟨S2x5504, .f32⟩
  | .hbm, ⟨5, _⟩ => ⟨S2x2752x1024, .f32⟩
  | .hbm, ⟨6, _⟩ => ⟨S1024, .f32⟩
  | .hbm, ⟨7, _⟩ => ⟨S2x1024x2752, .f32⟩
  | .hbm, ⟨8, _⟩ => ⟨S_, .i32⟩
  | .hbm, ⟨9, _⟩ => ⟨S_, .f32⟩
  | .hbm, ⟨10, _⟩ => ⟨S2x1024x2816, .f32⟩
  | .hbm, ⟨11, _⟩ => ⟨S2x1024x2752, .f32⟩
  | .hbm, ⟨12, _⟩ => ⟨S_, .i32⟩
  | .hbm, ⟨13, _⟩ => ⟨S_, .f32⟩
  | .hbm, ⟨14, _⟩ => ⟨S2x1024x2816, .f32⟩
  | .hbm, ⟨15, _⟩ => ⟨S2x1024x5632, .f32⟩
  | .hbm, ⟨16, _⟩ => ⟨S2x1024x5632, .bf16⟩
  | .hbm, ⟨17, _⟩ => ⟨S2x1x5504, .f32⟩
  | .hbm, ⟨18, _⟩ => ⟨S_, .f32⟩
  | .hbm, ⟨19, _⟩ => ⟨S2x4x5504, .f32⟩
  | .hbm, ⟨20, _⟩ => ⟨S2x8x5504, .f32⟩
  | .hbm, ⟨21, _⟩ => ⟨S2x8x2752, .f32⟩
  | .hbm, ⟨22, _⟩ => ⟨S_, .i32⟩
  | .hbm, ⟨23, _⟩ => ⟨S_, .f32⟩
  | .hbm, ⟨24, _⟩ => ⟨S2x8x2816, .f32⟩
  | .hbm, ⟨25, _⟩ => ⟨S2x8x2752, .f32⟩
  | .hbm, ⟨26, _⟩ => ⟨S_, .i32⟩
  | .hbm, ⟨27, _⟩ => ⟨S_, .f32⟩
  | .hbm, ⟨28, _⟩ => ⟨S2x8x2816, .f32⟩
  | .hbm, ⟨29, _⟩ => ⟨S2x8x5632, .f32⟩
  | .hbm, ⟨30, _⟩ => ⟨S_, .i32⟩
  | .hbm, ⟨31, _⟩ => ⟨S_, .f32⟩
  | .hbm, ⟨32, _⟩ => ⟨S2x2816x1024, .f32⟩
  | .hbm, ⟨33, _⟩ => ⟨S2x2816x1024, .bf16⟩
  | .hbm, ⟨34, _⟩ => ⟨S2x1x1024, .f32⟩
  | .hbm, ⟨35, _⟩ => ⟨S1x1x1024, .f32⟩
  | .hbm, ⟨36, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x8x5632, .f32⟩
  | .local _ .vmem, ⟨5, _⟩ => ⟨S1x2816x1024, .bf16⟩
  | .local _ .vmem, ⟨6, _⟩ => ⟨S1x1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x2816, .bf16⟩
  | .local _ .vmem, ⟨10, _⟩ => ⟨S22x8x256, .f32⟩
  | .local _ .vmem, ⟨11, _⟩ => ⟨S4x1032x256, .f32⟩
  | .local _ .vmem, ⟨12, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_call4_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x8192x1024 : Shape := ⟨3, ![4, 8192, 1024]⟩
abbrev S2x1024 : Shape := ⟨2, ![2, 1024]⟩
abbrev S2x1024x5504 : Shape := ⟨3, ![2, 1024, 5504]⟩
abbrev S2x3x5504 : Shape := ⟨3, ![2, 3, 5504]⟩
abbrev S2x5504 : Shape := ⟨2, ![2, 5504]⟩
abbrev S2x2752x1024 : Shape := ⟨3, ![2, 2752, 1024]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5504 : Shape := ⟨3, ![1, 1024, 5504]⟩
abbrev S1024x5504 : Shape := ⟨2, ![1024, 5504]⟩
abbrev S4x8192x5504 : Shape := ⟨3, ![4, 8192, 5504]⟩
abbrev S1x3x5504 : Shape := ⟨3, ![1, 3, 5504]⟩
abbrev S3x5504 : Shape := ⟨2, ![3, 5504]⟩
abbrev S1x5504 : Shape := ⟨2, ![1, 5504]⟩
abbrev S5504 : Shape := ⟨1, ![5504]⟩
abbrev S4x8194x5504 : Shape := ⟨3, ![4, 8194, 5504]⟩
abbrev S1x1x5504 : Shape := ⟨3, ![1, 1, 5504]⟩
abbrev S4x8192x2752 : Shape := ⟨3, ![4, 8192, 2752]⟩
abbrev S1x2752x1024 : Shape := ⟨3, ![1, 2752, 1024]⟩
abbrev S2752x1024 : Shape := ⟨2, ![2752, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x5504, .f32⟩
  | .hbm, ⟨3, _⟩ => ⟨S2x3x5504, .f32⟩
  | .hbm, ⟨4, _⟩ => ⟨S2x5504, .f32⟩
  | .hbm, ⟨5, _⟩ => ⟨S2x2752x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S1x1024x5504, .f32⟩
  | .hbm, ⟨26, _⟩ => ⟨S1024x5504, .f32⟩
  | .hbm, ⟨27, _⟩ => ⟨S4x8192x5504, .f32⟩
  | .hbm, ⟨28, _⟩ => ⟨S1x3x5504, .f32⟩
  | .hbm, ⟨29, _⟩ => ⟨S3x5504, .f32⟩
  | .hbm, ⟨30, _⟩ => ⟨S1x5504, .f32⟩
  | .hbm, ⟨31, _⟩ => ⟨S5504, .f32⟩
  | .hbm, ⟨32, _⟩ => ⟨S_, .i32⟩
  | .hbm, ⟨33, _⟩ => ⟨S_, .f32⟩
  | .hbm, ⟨34, _⟩ => ⟨S4x8194x5504, .f32⟩
  | .hbm, ⟨35, _⟩ => ⟨S1x5504, .f32⟩
  | .hbm, ⟨36, _⟩ => ⟨S5504, .f32⟩
  | .hbm, ⟨37, _⟩ => ⟨S4x8192x5504, .f32⟩
  | .hbm, ⟨38, _⟩ => ⟨S1x1x5504, .f32⟩
  | .hbm, ⟨39, _⟩ => ⟨S4x8192x5504, .f32⟩
  | .hbm, ⟨40, _⟩ => ⟨S4x8192x5504, .f32⟩
  | .hbm, ⟨41, _⟩ => ⟨S_, .f32⟩
  | .hbm, ⟨42, _⟩ => ⟨S4x8192x5504, .f32⟩
  | .hbm, ⟨43, _⟩ => ⟨S4x8192x5504, .f32⟩
  | .hbm, ⟨44, _⟩ => ⟨S1x5504, .f32⟩
  | .hbm, ⟨45, _⟩ => ⟨S5504, .f32⟩
  | .hbm, ⟨46, _⟩ => ⟨S4x8192x5504, .f32⟩
  | .hbm, ⟨47, _⟩ => ⟨S1x1x5504, .f32⟩
  | .hbm, ⟨48, _⟩ => ⟨S4x8192x5504, .f32⟩
  | .hbm, ⟨49, _⟩ => ⟨S4x8192x5504, .f32⟩
  | .hbm, ⟨50, _⟩ => ⟨S4x8192x5504, .f32⟩
  | .hbm, ⟨51, _⟩ => ⟨S1x5504, .f32⟩
  | .hbm, ⟨52, _⟩ => ⟨S5504, .f32⟩
  | .hbm, ⟨53, _⟩ => ⟨S4x8192x5504, .f32⟩
  | .hbm, ⟨54, _⟩ => ⟨S1x1x5504, .f32⟩
  | .hbm, ⟨55, _⟩ => ⟨S4x8192x5504, .f32⟩
  | .hbm, ⟨56, _⟩ => ⟨S4x8192x5504, .f32⟩
  | .hbm, ⟨57, _⟩ => ⟨S4x8192x5504, .f32⟩
  | .hbm, ⟨58, _⟩ => ⟨S1x1x5504, .f32⟩
  | .hbm, ⟨59, _⟩ => ⟨S4x8192x5504, .f32⟩
  | .hbm, ⟨60, _⟩ => ⟨S4x8192x5504, .f32⟩
  | .hbm, ⟨61, _⟩ => ⟨S4x8192x2752, .f32⟩
  | .hbm, ⟨62, _⟩ => ⟨S4x8192x2752, .f32⟩
  | .hbm, ⟨63, _⟩ => ⟨S4x8192x2752, .f32⟩
  | .hbm, ⟨64, _⟩ => ⟨S4x8192x2752, .f32⟩
  | .hbm, ⟨65, _⟩ => ⟨S_, .f32⟩
  | .hbm, ⟨66, _⟩ => ⟨S4x8192x2752, .f32⟩
  | .hbm, ⟨67, _⟩ => ⟨S4x8192x2752, .f32⟩
  | .hbm, ⟨68, _⟩ => ⟨S_, .f32⟩
  | .hbm, ⟨69, _⟩ => ⟨S4x8192x2752, .f32⟩
  | .hbm, ⟨70, _⟩ => ⟨S4x8192x2752, .f32⟩
  | .hbm, ⟨71, _⟩ => ⟨S4x8192x2752, .f32⟩
  | .hbm, ⟨72, _⟩ => ⟨S4x8192x2752, .f32⟩
  | .hbm, ⟨73, _⟩ => ⟨S1x2752x1024, .f32⟩
  | .hbm, ⟨74, _⟩ => ⟨S2752x1024, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S_, .f32⟩
  | .hbm, ⟨79, _⟩ => ⟨S4x8192, .f32⟩
  | .hbm, ⟨80, _⟩ => ⟨S4x8192x1, .f32⟩
  | .hbm, ⟨81, _⟩ => ⟨S_, .f32⟩
  | .hbm, ⟨82, _⟩ => ⟨S4x8192x1, .f32⟩
  | .hbm, ⟨83, _⟩ => ⟨S4x8192x1, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S4x8192x1, .f32⟩
  | .hbm, ⟨88, _⟩ => ⟨S4x8192x1024, .f32⟩
  | .hbm, ⟨89, _⟩ => ⟨S4x8192x1024, .f32⟩
  | .hbm, ⟨90, _⟩ => ⟨S1x1x1024, .f32⟩
  | .hbm, ⟨91, _⟩ => ⟨S4x8192x1024, .f32⟩
  | .hbm, ⟨92, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_cst_4 : Ref sig .tc := ⟨.hbm, 81, rfl⟩
abbrev main_v59 : Ref sig .tc := ⟨.hbm, 82, rfl⟩
abbrev main_v60 : Ref sig .tc := ⟨.hbm, 83, rfl⟩
abbrev main_cst_5 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Proof.FfnSpec.lean ====
/- The final feed-forward part of a layer on one batch row of the input, as plain sums: the root-mean-square normalisation, the
   first product, the causal convolution over three rows, the gate, the second product added to the input, and the final
   normalisation. -/
module

public import Idealize.ShloMosaic.Lib.Pointwise

@[expose] public section

noncomputable section

namespace Cert.FfnSpec

open Idealize.ShloMosaic

/-- A row after the root-mean-square normalisation, at one position. -/
def rms (x w : Fin 1024 → EReal) (k : Fin 1024) : EReal :=
  x k * Ideal.rsqrt (Ideal.div (∑ d : Fin 1024, x d * x d) (Ideal.ofBits .f32 0x44800000#32) + Ideal.ofBits .f32 0x358637BD#32) * w k

variable (x : Fin 8192 → Fin 1024 → EReal) (nw : Fin 1024 → EReal) (U : Fin 1024 → Fin 5504 → EReal)
  (C : Fin 3 → Fin 5504 → EReal) (B : Fin 5504 → EReal) (D : Fin 2752 → Fin 1024 → EReal) (fw : Fin 1024 → EReal)

/-- The first product at a row and a hidden column. -/
def lin (s : Fin 8192) (n : Fin 5504) : EReal := ∑ k : Fin 1024, rms (x s) nw k * U k n

/-- The first product `d` rows before, zero before the first row. -/
def linBack (d : ℕ) (s : Fin 8192) (n : Fin 5504) : EReal :=
  if d ≤ s.val then lin x nw U ⟨s.val - d, by omega⟩ n else 0

/-- The convolution over a row and the two before it, with its bias. -/
def conv (s : Fin 8192) (n : Fin 5504) : EReal :=
  C 2 n * lin x nw U s n + C 1 n * linBack x nw U 1 s n + C 0 n * linBack x nw U 2 s n + B n

/-- The gate times its logistic function, times the other half. -/
def act (g u : EReal) : EReal := Ideal.div g (1 + Ideal.exp (0 - g)) * u

/-- An exponential is not negative. -/
theorem exp_nonneg : ∀ x : EReal, 0 ≤ Ideal.exp x
  | ⊥ => le_rfl
  | ⊤ => le_top
  | (r : ℝ) => by
    show (0 : EReal) ≤ ((Real.exp r : ℝ) : EReal)
    exact_mod_cast (Real.exp_pos r).le

/-- The gate as a product with the logistic function is the gate as a quotient. -/
theorem act_eq (g u : EReal) : g * Ideal.div 1 (1 + Ideal.exp (-g)) * u = act g u := by
  have h1 : (1 : EReal) ≤ 1 + Ideal.exp (-g) := le_add_of_nonneg_right (exp_nonneg _)
  have h : (1 : EReal) + Ideal.exp (-g) ≠ 0 := (lt_of_lt_of_le zero_lt_one h1).ne'
  unfold act Ideal.div
  rw [zero_sub, if_neg h, if_neg h, one_mul]

/-- The gated hidden value at a row and a column. -/
def hid (s : Fin 8192) (i : Fin 2752) : EReal :=
  act (conv x nw U C B s ⟨i.val, by omega⟩) (conv x nw U C B s ⟨2752 + i.val, by omega⟩)

/-- The input plus the second product. -/
def res (s : Fin 8192) (n : Fin 1024) : EReal := x s n + ∑ i : Fin 2752, hid x nw U C B s i * D i n

/-- The result. -/
def out (s : Fin 8192) (n : Fin 1024) : EReal := rms (res x nw U C B D s) fw n

end Cert.FfnSpec

end
-- ==== Proof.FfnRef.lean ====
/- The reference's feed-forward program, read at an index, is the plain sums of FfnSpec. -/
module

public import proofs.«01_k».proof.Proof.FfnSpec
public import proofs.«01_k».proof.Proof.Gen.Reference2Ideal.Read
public import Idealize.ShloMosaic.Lib.Pointwise

@[expose] public section

noncomputable section

namespace Cert.Reference2Ideal.Ffn

open Cert.Reference2Ideal Cert.Reference2Ideal.Gen Cert.Reference2Ideal.Read Cert.FfnSpec
open Idealize.ShloMosaic Idealize.ShloMosaic.TcCoe

variable (x0 : S4x8192x1024.Idx → EReal) (x1 : S2x1024.Idx → EReal) (x2 : S2x1024x5504.Idx → EReal)
  (x3 : S2x3x5504.Idx → EReal) (x4 : S2x5504.Idx → EReal) (x5 : S2x2752x1024.Idx → EReal) (x6 : S1024.Idx → EReal)

/-- The normalised input. -/
theorem v14_apply (b : Fin 4) (s : Fin 8192) (k : Fin 1024) :
    val_main_v14 (F := Ideal) x0 x1 (ix3 b s k) = rms (fun d => x0 (ix3 b s d)) (fun d => x1 (ix2 (1 : Fin 2) d)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The first product. -/
theorem v17_apply (b : Fin 4) (s : Fin 8192) (n : Fin 5504) :
    val_main_v17 (F := Ideal) x0 x1 x2 (ix3 b s n)
      = lin (fun s d => x0 (ix3 b s d)) (fun d => x1 (ix2 (1 : Fin 2) d)) (fun k n => x2 (ix3 (1 : Fin 2) k n)) s n := by
  unfold lin
  simp only [← v14_apply]
  pointwise [val_main_v17, val_main_v16, val_main_v15]

/-- The convolution. -/
theorem v47_apply (b : Fin 4) (s : Fin 8192) (n : Fin 5504) :
    val_main_v47 (F := Ideal) x0 x1 x2 x3 x4 (ix3 b s n)
      = conv (fun s d => x0 (ix3 b s d)) (fun d => x1 (ix2 (1 : Fin 2) d)) (fun k n => x2 (ix3 (1 : Fin 2) k n))
        (fun k n => x3 (ix3 (1 : Fin 2) k n)) (fun n => x4 (ix2 (1 : Fin 2) n)) s n := by
  unfold conv linBack
  simp only [← v17_apply]
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_call0_v0, val_main_c, val_main_cst_2]
  have hz : (FloatOps.sitofp (F := Ideal) .f32 (0#32) : EReal) = 0 := by
    show (((0#32 : BitVec 32).toInt : ℝ) : EReal) = 0
    simp
  have h1 : 1 + s.val - 2 = s.val - 1 := by omega
  have hs := s.isLt
  have e1 : (2 ≤ 1 + s.val ∧ s.val - 1 < 8192) = (1 ≤ s.val) := propext ⟨fun h => by omega, fun h => ⟨by omega, by omega⟩⟩
  have e2 : (2 ≤ s.val ∧ s.val - 2 < 8192) = (2 ≤ s.val) := propext ⟨fun h => h.1, fun h => ⟨h, by omega⟩⟩
  simp only [hz, h1, e1, e2, dite_eq_ite]
  refine congrArg (· + _) ?_
  rw [add_comm, add_assoc]
  exact congrArg _ (add_comm _ _)

/-- The gated hidden values. -/
theorem v51_apply (b : Fin 4) (s : Fin 8192) (i : Fin 2752) :
    val_main_v51 (F := Ideal) x0 x1 x2 x3 x4 (ix3 b s i)
      = hid (fun s d => x0 (ix3 b s d)) (fun d => x1 (ix2 (1 : Fin 2) d)) (fun k n => x2 (ix3 (1 : Fin 2) k n))
        (fun k n => x3 (ix3 (1 : Fin 2) k n)) (fun n => x4 (ix2 (1 : Fin 2) n)) s i := by
  unfold hid
  simp only [← v47_apply]
  pointwise [val_main_v51, val_main_v50, val_main_v49, val_main_v48, val_main_call1_v0, val_main_call1_v1, val_main_call1_v2, val_main_call1_v3, val_main_call1_v4, val_main_call1_v5, val_main_call1_cst, val_main_call1_cst_0]
  exact act_eq _ _

/-- The input plus the second product. -/
theorem v55_apply (b : Fin 4) (s : Fin 8192) (n : Fin 1024) :
    val_main_v55 (F := Ideal) x0 x1 x2 x3 x4 x5 (ix3 b s n)
      = res (fun s d => x0 (ix3 b s d)) (fun d => x1 (ix2 (1 : Fin 2) d)) (fun k n => x2 (ix3 (1 : Fin 2) k n))
        (fun k n => x3 (ix3 (1 : Fin 2) k n)) (fun n => x4 (ix2 (1 : Fin 2) n)) (fun i n => x5 (ix3 (1 : Fin 2) i n)) s n := by
  unfold res
  simp only [← v51_apply]
  pointwise [val_main_v55, val_main_v54, val_main_v53, val_main_v52]

/-- The reference's result. -/
theorem v68_apply (b : Fin 4) (s : Fin 8192) (n : Fin 1024) :
    val_main_v68 (F := Ideal) x0 x1 x2 x3 x4 x5 x6 (ix3 b s n)
      = out (fun s d => x0 (ix3 b s d)) (fun d => x1 (ix2 (1 : Fin 2) d)) (fun k n => x2 (ix3 (1 : Fin 2) k n))
        (fun k n => x3 (ix3 (1 : Fin 2) k n)) (fun n => x4 (ix2 (1 : Fin 2) n)) (fun i n => x5 (ix3 (1 : Fin 2) i n))
        (fun d => x6 (ix1 d)) s n := by
  unfold out rms
  simp only [← v55_apply]
  pointwise [val_main_v68, val_main_v67, val_main_v66, val_main_v65, val_main_v64, val_main_v63, val_main_v62, val_main_v61, val_main_v60, val_main_v59, val_main_v58, val_main_v57, val_main_v56, val_main_cst_3, val_main_cst_4, val_main_cst_5]

end Cert.Reference2Ideal.Ffn

end
-- ==== Proof.FfnRead.lean ====
/- How the final feed-forward kernel's loads read its scratch buffers: a column slice of a weight block, eight rows of the
   carried rows, and the chunk buffer whose first eight rows hold the end of the previous tile and whose other rows hold the
   chunk of this tile. -/
module

public import proofs.«01_k».proof.Proof.Gen.Kernel2Ideal.Frame
public import Idealize.ShloMosaic.Lib.Pipeline.Value
public import Idealize.ShloMosaic.Lib.Pointwise

@[expose] public section

noncomputable section

namespace Cert.Kernel2Ideal.Ffn

open Cert.Kernel2Ideal Cert.Kernel2Ideal.Gen
open Idealize.ShloMosaic Idealize.ShloMosaic.TcCoe Idealize.ShloMosaic.Tactic

variable {α : Type}

/-- Columns `off …` of a weight block, as a 256-column block. -/
def colW (x : S1x1024x5632.Idx → α) (off : ℕ) : S1x1024x256.Idx → α :=
  fun j => x (ix3 (0 : Fin 1) (j 1 : Fin 1024) (⟨(off + (j 2 : Fin 256).val) % 5632, Nat.mod_lt _ (by decide)⟩ : Fin 5632))

/-- Columns `off …` of the block of convolution weights. -/
def colC (x : S1x8x5632.Idx → α) (off : ℕ) : S1x8x256.Idx → α :=
  fun j => x (ix3 (0 : Fin 1) (j 1 : Fin 8) (⟨(off + (j 2 : Fin 256).val) % 5632, Nat.mod_lt _ (by decide)⟩ : Fin 5632))

/-- Entry `k` of the carried rows. -/
def rowT (x : S22x8x256.Idx → α) (k : ℕ) : S1x8x256.Idx → α :=
  fun j => x (ix3 (⟨k % 22, Nat.mod_lt _ (by decide)⟩ : Fin 22) (j 1 : Fin 8) (j 2 : Fin 256))

/-- Eight rows `t` above the rows `z`, read from row `off` on. -/
def shiftRows (off : ℕ) (t : S8x256.Idx → α) (z : S1024x256.Idx → α) : S1024x256.Idx → α :=
  fun j => if off + (j 0 : Fin 1024).val < 8
    then t (ix2 (⟨(off + (j 0 : Fin 1024).val) % 8, Nat.mod_lt _ (by decide)⟩ : Fin 8) (j 1 : Fin 256))
    else z (ix2 (⟨(off + (j 0 : Fin 1024).val - 8) % 1024, Nat.mod_lt _ (by decide)⟩ : Fin 1024) (j 1 : Fin 256))

variable {Val : EltTy → Type} [∀ e, Nonempty (Val e)] {sig : RefSig} {κ : Kind} {sp : Space} {e : EltTy}

/-- A load of columns `off …` of a weight block. -/
theorem ld_colW (x : S1x1024x5632.Idx → Val e) (off : ℕ) (inb) :
    View.ld x (Rect.unit (s := S1x1024x5632) ![0, 0, off] ![1, 1024, 256] inb) = colW x off := by
  have ho : off + 256 ≤ 5632 := inb 2
  funext j
  show x _ = x _
  congr 1
  funext a
  apply Fin.ext
  have h0 : (j 0).val < 1 := (j 0).isLt
  have h2 : (j 2).val < 256 := (j 2).isLt
  match a with
  | 0 => show 0 + 1 * (j 0).val = 0; omega
  | 1 => show 0 + 1 * (j 1).val = (j 1).val; omega
  | 2 => show off + 1 * (j 2).val = (off + (j 2).val) % 5632; omega

/-- A load of columns `off …` of the convolution weights. -/
theorem ld_colC (x : S1x8x5632.Idx → Val e) (off : ℕ) (inb) :
    View.ld x (Rect.unit (s := S1x8x5632) ![0, 0, off] ![1, 8, 256] inb) = colC x off := by
  have ho : off + 256 ≤ 5632 := inb 2
  funext j
  show x _ = x _
  congr 1
  funext a
  apply Fin.ext
  have h0 : (j 0).val < 1 := (j 0).isLt
  have h2 : (j 2).val < 256 := (j 2).isLt
  match a with
  | 0 => show 0 + 1 * (j 0).val = 0; omega
  | 1 => show 0 + 1 * (j 1).val = (j 1).val; omega
  | 2 => show off + 1 * (j 2).val = (off + (j 2).val) % 5632; omega

/-- A load of entry `k` of the carried rows. -/
theorem ld_rowT (x : S22x8x256.Idx → Val e) (k : ℕ) (inb) :
    View.ld x (Rect.unit (s := S22x8x256) ![k, 0, 0] ![1, 8, 256] inb) = rowT x k := by
  have ho : k + 1 ≤ 22 := inb 0
  funext j
  show x _ = x _
  congr 1
  funext a
  apply Fin.ext
  have h0 : (j 0).val < 1 := (j 0).isLt
  match a with
  | 0 => show k + 1 * (j 0).val = k % 22; omega
  | 1 => show 0 + 1 * (j 1).val = (j 1).val; omega
  | 2 => show 0 + 1 * (j 2).val = (j 2).val; omega

/-- A load of entry `k` of the carried rows after a store to another entry. -/
theorem readCov_rowT_skip (v : View sig κ sp S22x8x256 e) (a k : ℕ) (h : a ≠ k) (inb inb')
    (p : (Rect.unit (s := S22x8x256) ![a, 0, 0] ![1, 8, 256] inb).shape.Idx → Val e) (L : List (View.Piece Val S22x8x256 e)) :
    v.readCov (⟨Rect.unit ![a, 0, 0] ![1, 8, 256] inb, p⟩ :: L) (Rect.unit (s := S22x8x256) ![k, 0, 0] ![1, 8, 256] inb').toLoadRect
      = v.readCov L (Rect.unit (s := S22x8x256) ![k, 0, 0] ![1, 8, 256] inb').toLoadRect := by
  rw [View.readCov_eq_canon', View.readCov_eq_canon']
  funext j
  refine View.canon_cons_of_not_mem _ L ?_
  refine Rect.not_mem_set_of_axis _ _ 0 a 1 rfl rfl rfl ?_
  have h0 : (j 0).val < 1 := (j 0).isLt
  show k + 1 * (j 0).val < a ∨ a + 1 ≤ k + 1 * (j 0).val
  omega

/-- A load of entry `k` of the carried rows when one value has been stored over all of them. -/
theorem readCov_rowT_fill (v : View sig κ sp S22x8x256 e) (k : ℕ) (inb inb')
    (p : S22x8x256.Idx → Val e) (L : List (View.Piece Val S22x8x256 e)) :
    v.readCov (⟨Rect.unit ![0, 0, 0] ![22, 8, 256] inb, p⟩ :: L) (Rect.unit (s := S22x8x256) ![k, 0, 0] ![1, 8, 256] inb').toLoadRect
      = rowT p k := by
  rw [View.readCov_eq_canon', View.canon_cons_unit_zero (S := S22x8x256) (by funext a; fin_cases a <;> rfl)]
  exact ld_rowT p k inb'

/-- What a list of stores leaves at the place where the last store's rectangle puts an index. -/
theorem canon_cons_at {S : Shape} (r : Rect S) (w : r.shape.Idx → Val e) (L : List (View.Piece Val S e)) (x : r.shape.Idx) (y : S.Idx)
    (h : ∀ a, (y a).val = r.off a + r.stride a * (x a).val) : View.canon (⟨r, w⟩ :: L) y = w x := by
  rw [← Rect.emb_eq_of_coords r x y h, View.canon_cons_emb]

/-- A load of 1024 rows of a chunk buffer from row `off` on, its first eight rows stored from `t` and the others from `z`. -/
theorem readCov_shiftRows_aux (v : View sig κ sp S4x1032x256 e) (k off : ℕ) (inb inb8 inb0 inbo c1 c2 c3 c4 c5 c6 w1 w2 w3 p1 p2 p3)
    (hoff : off ≤ 8) (z : S1024x256.Idx → Val e) (t : S8x256.Idx → Val e) (L : List (View.Piece Val S4x1032x256 e)) :
    LoadRect.valAlong (lr := (Rect.unit (s := S1032x256) ![off, 0] ![1024, 256] inbo).toLoadRect) p3
      (v.readCov
        (⟨(Rect.unit (s := S4x1032x256) ![k, 0, 0] ![1, 1032, 256] inb).within
            ((Rect.unit (s := S1032x256) ![8, 0] ![1024, 256] inb8).consLift ![1, 1032, 256] c1 c2) w1, Rect.payAlong (r := Rect.unit (s := S1032x256) ![8, 0] ![1024, 256] inb8) p1 z⟩
          :: ⟨(Rect.unit (s := S4x1032x256) ![k, 0, 0] ![1, 1032, 256] inb).within
            ((Rect.unit (s := S1032x256) ![0, 0] ![8, 256] inb0).consLift ![1, 1032, 256] c3 c4) w2, Rect.payAlong (r := Rect.unit (s := S1032x256) ![0, 0] ![8, 256] inb0) p2 t⟩
          :: L)
        ((Rect.unit (s := S4x1032x256) ![k, 0, 0] ![1, 1032, 256] inb).withinL
            ((Rect.unit (s := S1032x256) ![off, 0] ![1024, 256] inbo).toLoadRect.consLift ![1, 1032, 256] c5 c6) w3))
      = shiftRows off t z := by
  funext x
  have hx0 : (x 0).val < 1024 := (x 0).isLt
  have hx : Shape.reshapeEquiv p3 x = Fin.cons ⟨0, Nat.one_pos⟩ x := Shape.reshapeEquiv_cons_one (d := ![1024, 256]) _ _
  rw [View.readCov_eq_canon']
  show View.canon _ (LoadRect.idx _ (Shape.reshapeEquiv p3 x)) = _
  generalize hy : LoadRect.idx _ (Shape.reshapeEquiv p3 x) = y
  rw [hx] at hy
  have y0 : (y 0).val = k := by rw [← hy]; rfl
  have y1 : (y 1).val = off + (x 0).val := by
    rw [← hy]
    show 0 + off + 1 * (x 0).val = off + (x 0).val
    omega
  have y2 : (y 2).val = (x 1).val := by
    rw [← hy]
    show 0 + 0 + 1 * (x 1).val = (x 1).val
    omega
  unfold shiftRows
  by_cases h : off + (x 0).val < 8
  · rw [if_pos h]
    refine (View.canon_cons_of_not_mem _ _ ?_).trans ((canon_cons_at _ _ L
      (Fin.cons ⟨0, Nat.one_pos⟩ (ix2 (⟨(off + (x 0).val) % 8, Nat.mod_lt _ (by decide)⟩ : Fin 8) (x 1 : Fin 256))) y ?_).trans ?_)
    · refine Rect.not_mem_set_of_axis _ _ 1 8 1024 rfl rfl rfl (Or.inl ?_)
      omega
    · intro a
      match a with
      | 0 => show (y 0).val = k + 0 + 1 * 0; omega
      | 1 => show (y 1).val = 0 + 0 + 1 * ((off + (x 0).val) % 8); omega
      | 2 => show (y 2).val = 0 + 0 + 1 * (x 1).val; omega
    · refine Rect.payAlong_consLift (Rect.unit (s := S1032x256) ![0, 0] ![8, 256] inb0) _ c3 c4 t p2 _ _ ?_
      intro a
      match a with
      | 0 => rfl
      | 1 => rfl
  · rw [if_neg h]
    refine (canon_cons_at _ _ _
      (Fin.cons ⟨0, Nat.one_pos⟩ (ix2 (⟨(off + (x 0).val - 8) % 1024, Nat.mod_lt _ (by decide)⟩ : Fin 1024) (x 1 : Fin 256))) y ?_).trans ?_
    · intro a
      match a with
      | 0 => show (y 0).val = k + 0 + 1 * 0; omega
      | 1 => show (y 1).val = 0 + 8 + 1 * ((off + (x 0).val - 8) % 1024); omega
      | 2 => show (y 2).val = 0 + 0 + 1 * (x 1).val; omega
    · refine Rect.payAlong_consLift (Rect.unit (s := S1032x256) ![8, 0] ![1024, 256] inb8) _ c1 c2 z p1 _ _ ?_
      intro a
      match a with
      | 0 => rfl
      | 1 => rfl

/-- The same, the payloads carried along to the rectangles inside the slice. -/
theorem readCov_shiftRows (v : View sig κ sp S4x1032x256 e) (k off : ℕ) (inb inb8 inb0 inbo c1 c2 c3 c4 c5 c6 w1 w2 w3 p1 p2 p3)
    (hoff : off ≤ 8) (z : S1024x256.Idx → Val e) (t : S8x256.Idx → Val e) (L : List (View.Piece Val S4x1032x256 e)) :
    LoadRect.valAlong (s₀ := (Rect.unit (s := S4x1032x256) ![k, 0, 0] ![1, 1032, 256] inb).shape) (LR := (Rect.unit (s := S1032x256) ![off, 0] ![1024, 256] inbo).toLoadRect.consLift ![1, 1032, 256] c5 c6)
      (lr := (Rect.unit (s := S1032x256) ![off, 0] ![1024, 256] inbo).toLoadRect) p3
      (v.readCov
        (⟨(Rect.unit (s := S4x1032x256) ![k, 0, 0] ![1, 1032, 256] inb).within
            ((Rect.unit (s := S1032x256) ![8, 0] ![1024, 256] inb8).consLift ![1, 1032, 256] c1 c2) w1, Rect.payAlong (s₀ := (Rect.unit (s := S4x1032x256) ![k, 0, 0] ![1, 1032, 256] inb).shape)
              (R := (Rect.unit (s := S1032x256) ![8, 0] ![1024, 256] inb8).consLift ![1, 1032, 256] c1 c2) (r := Rect.unit (s := S1032x256) ![8, 0] ![1024, 256] inb8) p1 z⟩
          :: ⟨(Rect.unit (s := S4x1032x256) ![k, 0, 0] ![1, 1032, 256] inb).within
            ((Rect.unit (s := S1032x256) ![0, 0] ![8, 256] inb0).consLift ![1, 1032, 256] c3 c4) w2, Rect.payAlong (s₀ := (Rect.unit (s := S4x1032x256) ![k, 0, 0] ![1, 1032, 256] inb).shape)
              (R := (Rect.unit (s := S1032x256) ![0, 0] ![8, 256] inb0).consLift ![1, 1032, 256] c3 c4) (r := Rect.unit (s := S1032x256) ![0, 0] ![8, 256] inb0) p2 t⟩
          :: L)
        ((Rect.unit (s := S4x1032x256) ![k, 0, 0] ![1, 1032, 256] inb).withinL
            ((Rect.unit (s := S1032x256) ![off, 0] ![1024, 256] inbo).toLoadRect.consLift ![1, 1032, 256] c5 c6) w3))
      = shiftRows off t z :=
  readCov_shiftRows_aux v k off inb inb8 inb0 inbo c1 c2 c3 c4 c5 c6 w1 w2 w3 p1 p2 p3 hoff z t L

end Cert.Kernel2Ideal.Ffn

end
-- ==== Proof.FfnModel.lean ====
/- What one tile of the final feed-forward kernel computes, in the kernel's own vector operations: the normalised rows, a
   chunk of 256 hidden columns before and after the convolution, the gated chunk, the three partial products of the second
   matrix product, and the normalised sum with the input. -/
module

public import proofs.«01_k».proof.Proof.FfnRead

@[expose] public section

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F]

/-- A chunk of 256 hidden columns before the convolution: the normalised rows times those columns of the first weight. -/
def zOf (h : FVec F S1024x1024 .bf16) (x2 : Vec F S1x1024x5632 .bf16) (off : ℕ) : FVec F S1024x256 .f32 :=
  matmul dot_S1024x1024_S1024x256_S1024x256_1_0_0_1_n_n none h
    (shapeCast S1024x256 (colW x2 off) shapeCasts_S1x1024x256_S1024x256) (constant S1024x256 .f32 0x00000000#32)

/-- The last eight rows of a chunk, which the next tile's convolution reads. -/
def tailOf (z : FVec F S1024x256 .f32) : FVec F S1x8x256 .f32 :=
  shapeCast S1x8x256 (extractStridedSlice S8x256 ![1016, 0] z slices_S1024x256_o1016_0_S8x256) shapeCasts_S8x256_S1x8x256

/-- One row of the convolution weights, on every row of a chunk. -/
def tap (k : ℕ) (h : Shape.Slices S8x256 ![k, 0] S1x256) (c : FVec F S1x8x256 .f32) : FVec F S1024x256 .f32 :=
  broadcastTo S1024x256 (extractStridedSlice S1x256 ![k, 0] (shapeCast S8x256 c shapeCasts_S1x8x256_S8x256) h)
    broadcasts_S1x256_S1024x256

/-- The convolution of a chunk over three rows, with its bias. -/
def convOf (z : FVec F S1024x256 .f32) (t : FVec F S1x8x256 .f32) (c : FVec F S1x8x256 .f32) : FVec F S1024x256 .f32 :=
  addf (addf (addf (mulf (tap 2 slices_S8x256_o2_0_S1x256 c) z)
      (mulf (tap 1 slices_S8x256_o1_0_S1x256 c) (shiftRows 7 (shapeCast S8x256 t shapeCasts_S1x8x256_S8x256) z)))
    (mulf (tap 0 slices_S8x256_o0_0_S1x256 c) (shiftRows 6 (shapeCast S8x256 t shapeCasts_S1x8x256_S8x256) z)))
    (tap 3 slices_S8x256_o3_0_S1x256 c)

/-- The gate times its logistic function, times the other half. -/
def actOf (g u : FVec F S1024x256 .f32) : FVec F S1024x256 .bf16 :=
  truncf .bf16 (mulf (divf g (addf (broadcast S1024x256 (Scalar.ofBits .f32 0x3F800000#32))
    (exp (subf (broadcast S1024x256 (Scalar.ofBits .f32 0x00000000#32)) g)))) u) bitsLt_bf16_f32

/-- Chunk `i` of the gated hidden columns. -/
def hidOf (h : FVec F S1024x1024 .bf16) (x2 : Vec F S1x1024x5632 .bf16) (x3 : Vec F S1x8x5632 .f32)
    (T : ℕ → FVec F S1x8x256 .f32) (i : ℕ) : FVec F S1024x256 .bf16 :=
  actOf (convOf (zOf h x2 (256 * i)) (T (2 * i)) (colC x3 (256 * i)))
    (convOf (zOf h x2 (2816 + 256 * i)) (T (2 * i + 1)) (colC x3 (2816 + 256 * i)))

/-- All the gated hidden columns of a tile, chunk by chunk. -/
def hidAll (h : FVec F S1024x1024 .bf16) (x2 : Vec F S1x1024x5632 .bf16) (x3 : Vec F S1x8x5632 .f32)
    (T : ℕ → FVec F S1x8x256 .f32) : S1024x2816.Idx → F .bf16 :=
  fun j => hidOf h x2 x3 T ((j 1 : Fin 2816).val / 256)
    (ix2 (j 0 : Fin 1024) (⟨(j 1 : Fin 2816).val % 256, Nat.mod_lt _ (by decide)⟩ : Fin 256))

/-- The carried rows a tile leaves. -/
def tailsOf (h : FVec F S1024x1024 .bf16) (x2 : Vec F S1x1024x5632 .bf16) : S22x8x256.Idx → F .f32 :=
  fun j => tailOf (zOf h x2 ((j 0 : Fin 22).val % 2 * 2816 + 256 * ((j 0 : Fin 22).val / 2)))
    (ix3 (0 : Fin 1) (j 1 : Fin 8) (j 2 : Fin 256))

/-- Columns `off …` of the hidden block. -/
def colH (g : S1024x2816.Idx → F .bf16) (off : ℕ) (n : ℕ) : (⟨2, ![1024, n]⟩ : Shape).Idx → F .bf16 :=
  fun j => g (ix2 (j 0 : Fin 1024) (⟨(off + (j 1 : Fin n).val) % 2816, Nat.mod_lt _ (by decide)⟩ : Fin 2816))

/-- Rows `off …` of the second weight. -/
def rowW (x4 : S1x2816x1024.Idx → F .bf16) (off : ℕ) (n : ℕ) : (⟨3, ![1, n, 1024]⟩ : Shape).Idx → F .bf16 :=
  fun j => x4 (ix3 (0 : Fin 1) (⟨(off + (j 1 : Fin n).val) % 2816, Nat.mod_lt _ (by decide)⟩ : Fin 2816) (j 2 : Fin 1024))

/-- The tile's result from its input rows and its hidden block: the second product in three parts, the sum with the input,
    and the final normalisation. -/
def outOf (x0 : Vec F S1x1024x1024 .f32) (x4 : Vec F S1x2816x1024 .bf16) (x5 : Vec F S1x1x1024 .f32)
    (g : S1024x2816.Idx → F .bf16) : FVec F S1x1024x1024 .f32 :=
  k0_pay1 (k0_pay162 (k0_pay3 x0) (colH g 2560 256) (rowW x4 2560 256)
    (k0_pay149 (colH g 1280 1280) (rowW x4 1280 1280) (k0_pay75 (colH g 0 1280) (rowW x4 0 1280))) x5)

end Cert.Kernel2Ideal.Ffn

end
-- ==== Proof.FfnPieces.lean ====
/- The stores of the final feed-forward kernel into its hidden block and into its carried rows, as lists of pieces, and what
   they leave there. -/
module

public import proofs.«01_k».proof.Proof.FfnModel

@[expose] public section

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F]

/-- Rows `off …` of the second weight, as the kernel loads them. -/
theorem ld_rowW (x : Vec F S1x2816x1024 .bf16) (off n : ℕ) (inb) :
    View.ld x (Rect.unit (s := S1x2816x1024) ![0, off, 0] ![1, n, 1024] inb) = rowW x off n := by
  have ho : off + n ≤ 2816 := inb 1
  funext j
  show x _ = x _
  congr 1
  funext a
  apply Fin.ext
  have h0 : (j 0).val < 1 := (j 0).isLt
  have h1 : (j 1).val < n := (j 1).isLt
  match a with
  | 0 => show 0 + 1 * (j 0).val = 0; omega
  | 1 => show off + 1 * (j 1).val = (off + (j 1).val) % 2816; rw [Nat.mod_eq_of_lt (by omega)]; omega
  | 2 => show 0 + 1 * (j 2).val = (j 2).val; omega

section

variable (h : FVec F S1024x1024 .bf16) (x2 : Vec F S1x1024x5632 .bf16) (x3 : Vec F S1x8x5632 .f32) (T : ℕ → FVec F S1x8x256 .f32)

/-- The stores of the first `n` chunks of the hidden block, the last one first. -/
def hidPieces : ℕ → List (View.Piece (Elt F) S1024x2816 .bf16)
  | 0 => []
  | n + 1 => if hn : n < 11 then
      ⟨Rect.unit (s := S1024x2816) ![0, 256 * n] ![1024, 256]
        (fun a => match a with
          | 0 => (by decide : 0 + 1024 ≤ 1024)
          | 1 => (by omega : 256 * n + 256 ≤ 2816)), hidOf h x2 x3 T n⟩ :: hidPieces n
    else []

/-- The stores of the first `n` entries of the carried rows, the last one first, over earlier stores. -/
def tailPieces (L : List (View.Piece (Elt F) S22x8x256 .f32)) : ℕ → List (View.Piece (Elt F) S22x8x256 .f32)
  | 0 => L
  | n + 1 => if hn : n < 22 then
      ⟨Rect.unit (s := S22x8x256) ![n, 0, 0] ![1, 8, 256]
        (fun a => match a with
          | 0 => (by omega : n + 1 ≤ 22)
          | 1 => (by decide : 0 + 8 ≤ 8)
          | 2 => (by decide : 0 + 256 ≤ 256)), tailOf (zOf h x2 (n % 2 * 2816 + 256 * (n / 2)))⟩ :: tailPieces L n
    else L

/-- The stores of the first `n` chunks leave the hidden block's first `256 * n` columns. -/
theorem canon_hidPieces : ∀ (n : ℕ) (hn : n ≤ 11) (y : S1024x2816.Idx) (hy : (y 1 : Fin 2816).val < 256 * n),
    View.canon (hidPieces h x2 x3 T n) y = hidAll h x2 x3 T y
  | 0, _, _, hy => absurd hy (by omega)
  | n + 1, hn, y, hy => by
    rw [hidPieces, dif_pos (by omega : n < 11)]
    by_cases hc : 256 * n ≤ (y 1 : Fin 2816).val
    · have hq : (y 1 : Fin 2816).val / 256 = n := by omega
      rw [canon_cons_at _ _ _ (ix2 (y 0 : Fin 1024) (⟨(y 1 : Fin 2816).val % 256, Nat.mod_lt _ (by decide)⟩ : Fin 256)) y]
      · show _ = hidOf h x2 x3 T ((y 1 : Fin 2816).val / 256) _
        rw [hq]
        rfl
      · intro a
        match a with
        | 0 => show (y 0).val = 0 + 1 * (y 0).val; omega
        | 1 => show (y 1 : Fin 2816).val = 256 * n + 1 * ((y 1 : Fin 2816).val % 256); omega
    · rw [View.canon_cons_of_not_mem _ _ (Rect.not_mem_set_of_axis _ _ 1 (256 * n) 256 rfl rfl rfl ?_)]
      · exact canon_hidPieces n (by omega) y (by omega)
      · left; show (y 1 : Fin 2816).val < 256 * n; omega

/-- All the stores of the carried rows leave the last rows of every chunk. -/
theorem canon_tailPieces (L : List (View.Piece (Elt F) S22x8x256 .f32)) :
    ∀ (n : ℕ) (hn : n ≤ 22) (y : S22x8x256.Idx) (hy : (y 0 : Fin 22).val < n),
    View.canon (tailPieces h x2 L n) y = tailsOf h x2 y
  | 0, _, _, hy => absurd hy (by omega)
  | n + 1, hn, y, hy => by
    rw [tailPieces, dif_pos (by omega : n < 22)]
    by_cases hc : (y 0 : Fin 22).val = n
    · rw [canon_cons_at _ _ _ (ix3 (0 : Fin 1) (y 1 : Fin 8) (y 2 : Fin 256)) y]
      · show _ = tailOf (zOf h x2 ((y 0 : Fin 22).val % 2 * 2816 + 256 * ((y 0 : Fin 22).val / 2))) _
        rw [hc]
        rfl
      · intro a
        match a with
        | 0 => show (y 0 : Fin 22).val = n + 1 * 0; omega
        | 1 => show (y 1).val = 0 + 1 * (y 1).val; omega
        | 2 => show (y 2).val = 0 + 1 * (y 2).val; omega
    · rw [View.canon_cons_of_not_mem _ _ (Rect.not_mem_set_of_axis _ _ 0 n 1 rfl rfl rfl ?_)]
      · exact canon_tailPieces L n (by omega) y (by omega)
      · left; show (y 0 : Fin 22).val < n; omega

/-- A load of columns `off …` of the hidden block after the first `n` chunks are stored. -/
theorem readCov_hidPieces {sig : RefSig} {κ : Kind} {sp : Space} (v : View sig κ sp S1024x2816 .bf16) (n : ℕ) (hn : n ≤ 11) (off w : ℕ)
    (inb) (how : off + w ≤ 256 * n) :
    v.readCov (hidPieces h x2 x3 T n) (Rect.unit (s := S1024x2816) ![0, off] ![1024, w] inb).toLoadRect
      = colH (hidAll h x2 x3 T) off w := by
  rw [View.readCov_eq_canon']
  funext j
  have h1 : (j 1).val < w := (j 1).isLt
  show View.canon (Val := Elt F) (hidPieces h x2 x3 T n) ((Rect.unit (s := S1024x2816) ![0, off] ![1024, w] inb).toLoadRect.idx j) = hidAll h x2 x3 T (ix2 (j 0 : Fin 1024) (⟨(off + (j 1 : Fin w).val) % 2816, _⟩ : Fin 2816))
  rw [show ((Rect.unit (s := S1024x2816) ![0, off] ![1024, w] inb).toLoadRect.idx j : S1024x2816.Idx) = ix2 (j 0 : Fin 1024) (⟨(off + (j 1 : Fin w).val) % 2816, Nat.mod_lt _ (by decide)⟩ : Fin 2816) from ?_]
  · refine canon_hidPieces h x2 x3 T n hn _ ?_
    show (off + (j 1).val) % 2816 < 256 * n
    rw [Nat.mod_eq_of_lt (by omega)]; omega
  · funext a
    apply Fin.ext
    match a with
    | 0 => show 0 + 1 * (j 0).val = (j 0).val; omega
    | 1 => show off + 1 * (j 1).val = (off + (j 1).val) % 2816; rw [Nat.mod_eq_of_lt (by omega)]; omega

end

end Cert.Kernel2Ideal.Ffn

end
-- ==== Proof.FfnRunA.lean ====
/- What the final feed-forward kernel's stores leave at the first tile of a batch entry. -/
module

public import proofs.«01_k».proof.Proof.FfnPieces
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F]

variable (c : Dev nD) (arg2 : Memref sig .tc .vmem S1x1024x1024 .f32) (harg2 : arg2.IsWhole)
  (arg3 : Memref sig .tc .vmem S1x1x1024 .f32) (harg3 : arg3.IsWhole) (arg4 : Memref sig .tc .vmem S1x1024x5632 .bf16)
  (harg4 : arg4.IsWhole) (arg5 : Memref sig .tc .vmem S1x8x5632 .f32) (harg5 : arg5.IsWhole)
  (arg6 : Memref sig .tc .vmem S1x2816x1024 .bf16) (harg6 : arg6.IsWhole) (arg7 : Memref sig .tc .vmem S1x1x1024 .f32)
  (harg7 : arg7.IsWhole) (arg8 : Memref sig .tc .vmem S1x1024x1024 .f32) (harg8 : arg8.IsWhole)
  (arg9 : Memref sig .tc .vmem S1024x2816 .bf16) (harg9 : arg9.IsWhole) (arg10 : Memref sig .tc .vmem S22x8x256 .f32)
  (harg10 : arg10.IsWhole) (arg11 : Memref sig .tc .vmem S4x1032x256 .f32) (harg11 : arg11.IsWhole)
  (arg12 : Memref sig .tc .vmem S1024x1024 .f32) (harg12 : arg12.IsWhole)
  (x0 : Vec F S1x1024x1024 .f32) (x1 : Vec F S1x1x1024 .f32) (x2 : Vec F S1x1024x5632 .bf16) (x3 : Vec F S1x8x5632 .f32)
  (x4 : Vec F S1x2816x1024 .bf16) (x5 : Vec F S1x1x1024 .f32)

/-- At the first tile of a batch entry the first 5 chunks of the hidden block are the model's, the carried rows being zero. -/
theorem hidA_5 :
    kernelRun0_A.sl.HS0_5 c arg2 harg2 arg3 harg3 arg4 harg4 arg5 harg5 arg10 arg11 x0 x1 x2 x3
      = hidPieces (k0_pay4 x0 x1) x2 x3 (rowT k0_pay2) 5 := by
  sl_unfold_run_names
  have hz3 : (![0, 0, 0] : Fin 3 → ℕ) = fun _ => 0 := by funext a; fin_cases a <;> rfl
  simp only [View.readAt_eq_ld, Memref.IsWhole.read_unread, ld_colW, ld_colC, View.ld_unit_zero (S := S1x1024x1024) hz3,
    View.ld_unit_zero (S := S1x1x1024) hz3]
  simp only [readCov_rowT_skip, readCov_rowT_fill, ne_eq, OfNat.ofNat_ne_zero, OfNat.ofNat_ne_one, OfNat.zero_ne_ofNat,
    OfNat.one_ne_ofNat, zero_ne_one, one_ne_zero, Nat.reduceEqDiff, not_false_eq_true]
  simp only [readCov_shiftRows, Nat.reduceLeDiff]
  unfold_payloads
  simp only [hidPieces, hidOf, actOf, convOf, zOf, tap, shapeCast_self, Nat.reduceMul, Nat.reduceAdd, Nat.reduceLT, dite_true, dif_pos]

/-- At the first tile of a batch entry the first 10 chunks of the hidden block are the model's, the carried rows being zero. -/
theorem hidA_10 :
    kernelRun0_A.sl.HS0_10 c arg2 harg2 arg3 harg3 arg4 harg4 arg5 harg5 arg10 arg11 x0 x1 x2 x3
      = hidPieces (k0_pay4 x0 x1) x2 x3 (rowT k0_pay2) 10 := by
  sl_unfold_run_names
  have hz3 : (![0, 0, 0] : Fin 3 → ℕ) = fun _ => 0 := by funext a; fin_cases a <;> rfl
  simp only [View.readAt_eq_ld, Memref.IsWhole.read_unread, ld_colW, ld_colC, View.ld_unit_zero (S := S1x1024x1024) hz3,
    View.ld_unit_zero (S := S1x1x1024) hz3]
  simp only [readCov_rowT_skip, readCov_rowT_fill, ne_eq, OfNat.ofNat_ne_zero, OfNat.ofNat_ne_one, OfNat.zero_ne_ofNat,
    OfNat.one_ne_ofNat, zero_ne_one, one_ne_zero, Nat.reduceEqDiff, not_false_eq_true]
  simp only [readCov_shiftRows, Nat.reduceLeDiff]
  unfold_payloads
  simp only [hidPieces, hidOf, actOf, convOf, zOf, tap, shapeCast_self, Nat.reduceMul, Nat.reduceAdd, Nat.reduceLT, dite_true, dif_pos]

/-- At the first tile of a batch entry the first 11 chunks of the hidden block are the model's, the carried rows being zero. -/
theorem hidA_11 :
    kernelRun0_A.sl.HS0_11 c arg2 harg2 arg3 harg3 arg4 harg4 arg5 harg5 arg10 arg11 x0 x1 x2 x3
      = hidPieces (k0_pay4 x0 x1) x2 x3 (rowT k0_pay2) 11 := by
  sl_unfold_run_names
  have hz3 : (![0, 0, 0] : Fin 3 → ℕ) = fun _ => 0 := by funext a; fin_cases a <;> rfl
  simp only [View.readAt_eq_ld, Memref.IsWhole.read_unread, ld_colW, ld_colC, View.ld_unit_zero (S := S1x1024x1024) hz3,
    View.ld_unit_zero (S := S1x1x1024) hz3]
  simp only [readCov_rowT_skip, readCov_rowT_fill, ne_eq, OfNat.ofNat_ne_zero, OfNat.ofNat_ne_one, OfNat.zero_ne_ofNat,
    OfNat.one_ne_ofNat, zero_ne_one, one_ne_zero, Nat.reduceEqDiff, not_false_eq_true]
  simp only [readCov_shiftRows, Nat.reduceLeDiff]
  unfold_payloads
  simp only [hidPieces, hidOf, actOf, convOf, zOf, tap, shapeCast_self, Nat.reduceMul, Nat.reduceAdd, Nat.reduceLT, dite_true, dif_pos]

/-- What the body leaves in the output block at the first tile of a batch entry. -/
theorem out_A (i : grid0.Coords) (hc0 : cond0_0 i) :
    out0_A_6 c i arg2 harg2 arg3 harg3 arg4 harg4 arg5 harg5 arg6 harg6 arg7 harg7 arg8 harg8 arg9 harg9 arg10 harg10 arg11 harg11 arg12 harg12 hc0 x0 x1 x2 x3 x4 x5 = outOf x0 x4 x5 (hidAll (k0_pay4 x0 x1) x2 x3 (rowT k0_pay2)) := by
  have hz3 : (![0, 0, 0] : Fin 3 → ℕ) = fun _ => 0 := by funext a; fin_cases a <;> rfl
  have hz2 : (![0, 0] : Fin 2 → ℕ) = fun _ => 0 := by funext a; fin_cases a <;> rfl
  unfold out0_A_6
  rw [View.read_writes_junk_eq_canon]
  unfold kernelRun0_A
  dsimp only
  rw [View.canon_unit_zero (S := S1x1024x1024) hz3]
  unfold kernelRun0_A.sl.r_79
  unfold kernelRun0_A.sl.v1059 kernelRun0_A.sl.v1063 kernelRun0_A.sl.HS3_2 kernelRun0_A.sl.v963 kernelRun0_A.sl.v967
    kernelRun0_A.sl.HS3_1 kernelRun0_A.sl.v491 kernelRun0_A.sl.r
  rw [hidA_5, hidA_10, hidA_11]
  simp only [View.readAt_eq_ld, Memref.IsWhole.read_unread, View.ld_unit_zero (S := S1x1024x1024) hz3,
    View.ld_unit_zero (S := S1x1x1024) hz3, View.readCov_cons_toLoadRect, ld_rowW, readCov_hidPieces, Nat.reduceLeDiff,
    Nat.reduceAdd, Nat.reduceMul]
  rfl

/-- What the body leaves in the carried rows at the first tile of a batch entry. -/
theorem tails_A (i : grid0.Coords) (hc0 : cond0_0 i) :
    sout0_A_1 c i arg2 harg2 arg3 harg3 arg4 harg4 arg5 harg5 arg6 harg6 arg7 harg7 arg8 harg8 arg9 harg9 arg10 harg10 arg11 harg11 arg12 harg12 hc0 x0 x1 x2 x3 x4 x5 = tailsOf (k0_pay4 x0 x1) x2 := by
  have hz3 : (![0, 0, 0] : Fin 3 → ℕ) = fun _ => 0 := by funext a; fin_cases a <;> rfl
  unfold sout0_A_1
  rw [View.read_writes_junk_eq_canon]
  funext y
  refine Eq.trans (congrFun (congrArg View.canon ?_) y) (canon_tailPieces (k0_pay4 x0 x1) x2
    [⟨Rect.unit (s := S22x8x256) ![0, 0, 0] ![22, 8, 256] inb_S22x8x256_S22x8x256_0_0_0, k0_pay2⟩] 22 (by decide) y (y 0).isLt)
  unfold kernelRun0_A
  dsimp only
  sl_unfold_run_names
  simp only [View.readAt_eq_ld, Memref.IsWhole.read_unread, ld_colW, View.ld_unit_zero (S := S1x1024x1024) hz3,
    View.ld_unit_zero (S := S1x1x1024) hz3]
  unfold_payloads
  simp only [tailPieces, tailOf, zOf, shapeCast_self, Nat.reduceMul, Nat.reduceAdd, Nat.reduceDiv, Nat.reduceMod, Nat.reduceLT, dite_true,
    dif_pos]

end Cert.Kernel2Ideal.Ffn

end
-- ==== Proof.FfnRunB.lean ====
/- What the final feed-forward kernel's stores leave at a later tile of a batch entry. -/
module

public import proofs.«01_k».proof.Proof.FfnPieces
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F]

variable (c : Dev nD) (arg2 : Memref sig .tc .vmem S1x1024x1024 .f32) (harg2 : arg2.IsWhole)
  (arg3 : Memref sig .tc .vmem S1x1x1024 .f32) (harg3 : arg3.IsWhole) (arg4 : Memref sig .tc .vmem S1x1024x5632 .bf16)
  (harg4 : arg4.IsWhole) (arg5 : Memref sig .tc .vmem S1x8x5632 .f32) (harg5 : arg5.IsWhole)
  (arg6 : Memref sig .tc .vmem S1x2816x1024 .bf16) (harg6 : arg6.IsWhole) (arg7 : Memref sig .tc .vmem S1x1x1024 .f32)
  (harg7 : arg7.IsWhole) (arg8 : Memref sig .tc .vmem S1x1024x1024 .f32) (harg8 : arg8.IsWhole)
  (arg9 : Memref sig .tc .vmem S1024x2816 .bf16) (harg9 : arg9.IsWhole) (arg10 : Memref sig .tc .vmem S22x8x256 .f32)
  (harg10 : arg10.IsWhole) (arg11 : Memref sig .tc .vmem S4x1032x256 .f32) (harg11 : arg11.IsWhole)
  (arg12 : Memref sig .tc .vmem S1024x1024 .f32) (harg12 : arg12.IsWhole)
  (x0 : Vec F S1x1024x1024 .f32) (x1 : Vec F S1x1x1024 .f32) (x2 : Vec F S1x1024x5632 .bf16) (x3 : Vec F S1x8x5632 .f32)
  (x4 : Vec F S1x2816x1024 .bf16) (x5 : Vec F S1x1x1024 .f32)
  (xs1 : Vec F S22x8x256 .f32)

/-- At a later tile of a batch entry the first 5 chunks of the hidden block are the model's, the carried rows being those found. -/
theorem hidB_5 :
    kernelRun0_B.sl.HS0_5 c arg2 harg2 arg3 harg3 arg4 harg4 arg5 harg5 arg10 harg10 arg11 x0 x1 x2 x3 xs1
      = hidPieces (k0_pay4 x0 x1) x2 x3 (rowT xs1) 5 := by
  sl_unfold_run_names
  have hz3 : (![0, 0, 0] : Fin 3 → ℕ) = fun _ => 0 := by funext a; fin_cases a <;> rfl
  simp only [View.readAt_eq_ld, Memref.IsWhole.read_unread, ld_colW, ld_colC, ld_rowT, View.ld_unit_zero (S := S1x1024x1024) hz3,
    View.ld_unit_zero (S := S1x1x1024) hz3]
  simp only [readCov_shiftRows, Nat.reduceLeDiff]
  unfold_payloads
  simp only [hidPieces, hidOf, actOf, convOf, zOf, tap, shapeCast_self, Nat.reduceMul, Nat.reduceAdd, Nat.reduceLT, dite_true, dif_pos]

/-- At a later tile of a batch entry the first 10 chunks of the hidden block are the model's, the carried rows being those found. -/
theorem hidB_10 :
    kernelRun0_B.sl.HS0_10 c arg2 harg2 arg3 harg3 arg4 harg4 arg5 harg5 arg10 harg10 arg11 x0 x1 x2 x3 xs1
      = hidPieces (k0_pay4 x0 x1) x2 x3 (rowT xs1) 10 := by
  sl_unfold_run_names
  have hz3 : (![0, 0, 0] : Fin 3 → ℕ) = fun _ => 0 := by funext a; fin_cases a <;> rfl
  simp only [View.readAt_eq_ld, Memref.IsWhole.read_unread, ld_colW, ld_colC, ld_rowT, View.ld_unit_zero (S := S1x1024x1024) hz3,
    View.ld_unit_zero (S := S1x1x1024) hz3]
  simp only [readCov_shiftRows, Nat.reduceLeDiff]
  unfold_payloads
  simp only [hidPieces, hidOf, actOf, convOf, zOf, tap, shapeCast_self, Nat.reduceMul, Nat.reduceAdd, Nat.reduceLT, dite_true, dif_pos]

/-- At a later tile of a batch entry the first 11 chunks of the hidden block are the model's, the carried rows being those found. -/
theorem hidB_11 :
    kernelRun0_B.sl.HS0_11 c arg2 harg2 arg3 harg3 arg4 harg4 arg5 harg5 arg10 harg10 arg11 x0 x1 x2 x3 xs1
      = hidPieces (k0_pay4 x0 x1) x2 x3 (rowT xs1) 11 := by
  sl_unfold_run_names
  have hz3 : (![0, 0, 0] : Fin 3 → ℕ) = fun _ => 0 := by funext a; fin_cases a <;> rfl
  simp only [View.readAt_eq_ld, Memref.IsWhole.read_unread, ld_colW, ld_colC, ld_rowT, View.ld_unit_zero (S := S1x1024x1024) hz3,
    View.ld_unit_zero (S := S1x1x1024) hz3]
  simp only [readCov_shiftRows, Nat.reduceLeDiff]
  unfold_payloads
  simp only [hidPieces, hidOf, actOf, convOf, zOf, tap, shapeCast_self, Nat.reduceMul, Nat.reduceAdd, Nat.reduceLT, dite_true, dif_pos]

/-- What the body leaves in the output block at a later tile of a batch entry. -/
theorem out_B (i : grid0.Coords) (hc0 : ¬ cond0_0 i) :
    out0_B_6 c i arg2 harg2 arg3 harg3 arg4 harg4 arg5 harg5 arg6 harg6 arg7 harg7 arg8 harg8 arg9 harg9 arg10 harg10 arg11 harg11 arg12 harg12 hc0 x0 x1 x2 x3 x4 x5 xs1 = outOf x0 x4 x5 (hidAll (k0_pay4 x0 x1) x2 x3 (rowT xs1)) := by
  have hz3 : (![0, 0, 0] : Fin 3 → ℕ) = fun _ => 0 := by funext a; fin_cases a <;> rfl
  have hz2 : (![0, 0] : Fin 2 → ℕ) = fun _ => 0 := by funext a; fin_cases a <;> rfl
  unfold out0_B_6
  rw [View.read_writes_junk_eq_canon]
  unfold kernelRun0_B
  dsimp only
  rw [View.canon_unit_zero (S := S1x1024x1024) hz3]
  unfold kernelRun0_B.sl.r_79
  unfold kernelRun0_B.sl.v1059 kernelRun0_B.sl.v1063 kernelRun0_B.sl.HS3_2 kernelRun0_B.sl.v963 kernelRun0_B.sl.v967
    kernelRun0_B.sl.HS3_1 kernelRun0_B.sl.v491 kernelRun0_B.sl.r
  rw [hidB_5, hidB_10, hidB_11]
  simp only [View.readAt_eq_ld, Memref.IsWhole.read_unread, View.ld_unit_zero (S := S1x1024x1024) hz3,
    View.ld_unit_zero (S := S1x1x1024) hz3, View.readCov_cons_toLoadRect, ld_rowW, readCov_hidPieces, Nat.reduceLeDiff,
    Nat.reduceAdd, Nat.reduceMul]
  rfl

/-- What the body leaves in the carried rows at a later tile of a batch entry. -/
theorem tails_B (i : grid0.Coords) (hc0 : ¬ cond0_0 i) :
    sout0_B_1 c i arg2 harg2 arg3 harg3 arg4 harg4 arg5 harg5 arg6 harg6 arg7 harg7 arg8 harg8 arg9 harg9 arg10 harg10 arg11 harg11 arg12 harg12 hc0 x0 x1 x2 x3 x4 x5 xs1 = tailsOf (k0_pay4 x0 x1) x2 := by
  have hz3 : (![0, 0, 0] : Fin 3 → ℕ) = fun _ => 0 := by funext a; fin_cases a <;> rfl
  unfold sout0_B_1
  rw [View.read_writes_junk_eq_canon]
  funext y
  refine Eq.trans (congrFun (congrArg View.canon ?_) y) (canon_tailPieces (k0_pay4 x0 x1) x2
    [] 22 (by decide) y (y 0).isLt)
  unfold kernelRun0_B
  dsimp only
  sl_unfold_run_names
  simp only [View.readAt_eq_ld, Memref.IsWhole.read_unread, ld_colW, View.ld_unit_zero (S := S1x1024x1024) hz3,
    View.ld_unit_zero (S := S1x1x1024) hz3]
  unfold_payloads
  simp only [tailPieces, tailOf, zOf, shapeCast_self, Nat.reduceMul, Nat.reduceAdd, Nat.reduceDiv, Nat.reduceMod, Nat.reduceLT, dite_true,
    dif_pos]

end Cert.Kernel2Ideal.Ffn

end
-- ==== Proof.FfnIdeal.lean ====
/- The final feed-forward kernel's model at an index, in exact arithmetic. -/
module

public import proofs.«01_k».proof.Proof.FfnModel
public import proofs.«01_k».proof.Proof.FfnSpec
public import Idealize.ShloMosaic.Lib.Pointwise

@[expose] public section

noncomputable section

namespace Cert.Kernel2Ideal.Ffn

open Cert.Kernel2Ideal Cert.Kernel2Ideal.Gen Cert.FfnSpec
open Idealize.ShloMosaic Idealize.ShloMosaic.TcCoe Idealize.ShloMosaic.Tactic

/-- The normalised input rows of a tile. -/
theorem pay4_apply (x0 : Vec Ideal S1x1024x1024 .f32) (x1 : Vec Ideal S1x1x1024 .f32) (r k : Fin 1024) :
    k0_pay4 (F := Ideal) x0 x1 (ix2 r k) = rms (fun d => x0 (ix3 (0 : Fin 1) r d)) (fun d => x1 (ix3 (0 : Fin 1) (0 : Fin 1) d)) k := by
  unfold_payloads
  pointwise
  rfl

theorem zOf_apply (h : FVec Ideal S1024x1024 .bf16) (x2 : Vec Ideal S1x1024x5632 .bf16) (off : ℕ) (r : Fin 1024) (j : Fin 256) :
    zOf (F := Ideal) h x2 off (ix2 r j)
      = ∑ k : Fin 1024, h (ix2 r k) * x2 (ix3 (0 : Fin 1) k (⟨(off + j.val) % 5632, Nat.mod_lt _ (by decide)⟩ : Fin 5632)) := by
  pointwise [zOf, colW]

theorem tail_cast (t : FVec Ideal S1x8x256 .f32) :
    shapeCast S8x256 t shapeCasts_S1x8x256_S8x256 = fun i => t (ix3 (0 : Fin 1) (i 0 : Fin 8) (i 1 : Fin 256)) := by
  funext i
  pointwise

/-- The convolution of a chunk at an index, over the chunk with the carried rows above it. -/
theorem convOf_apply (z : FVec Ideal S1024x256 .f32) (t c : FVec Ideal S1x8x256 .f32) (r : Fin 1024) (j : Fin 256) :
    convOf (F := Ideal) z t c (ix2 r j)
      = c (ix3 (0 : Fin 1) (2 : Fin 8) j) * z (ix2 r j)
        + c (ix3 (0 : Fin 1) (1 : Fin 8) j) * shiftRows 7 (fun i => t (ix3 (0 : Fin 1) (i 0 : Fin 8) (i 1 : Fin 256))) z (ix2 r j)
        + c (ix3 (0 : Fin 1) (0 : Fin 8) j) * shiftRows 6 (fun i => t (ix3 (0 : Fin 1) (i 0 : Fin 8) (i 1 : Fin 256))) z (ix2 r j)
        + c (ix3 (0 : Fin 1) (3 : Fin 8) j) := by
  pointwise [convOf, tap]
  rw [tail_cast]

/-- The gated chunk at an index. -/
theorem actOf_apply (g u : FVec Ideal S1024x256 .f32) (i : S1024x256.Idx) :
    actOf (F := Ideal) g u i = Ideal.div (g i) (1 + Ideal.exp (0 - g i)) * u i := by
  pointwise [actOf]

/-- The kept last rows at an index. -/
theorem tailOf_apply (z : FVec Ideal S1024x256 .f32) (r : Fin 8) (j : Fin 256) :
    tailOf (F := Ideal) z (ix3 (0 : Fin 1) r j) = z (ix2 (⟨1016 + r.val, by omega⟩ : Fin 1024) j) := by
  pointwise [tailOf]

/-- The carried rows are zero on a batch's first tile. -/
theorem pay2_apply (i : S22x8x256.Idx) : k0_pay2 (F := Ideal) i = (0 : EReal) := by
  unfold_payloads
  pointwise

/-- The input plus the second product, before the final normalisation. -/
def sumOf (x0 : S1x1024x1024.Idx → EReal) (x4 : S1x2816x1024.Idx → EReal) (g : S1024x2816.Idx → EReal) (r n : Fin 1024) : EReal :=
  x0 (ix3 (0 : Fin 1) r n)
    + ((∑ x : Fin 256, colH (F := Ideal) g 2560 256 (ix2 r x) * rowW (F := Ideal) x4 2560 256 (ix3 (0 : Fin 1) x n))
      + ((∑ x : Fin 1280, colH (F := Ideal) g 0 1280 (ix2 r x) * rowW (F := Ideal) x4 0 1280 (ix3 (0 : Fin 1) x n))
        + ∑ x : Fin 1280, colH (F := Ideal) g 1280 1280 (ix2 r x) * rowW (F := Ideal) x4 1280 1280 (ix3 (0 : Fin 1) x n)))

theorem outOf_apply (x0 : Vec Ideal S1x1024x1024 .f32) (x4 : Vec Ideal S1x2816x1024 .bf16) (x5 : Vec Ideal S1x1x1024 .f32)
    (g : S1024x2816.Idx → Ideal .bf16) (r n : Fin 1024) :
    outOf (F := Ideal) x0 x4 x5 g (ix3 (0 : Fin 1) r n)
      = rms (fun d => sumOf x0 x4 g r d) (fun d => x5 (ix3 (0 : Fin 1) (0 : Fin 1) d)) n := by
  unfold outOf
  unfold_payloads
  pointwise
  rfl

end Cert.Kernel2Ideal.Ffn

end
-- ==== Proof.FfnTile.lean ====
/- One tile of the final feed-forward kernel against the plain sums of FfnSpec: if the tile's blocks hold the rows
   `1024·q …` of the input and the padded weights, and the carried rows hold the first product's rows before the tile, the
   tile's result is the plain result at those rows. -/
module

public import proofs.«01_k».proof.Proof.FfnIdeal

@[expose] public section

noncomputable section

namespace Cert.Kernel2Ideal.Ffn

open Cert.Kernel2Ideal Cert.Kernel2Ideal.Gen Cert.FfnSpec
open Idealize.ShloMosaic Idealize.ShloMosaic.TcCoe Idealize.ShloMosaic.Tactic

variable (x : Fin 8192 → Fin 1024 → EReal) (nw : Fin 1024 → EReal) (U : Fin 1024 → Fin 5504 → EReal)
  (C : Fin 3 → Fin 5504 → EReal) (B : Fin 5504 → EReal) (D : Fin 2752 → Fin 1024 → EReal) (fw : Fin 1024 → EReal)

/-- A padded column and the given column it holds. -/
def Col (n n' : ℕ) : Prop := (n < 2752 ∧ n' = n) ∨ (2816 ≤ n ∧ n' = n - 64)

/-- Row `r` of tile `q`. -/
def row (q : Fin 8) (r : Fin 1024) : Fin 8192 := ⟨1024 * q.val + r.val, by omega⟩

/-- A carried row and the tile's own rows, as one sequence: `d` rows above row `r`. -/
theorem shiftRows_lin (q : Fin 8) (d : ℕ) (hd : d ≤ 2) (n' : Fin 5504) (j : Fin 256)
    (z : S1024x256.Idx → EReal) (t : S8x256.Idx → EReal)
    (hz : ∀ r : Fin 1024, z (ix2 r j) = lin x nw U (row q r) n')
    (ht : ∀ r : Fin 8, t (ix2 r j) = if h : q.val = 0 then 0 else lin x nw U ⟨1024 * q.val - 8 + r.val, by omega⟩ n')
    (r : Fin 1024) : shiftRows (8 - d) t z (ix2 r j) = linBack x nw U d (row q r) n' := by
  unfold linBack
  show (if 8 - d + r.val < 8 then t (ix2 (⟨(8 - d + r.val) % 8, Nat.mod_lt _ (by decide)⟩ : Fin 8) j)
    else z (ix2 (⟨(8 - d + r.val - 8) % 1024, Nat.mod_lt _ (by decide)⟩ : Fin 1024) j))
    = if d ≤ 1024 * q.val + r.val then _ else _
  have hq := q.isLt
  have hr := r.isLt
  by_cases h : 8 - d + r.val < 8
  · rw [if_pos h, ht]
    by_cases h0 : q.val = 0
    · rw [dif_pos h0, if_neg (show ¬ d ≤ 1024 * q.val + r.val by omega)]
    · rw [dif_neg h0, if_pos (show d ≤ 1024 * q.val + r.val by omega)]
      refine congrArg (lin x nw U · n') (Fin.ext ?_)
      show 1024 * q.val - 8 + (8 - d + r.val) % 8 = 1024 * q.val + r.val - d
      rw [Nat.mod_eq_of_lt h]
      omega
  · rw [if_neg h, hz, if_pos (show d ≤ 1024 * q.val + r.val by omega)]
    refine congrArg (lin x nw U · n') (Fin.ext ?_)
    show 1024 * q.val + (8 - d + r.val - 8) % 1024 = 1024 * q.val + r.val - d
    rw [Nat.mod_eq_of_lt (by omega)]
    omega

/-- The convolution of a chunk is the plain one. -/
theorem conv_tile (q : Fin 8) (n' : Fin 5504) (j : Fin 256) (z : FVec Ideal S1024x256 .f32) (t c : FVec Ideal S1x8x256 .f32)
    (hz : ∀ r : Fin 1024, z (ix2 r j) = lin x nw U (row q r) n')
    (ht : ∀ r : Fin 8, t (ix3 (0 : Fin 1) r j) = if h : q.val = 0 then 0 else lin x nw U ⟨1024 * q.val - 8 + r.val, by omega⟩ n')
    (hc : ∀ k : Fin 3, c (ix3 (0 : Fin 1) (⟨k.val, by omega⟩ : Fin 8) j) = C k n')
    (hb : c (ix3 (0 : Fin 1) (3 : Fin 8) j) = B n') (r : Fin 1024) :
    convOf (F := Ideal) z t c (ix2 r j) = conv x nw U C B (row q r) n' := by
  have h2 : c (ix3 (0 : Fin 1) (2 : Fin 8) j) = C 2 n' := hc 2
  have h1 : c (ix3 (0 : Fin 1) (1 : Fin 8) j) = C 1 n' := hc 1
  have h0 : c (ix3 (0 : Fin 1) (0 : Fin 8) j) = C 0 n' := hc 0
  rw [convOf_apply, hz, h0, h1, h2, hb,
    shiftRows_lin x nw U q 1 (by omega) n' j z _ hz (fun r => ht r) r,
    shiftRows_lin x nw U q 2 (by omega) n' j z _ hz (fun r => ht r) r]
  rfl

variable (q : Fin 8) (x0 : Vec Ideal S1x1024x1024 .f32) (x1 : Vec Ideal S1x1x1024 .f32) (x2 : Vec Ideal S1x1024x5632 .bf16)
  (x3 : Vec Ideal S1x8x5632 .f32) (x4 : Vec Ideal S1x2816x1024 .bf16) (x5 : Vec Ideal S1x1x1024 .f32)

/-- A chunk before the convolution is the plain first product. -/
theorem zOf_tile (hx0 : ∀ r k : Fin 1024, x0 (ix3 (0 : Fin 1) r k) = x (row q r) k)
    (hx1 : ∀ k : Fin 1024, x1 (ix3 (0 : Fin 1) (0 : Fin 1) k) = nw k)
    (hx2 : ∀ (k : Fin 1024) (n : Fin 5632) (n' : Fin 5504), Col n.val n'.val → x2 (ix3 (0 : Fin 1) k n) = U k n')
    (off : ℕ) (j : Fin 256) (n' : Fin 5504) (hoff : off + j.val < 5632) (hn : Col (off + j.val) n'.val) (r : Fin 1024) :
    zOf (F := Ideal) (k0_pay4 x0 x1) x2 off (ix2 r j) = lin x nw U (row q r) n' := by
  rw [zOf_apply]
  unfold lin
  refine Finset.sum_congr rfl fun k _ => ?_
  rw [pay4_apply, hx2 k _ n' (by show Col ((off + j.val) % 5632) n'.val; rw [Nat.mod_eq_of_lt hoff]; exact hn)]
  simp only [hx0, hx1]

/-- The carried rows a tile leaves are the plain first product's last eight rows of the tile. -/
theorem tails_tile (hx0 : ∀ r k : Fin 1024, x0 (ix3 (0 : Fin 1) r k) = x (row q r) k)
    (hx1 : ∀ k : Fin 1024, x1 (ix3 (0 : Fin 1) (0 : Fin 1) k) = nw k)
    (hx2 : ∀ (k : Fin 1024) (n : Fin 5632) (n' : Fin 5504), Col n.val n'.val → x2 (ix3 (0 : Fin 1) k n) = U k n')
    (k : ℕ) (hk : k < 22) (j : Fin 256) (n' : Fin 5504) (hn : Col (k % 2 * 2816 + 256 * (k / 2) + j.val) n'.val) (r : Fin 8) :
    rowT (tailsOf (F := Ideal) (k0_pay4 x0 x1) x2) k (ix3 (0 : Fin 1) r j)
      = lin x nw U ⟨1024 * q.val + 1016 + r.val, by omega⟩ n' := by
  show tailOf (zOf (k0_pay4 x0 x1) x2 (k % 22 % 2 * 2816 + 256 * (k % 22 / 2))) (ix3 (0 : Fin 1) r j) = _
  rw [Nat.mod_eq_of_lt hk, tailOf_apply,
    zOf_tile x nw U q x0 x1 x2 hx0 hx1 hx2 _ j n' (by omega) hn]
  exact congrArg (lin x nw U · n') (Fin.ext (show 1024 * q.val + (1016 + r.val) = 1024 * q.val + 1016 + r.val by omega))

/-- The gated hidden block is the plain one on the columns that are not padding. -/
theorem hidAll_tile (hx0 : ∀ r k : Fin 1024, x0 (ix3 (0 : Fin 1) r k) = x (row q r) k)
    (hx1 : ∀ k : Fin 1024, x1 (ix3 (0 : Fin 1) (0 : Fin 1) k) = nw k)
    (hx2 : ∀ (k : Fin 1024) (n : Fin 5632) (n' : Fin 5504), Col n.val n'.val → x2 (ix3 (0 : Fin 1) k n) = U k n')
    (hx3 : ∀ (k : Fin 3) (n : Fin 5632) (n' : Fin 5504), Col n.val n'.val → x3 (ix3 (0 : Fin 1) (⟨k.val, by omega⟩ : Fin 8) n) = C k n')
    (hx3b : ∀ (n : Fin 5632) (n' : Fin 5504), Col n.val n'.val → x3 (ix3 (0 : Fin 1) (3 : Fin 8) n) = B n')
    (T : ℕ → FVec Ideal S1x8x256 .f32)
    (hT : ∀ k : ℕ, k < 22 → ∀ (j : Fin 256) (n' : Fin 5504), Col (k % 2 * 2816 + 256 * (k / 2) + j.val) n'.val → ∀ r : Fin 8,
      T k (ix3 (0 : Fin 1) r j) = if h : q.val = 0 then 0 else lin x nw U ⟨1024 * q.val - 8 + r.val, by omega⟩ n')
    (r : Fin 1024) (i : Fin 2816) (hi : i.val < 2752) :
    hidAll (F := Ideal) (k0_pay4 x0 x1) x2 x3 T (ix2 r i) = hid x nw U C B (row q r) ⟨i.val, hi⟩ := by
  have hj : i.val % 256 < 256 := Nat.mod_lt _ (by decide)
  have hd := Nat.div_add_mod i.val 256
  show hidOf (k0_pay4 x0 x1) x2 x3 T (i.val / 256) (ix2 r (⟨i.val % 256, hj⟩ : Fin 256)) = _
  unfold hidOf hid
  rw [actOf_apply]
  have cg : Col (256 * (i.val / 256) + i.val % 256) i.val := Or.inl ⟨by omega, by omega⟩
  have cu : Col (2816 + 256 * (i.val / 256) + i.val % 256) (2752 + i.val) := Or.inr ⟨by omega, by omega⟩
  have col : ∀ (off : ℕ) (n' : Fin 5504), off + i.val % 256 < 5632 → Col (off + i.val % 256) n'.val →
      Col (⟨(off + i.val % 256) % 5632, Nat.mod_lt _ (by decide)⟩ : Fin 5632).val n'.val := fun off n' h hn => by
    show Col ((off + i.val % 256) % 5632) n'.val
    rw [Nat.mod_eq_of_lt h]; exact hn
  have lg : 256 * (i.val / 256) + i.val % 256 < 5632 := by omega
  have lu : 2816 + 256 * (i.val / 256) + i.val % 256 < 5632 := by omega
  rw [conv_tile x nw U C B q ⟨i.val, by omega⟩ ⟨i.val % 256, hj⟩ (zOf (k0_pay4 x0 x1) x2 (256 * (i.val / 256))) (T (2 * (i.val / 256)))
      (colC x3 (256 * (i.val / 256)))
      (fun r => zOf_tile x nw U q x0 x1 x2 hx0 hx1 hx2 _ _ ⟨i.val, by omega⟩ lg cg r)
      (fun r => hT _ (by omega) _ ⟨i.val, by omega⟩ (by
        show Col (2 * (i.val / 256) % 2 * 2816 + 256 * (2 * (i.val / 256) / 2) + i.val % 256) i.val
        rw [show 2 * (i.val / 256) % 2 * 2816 + 256 * (2 * (i.val / 256) / 2) + i.val % 256 = 256 * (i.val / 256) + i.val % 256 by omega]
        exact cg) r)
      (fun k => hx3 k _ ⟨i.val, by omega⟩ (col _ ⟨i.val, by omega⟩ lg cg)) (hx3b _ ⟨i.val, by omega⟩ (col _ ⟨i.val, by omega⟩ lg cg)) r,
    conv_tile x nw U C B q ⟨2752 + i.val, by omega⟩ ⟨i.val % 256, hj⟩ (zOf (k0_pay4 x0 x1) x2 (2816 + 256 * (i.val / 256)))
      (T (2 * (i.val / 256) + 1)) (colC x3 (2816 + 256 * (i.val / 256)))
      (fun r => zOf_tile x nw U q x0 x1 x2 hx0 hx1 hx2 _ _ ⟨2752 + i.val, by omega⟩ lu cu r)
      (fun r => hT _ (by omega) _ ⟨2752 + i.val, by omega⟩ (by
        show Col ((2 * (i.val / 256) + 1) % 2 * 2816 + 256 * ((2 * (i.val / 256) + 1) / 2) + i.val % 256) (2752 + i.val)
        rw [show (2 * (i.val / 256) + 1) % 2 * 2816 + 256 * ((2 * (i.val / 256) + 1) / 2) + i.val % 256
          = 2816 + 256 * (i.val / 256) + i.val % 256 by omega]
        exact cu) r)
      (fun k => hx3 k _ ⟨2752 + i.val, by omega⟩ (col _ ⟨2752 + i.val, by omega⟩ lu cu))
      (hx3b _ ⟨2752 + i.val, by omega⟩ (col _ ⟨2752 + i.val, by omega⟩ lu cu)) r]
  rfl

/-- The three parts of the second product are the plain one: the padded columns meet zero rows. -/
theorem sum_parts (f : ℕ → EReal) (g : Fin 2752 → EReal) (hg : ∀ i : Fin 2752, f i.val = g i) (h0 : ∀ i, 2752 ≤ i → i < 2816 → f i = 0) :
    ((∑ k : Fin 256, f (2560 + k.val)) + ((∑ k : Fin 1280, f k.val) + ∑ k : Fin 1280, f (1280 + k.val))) = ∑ i : Fin 2752, g i := by
  rw [Fin.sum_univ_eq_sum_range (fun k => f (2560 + k)) 256, Fin.sum_univ_eq_sum_range f 1280,
    Fin.sum_univ_eq_sum_range (fun k => f (1280 + k)) 1280, ← Finset.sum_range_add f 1280 1280, add_comm,
    ← Finset.sum_range_add f (1280 + 1280) 256]
  have e : Finset.range (1280 + 1280 + 256) = Finset.range (2752 + 64) := congrArg Finset.range (by norm_num)
  rw [e, Finset.sum_range_add f 2752 64, Finset.sum_eq_zero (s := Finset.range 64) (fun k hk => h0 _ (by omega) (by
    have := Finset.mem_range.mp hk; omega)), add_zero, ← Fin.sum_univ_eq_sum_range f 2752]
  exact Finset.sum_congr rfl fun i _ => hg i

/-- The tile's result is the plain result at the tile's rows. -/
theorem out_tile (hx0 : ∀ r k : Fin 1024, x0 (ix3 (0 : Fin 1) r k) = x (row q r) k)
    (hx4 : ∀ (i : Fin 2816) (n : Fin 1024), x4 (ix3 (0 : Fin 1) i n) = if h : i.val < 2752 then D ⟨i.val, h⟩ n else 0)
    (hx5 : ∀ k : Fin 1024, x5 (ix3 (0 : Fin 1) (0 : Fin 1) k) = fw k)
    (g : S1024x2816.Idx → Ideal .bf16)
    (hg : ∀ (r : Fin 1024) (i : Fin 2816) (hi : i.val < 2752), g (ix2 r i) = hid x nw U C B (row q r) ⟨i.val, hi⟩)
    (r n : Fin 1024) : outOf (F := Ideal) x0 x4 x5 g (ix3 (0 : Fin 1) r n) = out x nw U C B D fw (row q r) n := by
  rw [outOf_apply]
  unfold out
  have hs : (fun d => sumOf x0 x4 g r d) = res x nw U C B D (row q r) := by
    funext d
    unfold sumOf res
    rw [hx0]
    refine congrArg _ ?_
    refine sum_parts (fun k => g (ix2 r (⟨k % 2816, Nat.mod_lt _ (by decide)⟩ : Fin 2816))
      * x4 (ix3 (0 : Fin 1) (⟨k % 2816, Nat.mod_lt _ (by decide)⟩ : Fin 2816) d)) _ (fun i => ?_) (fun i h h' => ?_)
    · have hi : i.val % 2816 = i.val := Nat.mod_eq_of_lt (by omega)
      have hi' : i.val % 2816 < 2752 := by omega
      rw [hx4, dif_pos hi', hg r _ hi']
      refine congrArg₂ (· * ·) (congrArg _ (Fin.ext hi)) (congrArg (D · d) (Fin.ext hi))
    · have hi : ¬ i % 2816 < 2752 := by rw [Nat.mod_eq_of_lt h']; omega
      rw [hx4, dif_neg hi, mul_zero]
  rw [hs]
  simp only [hx5]

end Cert.Kernel2Ideal.Ffn

end
-- ==== Proof.FfnHost.lean ====
/- The operands the final feed-forward kernel is launched on, in exact arithmetic: each weight padded from 2752 to 2816 hidden
   columns with zeros, gate columns before up columns, and the convolution's weights and bias as rows of one array. -/
module

public import proofs.«01_k».proof.Proof.Gen.Kernel2Ideal.Value
public import Idealize.ShloMosaic.Lib.Pointwise
public import Idealize.ShloMosaic.Lib.StableHlo.RunRead

@[expose] public section

noncomputable section

namespace Cert.Kernel2Ideal.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ)

/-- The array after the attention, as given. -/
abbrev argX (c : Dev nD) : S4x8192x1024.Idx → EReal := m ((c : Thread nD τ).loc main_arg0)
/-- The two layers' input norm weights. -/
abbrev argN (c : Dev nD) : S2x1024.Idx → EReal := m ((c : Thread nD τ).loc main_arg1)
/-- The first weights. -/
abbrev argU (c : Dev nD) : S2x1024x5504.Idx → EReal := m ((c : Thread nD τ).loc main_arg2)
/-- The convolution weights. -/
abbrev argC (c : Dev nD) : S2x3x5504.Idx → EReal := m ((c : Thread nD τ).loc main_arg3)
/-- The convolution biases. -/
abbrev argB (c : Dev nD) : S2x5504.Idx → EReal := m ((c : Thread nD τ).loc main_arg4)
/-- The second weights. -/
abbrev argD (c : Dev nD) : S2x2752x1024.Idx → EReal := m ((c : Thread nD τ).loc main_arg5)
/-- The final norm weight. -/
abbrev argF (c : Dev nD) : S1024.Idx → EReal := m ((c : Thread nD τ).loc main_arg6)

/-- The kernel's input norm weights. -/
abbrev opN (c : Dev nD) : S2x1x1024.Idx → EReal := V m c main_v16
/-- The kernel's final norm weight. -/
abbrev opF (c : Dev nD) : S1x1x1024.Idx → EReal := V m c main_v17
/-- The kernel's second weights. -/
abbrev opD (c : Dev nD) : S2x2816x1024.Idx → EReal := V m c main_v15
/-- The kernel's first weights. -/
abbrev opU (c : Dev nD) : S2x1024x5632.Idx → EReal := V m c main_v5
/-- The kernel's convolution weights. -/
abbrev opC (c : Dev nD) : S2x8x5632.Idx → EReal := V m c main_v13

/-- The zero the padding writes. -/
abbrev padZ : S_.Idx → EReal := sitofp (F := Ideal) .f32 (constantI S_ 32 0#32)

/-- The convolution's weights, its bias and four zero rows, stacked. -/
abbrev convRows (w : S2x3x5504.Idx → EReal) (b : S2x5504.Idx → EReal) : S2x8x5504.Idx → EReal :=
  concatenate S2x8x5504 1 [⟨S2x3x5504, w⟩, ⟨S2x1x5504, broadcastInDim S2x1x5504 ![0, 2] bcast_S2x5504_S2x1x5504_0_2 b⟩,
    ⟨S2x4x5504, broadcastInDim S2x4x5504 ![] bcast_S_S2x4x5504 (constant (F := Ideal) S_ .f32 0x00000000#32)⟩]
    concatenates_S2x3x5504_S2x1x5504_S2x4x5504_S2x8x5504_d1

/-- The convolution rows with each half padded. -/
abbrev padRows (x : S2x8x5504.Idx → EReal) : S2x8x5632.Idx → EReal :=
  concatenate S2x8x5632 2
    [⟨S2x8x2816, pad S2x8x2816 ![0, 0, 0] ![0, 0, 64] ![0, 0, 0]
      (extractStridedSlice S2x8x2752 ![0, 0, 0] x slices_S2x8x5504_S2x8x2752_0_0_0) padZ pads_S2x8x2752_S2x8x2816_000_000_0640 h_S_⟩,
     ⟨S2x8x2816, pad S2x8x2816 ![0, 0, 0] ![0, 0, 64] ![0, 0, 0]
      (extractStridedSlice S2x8x2752 ![0, 0, 2752] x slices_S2x8x5504_S2x8x2752_0_0_2752) padZ pads_S2x8x2752_S2x8x2816_000_000_0640 h_S_⟩]
    concatenates_S2x8x2816_S2x8x2816_S2x8x5632_d2

/-- The first weight with each half padded. -/
abbrev padU (x : S2x1024x5504.Idx → EReal) : S2x1024x5632.Idx → EReal :=
  concatenate S2x1024x5632 2
    [⟨S2x1024x2816, pad S2x1024x2816 ![0, 0, 0] ![0, 0, 64] ![0, 0, 0]
      (extractStridedSlice S2x1024x2752 ![0, 0, 0] x slices_S2x1024x5504_S2x1024x2752_0_0_0) padZ pads_S2x1024x2752_S2x1024x2816_000_000_0640 h_S_⟩,
     ⟨S2x1024x2816, pad S2x1024x2816 ![0, 0, 0] ![0, 0, 64] ![0, 0, 0]
      (extractStridedSlice S2x1024x2752 ![0, 0, 2752] x slices_S2x1024x5504_S2x1024x2752_0_0_2752) padZ pads_S2x1024x2752_S2x1024x2816_000_000_0640 h_S_⟩]
    concatenates_S2x1024x2816_S2x1024x2816_S2x1024x5632_d2

theorem opN_eq (c : Dev nD) : opN m c = shapeCast S2x1x1024 (argN m c) shapeCasts_S2x1024_S2x1x1024 := by
  unfold_abbrev_sides
  after_reads_simp
  rfl

theorem opF_eq (c : Dev nD) : opF m c = shapeCast S1x1x1024 (argF m c) shapeCasts_S1024_S1x1x1024 := by
  unfold_abbrev_sides
  after_reads_simp
  rfl

theorem opD_eq (c : Dev nD) : opD m c = pad S2x2816x1024 ![0, 0, 0] ![0, 64, 0] ![0, 0, 0] (argD m c) padZ
    pads_S2x2752x1024_S2x2816x1024_000_0640_000 h_S_ := by
  unfold_abbrev_sides
  after_reads_simp
  rfl

theorem opU_eq (c : Dev nD) : opU m c = padU (argU m c) := by
  unfold_abbrev_sides
  after_reads_simp
  rfl

theorem opC_eq (c : Dev nD) : opC m c = padRows (convRows (argC m c) (argB m c)) := by
  unfold_abbrev_sides
  after_reads_simp
  rfl

theorem opN_apply (c : Dev nD) (l : Fin 2) (k : Fin 1024) : opN m c (ix3 l (0 : Fin 1) k) = argN m c (ix2 l k) := by
  rw [opN_eq]
  pointwise

theorem opF_apply (c : Dev nD) (k : Fin 1024) : opF m c (ix3 (0 : Fin 1) (0 : Fin 1) k) = argF m c (ix1 k) := by
  rw [opF_eq]
  pointwise

/-- The padding value is zero. -/
theorem pad_zero : (FloatOps.sitofp (F := Ideal) .f32 (0#32) : EReal) = 0 := by
  show (((0#32 : BitVec 32).toInt : ℝ) : EReal) = 0
  simp

/-- A row of the second weight: the given one below 2752, zeros from there. -/
theorem opD_apply (c : Dev nD) (l : Fin 2) (k : Fin 2816) (n : Fin 1024) :
    opD m c (ix3 l k n) = if h : k.val < 2752 then argD m c (ix3 l (⟨k.val, h⟩ : Fin 2752) n) else 0 := by
  rw [opD_eq]
  pointwise
  rw [pad_zero]

/-- A column of the first weight: a gate column is the given one, an up column the given one 64 places before. -/
theorem opU_apply (c : Dev nD) (l : Fin 2) (k : Fin 1024) (n : Fin 5632) (n' : Fin 5504)
    (h : (n.val < 2752 ∧ n'.val = n.val) ∨ (2816 ≤ n.val ∧ n'.val = n.val - 64)) :
    opU m c (ix3 l k n) = argU m c (ix3 l k n') := by
  rw [opU_eq]
  pointwise
  have hn := n'.isLt
  refine h.elim (fun he => ?_) (fun he => ?_) <;> have h := he.1 <;> have e := he.2
  · rw [dif_pos (by omega), dif_pos h]
    exact congrArg (argU m c) (congrArg (ix3 l k) (Fin.ext e.symm))
  · rw [dif_neg (by omega), dif_pos (by omega)]
    exact congrArg (argU m c) (congrArg (ix3 l k) (Fin.ext (show 2752 + (n.val - 2816) = n'.val by omega)))

/-- A weight of the convolution at such a column. -/
theorem opC_tap (c : Dev nD) (l : Fin 2) (k : Fin 8) (k' : Fin 3) (hk : k.val = k'.val) (n : Fin 5632) (n' : Fin 5504)
    (h : (n.val < 2752 ∧ n'.val = n.val) ∨ (2816 ≤ n.val ∧ n'.val = n.val - 64)) :
    opC m c (ix3 l k n) = argC m c (ix3 l k' n') := by
  rw [opC_eq]
  pointwise
  have hn := n'.isLt
  have hk' := k'.isLt
  refine h.elim (fun he => ?_) (fun he => ?_) <;> have h := he.1 <;> have e := he.2
  · rw [dif_pos (by omega), dif_pos h, dif_pos (by omega)]
    exact congrArg (argC m c) (congrArg₂ (ix3 l) (Fin.ext hk) (Fin.ext e.symm))
  · rw [dif_neg (by omega), dif_pos (by omega), dif_pos (by omega)]
    exact congrArg (argC m c) (congrArg₂ (ix3 l) (Fin.ext hk) (Fin.ext (show 2752 + (n.val - 2816) = n'.val by omega)))

/-- The convolution's bias at such a column. -/
theorem opC_bias (c : Dev nD) (l : Fin 2) (k : Fin 8) (hk : k.val = 3) (n : Fin 5632) (n' : Fin 5504)
    (h : (n.val < 2752 ∧ n'.val = n.val) ∨ (2816 ≤ n.val ∧ n'.val = n.val - 64)) :
    opC m c (ix3 l k n) = argB m c (ix2 l n') := by
  rw [opC_eq]
  pointwise
  have hn := n'.isLt
  refine h.elim (fun he => ?_) (fun he => ?_) <;> have h := he.1 <;> have e := he.2
  · rw [dif_pos (by omega), dif_pos h, dif_neg (by omega), dif_pos (by omega)]
    exact congrArg (argB m c) (congrArg (ix2 l) (Fin.ext e.symm))
  · rw [dif_neg (by omega), dif_pos (by omega), dif_neg (by omega), dif_pos (by omega)]
    exact congrArg (argB m c) (congrArg (ix2 l) (Fin.ext (show 2752 + (n.val - 2816) = n'.val by omega)))

end Cert.Kernel2Ideal.Ffn

end
-- ==== Proof.FfnValue.lean ====
/- The final feed-forward kernel's result array is the plain result of FfnSpec. -/
module

public import proofs.«01_k».proof.Proof.FfnRunA
public import proofs.«01_k».proof.Proof.FfnRunB
public import proofs.«01_k».proof.Proof.FfnTile
public import proofs.«01_k».proof.Proof.FfnHost

@[expose] public section

noncomputable section

namespace Cert.Kernel2Ideal.Ffn

open Cert.Kernel2Ideal Cert.Kernel2Ideal.Gen Cert.FfnSpec
open Idealize.ShloMosaic Idealize.ShloMosaic.TcCoe Idealize.ShloMosaic.Tactic

variable (m : (ℓ : Loc nD τ sig) → Buf (Elt Ideal) ℓ)

/-- The grid has 32 points. -/
theorem pt_lt (t : Fin cfg0.N) : t.val < 32 := lt_of_lt_of_eq t.isLt N_0

/-- The batch entry of a point. -/
def bat (t : Fin cfg0.N) : Fin 4 := ⟨t.val / 8, by have := pt_lt t; omega⟩

/-- The tile of a point. -/
def til (t : Fin cfg0.N) : Fin 8 := ⟨t.val % 8, Nat.mod_lt _ (by decide)⟩

/-- Where the input's block sits at a point. -/
theorem index0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- The input's block at a point: 1024 rows of a batch entry. -/
theorem iblk0 (c : Dev nD) (t : Fin cfg0.N) (r k : Fin 1024) :
    (iblk m c 0 t : S1x1024x1024.Idx → EReal) (ix3 (0 : Fin 1) r k) = argX m c (ix3 (bat t) (row (til t) r) k) := by
  obtain ⟨e0, e1, e2⟩ := index0 t
  unfold iblk
  rw [View.read_apply]
  show V m c main_arg0 _ = _
  rw [V_main_arg0]
  refine congrArg (argX m c) ?_
  funext a
  refine Fin.ext ?_
  match a with
  | ⟨0, _⟩ => show win0_0.index t (0 : Fin 3) * 1 + 0 = t.val / 8; omega
  | ⟨1, _⟩ => show win0_0.index t (1 : Fin 3) * 1024 + 1 * r.val = 1024 * (t.val % 8) + r.val; omega
  | ⟨2, _⟩ => show win0_0.index t (2 : Fin 3) * 1024 + 1 * k.val = k.val; omega

/-- The other blocks sit at the same place at every point: the second layer's entry of each weight. -/
theorem indexW : ∀ t : Fin cfg0.N, (win0_1.index t = ![1, 0, 0] ∧ win0_2.index t = ![1, 0, 0] ∧ win0_3.index t = ![1, 0, 0])
    ∧ (win0_4.index t = ![1, 0, 0] ∧ win0_5.index t = ![0, 0, 0]) :=
  (by decide +kernel : ∀ t : Fin grid0.N, _)

/-- The norm weight's block. -/
theorem iblk1 (c : Dev nD) (t : Fin cfg0.N) (k : Fin 1024) :
    (iblk m c 1 t : S1x1x1024.Idx → EReal) (ix3 (0 : Fin 1) (0 : Fin 1) k) = opN m c (ix3 (1 : Fin 2) (0 : Fin 1) k) := by
  have e := indexW t |>.1.1
  have e0 := congrFun e (0 : Fin 3)
  have e1 := congrFun e (1 : Fin 3)
  have e2 := congrFun e (2 : Fin 3)
  simp only [Matrix.cons_val] at e0 e1 e2
  unfold iblk
  rw [View.read_apply]
  refine congrArg (opN m c) ?_
  funext a
  refine Fin.ext ?_
  match a with
  | ⟨0, _⟩ => show win0_1.index t (0 : Fin 3) * 1 + 0 = 1; omega
  | ⟨1, _⟩ => show win0_1.index t (1 : Fin 3) * 1 + 0 = 0; omega
  | ⟨2, _⟩ => show win0_1.index t (2 : Fin 3) * 1024 + 1 * k.val = k.val; omega

/-- The first weight's block. -/
theorem iblk2 (c : Dev nD) (t : Fin cfg0.N) (k : Fin 1024) (n : Fin 5632) :
    (iblk m c 2 t : S1x1024x5632.Idx → EReal) (ix3 (0 : Fin 1) k n) = opU m c (ix3 (1 : Fin 2) k n) := by
  have e := indexW t |>.1.2.1
  have e0 := congrFun e (0 : Fin 3)
  have e1 := congrFun e (1 : Fin 3)
  have e2 := congrFun e (2 : Fin 3)
  simp only [Matrix.cons_val] at e0 e1 e2
  unfold iblk
  rw [View.read_apply]
  refine congrArg (opU m c) ?_
  funext a
  refine Fin.ext ?_
  match a with
  | ⟨0, _⟩ => show win0_2.index t (0 : Fin 3) * 1 + 0 = 1; omega
  | ⟨1, _⟩ => show win0_2.index t (1 : Fin 3) * 1024 + 1 * k.val = k.val; omega
  | ⟨2, _⟩ => show win0_2.index t (2 : Fin 3) * 5632 + 1 * n.val = n.val; omega

/-- The convolution weights' block. -/
theorem iblk3 (c : Dev nD) (t : Fin cfg0.N) (k : Fin 8) (n : Fin 5632) :
    (iblk m c 3 t : S1x8x5632.Idx → EReal) (ix3 (0 : Fin 1) k n) = opC m c (ix3 (1 : Fin 2) k n) := by
  have e := indexW t |>.1.2.2
  have e0 := congrFun e (0 : Fin 3)
  have e1 := congrFun e (1 : Fin 3)
  have e2 := congrFun e (2 : Fin 3)
  simp only [Matrix.cons_val] at e0 e1 e2
  unfold iblk
  rw [View.read_apply]
  refine congrArg (opC m c) ?_
  funext a
  refine Fin.ext ?_
  match a with
  | ⟨0, _⟩ => show win0_3.index t (0 : Fin 3) * 1 + 0 = 1; omega
  | ⟨1, _⟩ => show win0_3.index t (1 : Fin 3) * 8 + 1 * k.val = k.val; omega
  | ⟨2, _⟩ => show win0_3.index t (2 : Fin 3) * 5632 + 1 * n.val = n.val; omega

/-- The second weight's block. -/
theorem iblk4 (c : Dev nD) (t : Fin cfg0.N) (k : Fin 2816) (n : Fin 1024) :
    (iblk m c 4 t : S1x2816x1024.Idx → EReal) (ix3 (0 : Fin 1) k n) = opD m c (ix3 (1 : Fin 2) k n) := by
  have e := indexW t |>.2.1
  have e0 := congrFun e (0 : Fin 3)
  have e1 := congrFun e (1 : Fin 3)
  have e2 := congrFun e (2 : Fin 3)
  simp only [Matrix.cons_val] at e0 e1 e2
  unfold iblk
  rw [View.read_apply]
  refine congrArg (opD m c) ?_
  funext a
  refine Fin.ext ?_
  match a with
  | ⟨0, _⟩ => show win0_4.index t (0 : Fin 3) * 1 + 0 = 1; omega
  | ⟨1, _⟩ => show win0_4.index t (1 : Fin 3) * 2816 + 1 * k.val = k.val; omega
  | ⟨2, _⟩ => show win0_4.index t (2 : Fin 3) * 1024 + 1 * n.val = n.val; omega

/-- The final norm weight's block. -/
theorem iblk5 (c : Dev nD) (t : Fin cfg0.N) (k : Fin 1024) :
    (iblk m c 5 t : S1x1x1024.Idx → EReal) (ix3 (0 : Fin 1) (0 : Fin 1) k) = opF m c (ix3 (0 : Fin 1) (0 : Fin 1) k) := by
  have e := indexW t |>.2.2
  have e0 := congrFun e (0 : Fin 3)
  have e1 := congrFun e (1 : Fin 3)
  have e2 := congrFun e (2 : Fin 3)
  simp only [Matrix.cons_val] at e0 e1 e2
  unfold iblk
  rw [View.read_apply]
  refine congrArg (opF m c) ?_
  funext a
  refine Fin.ext ?_
  match a with
  | ⟨0, _⟩ => show win0_5.index t (0 : Fin 3) * 1 + 0 = 0; omega
  | ⟨1, _⟩ => show win0_5.index t (1 : Fin 3) * 1 + 0 = 0; omega
  | ⟨2, _⟩ => show win0_5.index t (2 : Fin 3) * 1024 + 1 * k.val = k.val; omega

/-- What the carried rows hold after a point. -/
theorem carried (c : Dev nD) (t : Fin cfg0.N) :
    (outsAt0 m c t.val t.isLt).2 = tailsOf (F := Ideal) (k0_pay4 (iblk m c 0 t) (iblk m c 1 t)) (iblk m c 2 t) := by
  by_cases h0 : t.val % 8 = 0
  · refine (congrArg Prod.snd (outsAt0_A m c t h0)).trans ?_
    dsimp only
    apply tails_A (F := Ideal)
  · refine (congrArg Prod.snd (outsAt0_B m c t h0)).trans ?_
    dsimp only
    apply tails_B (F := Ideal)

/-- What a point leaves in the output block, over the rows it finds carried. -/
theorem outs (c : Dev nD) (t : Fin cfg0.N) :
    ∃ T : ℕ → FVec Ideal S1x8x256 .f32,
      (outsAt0 m c t.val t.isLt).1 = outOf (F := Ideal) (iblk m c 0 t) (iblk m c 4 t) (iblk m c 5 t)
        (hidAll (k0_pay4 (iblk m c 0 t) (iblk m c 1 t)) (iblk m c 2 t) (iblk m c 3 t) T)
      ∧ ((t.val % 8 = 0 ∧ T = rowT k0_pay2)
        ∨ (¬ t.val % 8 = 0 ∧ ∃ t' : Fin cfg0.N, t'.val + 1 = t.val
          ∧ T = rowT (tailsOf (k0_pay4 (iblk m c 0 t') (iblk m c 1 t')) (iblk m c 2 t')))) := by
  by_cases h0 : t.val % 8 = 0
  · refine ⟨rowT k0_pay2, ?_, Or.inl ⟨h0, rfl⟩⟩
    refine (congrArg Prod.fst (outsAt0_A m c t h0)).trans ?_
    dsimp only
    apply out_A (F := Ideal)
  · have hlt : t.val - 1 < cfg0.N := Nat.lt_of_le_of_lt (Nat.sub_le _ _) t.isLt
    refine ⟨rowT (outsAt0 m c (t.val - 1) hlt).2, ?_, Or.inr ⟨h0, ⟨t.val - 1, hlt⟩, ?_, ?_⟩⟩
    · refine (congrArg Prod.fst (outsAt0_B m c t h0)).trans ?_
      dsimp only
      apply out_B (F := Ideal)
    · show t.val - 1 + 1 = t.val
      omega
    · exact congrArg rowT (carried m c ⟨t.val - 1, hlt⟩)

/-- The plain result on the launched arguments. -/
def spec (c : Dev nD) (b : Fin 4) : Fin 8192 → Fin 1024 → EReal :=
  out (fun s d => argX m c (ix3 b s d)) (fun d => argN m c (ix2 (1 : Fin 2) d)) (fun k n => argU m c (ix3 (1 : Fin 2) k n))
    (fun k n => argC m c (ix3 (1 : Fin 2) k n)) (fun n => argB m c (ix2 (1 : Fin 2) n)) (fun i n => argD m c (ix3 (1 : Fin 2) i n))
    (fun d => argF m c (ix1 d))

/-- A point leaves the plain result at its rows. -/
theorem outs_apply (c : Dev nD) (t : Fin cfg0.N) (r n : Fin 1024) :
    (outsAt0 m c t.val t.isLt).1 (ix3 (0 : Fin 1) r n) = spec m c (bat t) (row (til t) r) n := by
  obtain ⟨T, e, hT⟩ := outs m c t
  rw [e]
  unfold spec
  have hU : ∀ (u : Fin cfg0.N) (k : Fin 1024) (n : Fin 5632) (n' : Fin 5504), Col n.val n'.val →
      (iblk m c 2 u : S1x1024x5632.Idx → EReal) (ix3 (0 : Fin 1) k n) = argU m c (ix3 (1 : Fin 2) k n') :=
    fun u k n n' h => (iblk2 m c u k n).trans (opU_apply m c 1 k n n' h)
  have hN : ∀ (u : Fin cfg0.N) (k : Fin 1024),
      (iblk m c 1 u : S1x1x1024.Idx → EReal) (ix3 (0 : Fin 1) (0 : Fin 1) k) = argN m c (ix2 (1 : Fin 2) k) :=
    fun u k => (iblk1 m c u k).trans (opN_apply m c 1 k)
  refine out_tile _ _ _ _ _ _ _ (til t) _ _ _ (fun r k => iblk0 m c t r k)
    (fun i n => (iblk4 m c t i n).trans (opD_apply m c 1 i n)) (fun k => (iblk5 m c t k).trans (opF_apply m c k)) _
    (fun r i hi => ?_) r n
  refine hidAll_tile _ _ _ _ _ (til t) _ _ _ _ (fun r k => iblk0 m c t r k) (hN t) (hU t)
    (fun k n n' h => (iblk3 m c t _ n).trans (opC_tap m c 1 _ k rfl n n' h))
    (fun n n' h => (iblk3 m c t _ n).trans (opC_bias m c 1 _ rfl n n' h)) T ?_ r i hi
  intro k hk j n' hn r
  rcases hT with ⟨h0, rfl⟩ | ⟨h0, t', ht', rfl⟩
  · rw [dif_pos (show (til t).val = 0 from h0)]
    exact pay2_apply _
  · rw [dif_neg (show ¬ (til t).val = 0 from h0)]
    have hb : bat t' = bat t := Fin.ext (by show t'.val / 8 = t.val / 8; omega)
    refine (tails_tile (fun s d => argX m c (ix3 (bat t') s d)) (fun d => argN m c (ix2 (1 : Fin 2) d))
      (fun k n => argU m c (ix3 (1 : Fin 2) k n)) (til t') _ _ _ (fun r k => iblk0 m c t' r k) (hN t') (hU t') k hk j n' hn r).trans ?_
    rw [hb]
    refine congrArg (lin _ _ _ · n') (Fin.ext ?_)
    show 1024 * (t'.val % 8) + 1016 + r.val = 1024 * (t.val % 8) - 8 + r.val
    omega

/-- The kernel's result array is the plain result. -/
theorem result (c : Dev nD) (b : Fin 4) (s : Fin 8192) (n : Fin 1024) :
    (Value.G6 m c : S4x8192x1024.Idx → EReal) (ix3 b s n) = spec m c b s n := by
  have hpt : Value.pt6Of (ix3 b s n) = 8 * b.val + s.val / 1024 := by
    show 8 * (b.val / 1 - 0) + 1 * (s.val / 1024 - 0) + 1 * (n.val / 1024 - 0) = _
    omega
  have hlt : Value.pt6Of (ix3 b s n) < cfg0.N := by
    rw [hpt]; exact lt_of_lt_of_eq (by omega) N_0.symm
  unfold Value.G6
  rw [dif_pos hlt, ← Value.outsAt0_sweep m c _ hlt]
  have hl : Value.loc6Of (ix3 b s n) = ix3 (0 : Fin 1) (⟨s.val % 1024, Nat.mod_lt _ (by decide)⟩ : Fin 1024) n := by
    funext a
    refine Fin.ext ?_
    match a with
    | ⟨0, _⟩ => show b.val % 1 = 0; omega
    | ⟨1, _⟩ => rfl
    | ⟨2, _⟩ => show n.val % 1024 = n.val; omega
  rw [hl]
  refine (outs_apply m c ⟨_, hlt⟩ _ n).trans ?_
  have hb : bat ⟨_, hlt⟩ = b := Fin.ext (by
    show Value.pt6Of (ix3 b s n) / 8 = b.val
    rw [hpt]; omega)
  have hr : row (til ⟨_, hlt⟩) (⟨s.val % 1024, Nat.mod_lt _ (by decide)⟩ : Fin 1024) = s := Fin.ext (by
    show 1024 * (Value.pt6Of (ix3 b s n) % 8) + s.val % 1024 = s.val
    rw [hpt]; omega)
  rw [hb, hr]

end Cert.Kernel2Ideal.Ffn

end
-- ==== Proof.AttSpec.lean ====
/- Band attention on one batch row of the input, over the reals: the scores of the visible positions, their weighted mean of the
   values, and the two ways a softmax with masked scores computes that mean in exact arithmetic. -/
module

public import proofs.«01_k».proof.Proof.FfnSpec
public import Idealize.ShloMosaic.Lib.Pointwise

@[expose] public section

noncomputable section

namespace Cert.AttSpec

open Idealize.ShloMosaic Cert.FfnSpec

/-- The mean of `v` over the places `P`, weighted by the exponentials of `t`. -/
def mean {ι : Type} (P : Finset ι) (t v : ι → ℝ) : ℝ := (∑ j ∈ P, Real.exp (t j) * v j) / ∑ j ∈ P, Real.exp (t j)

/-- The mean read through a renaming of the places. -/
theorem mean_reindex {ι κ : Type} (P : Finset ι) (Q : Finset κ) (e : ι → κ) (t v : ι → ℝ) (t' v' : κ → ℝ)
    (hm : ∀ j ∈ P, e j ∈ Q) (hi : ∀ i ∈ P, ∀ j ∈ P, e i = e j → i = j) (hs : ∀ q ∈ Q, ∃ j ∈ P, e j = q)
    (ht : ∀ j ∈ P, t j = t' (e j)) (hv : ∀ j ∈ P, v j = v' (e j)) : mean P t v = mean Q t' v' := by
  unfold mean
  congr 1
  · exact Finset.sum_nbij e hm (fun i h j h' => hi i h j h') (fun q hq => by simpa using hs q hq)
      (fun j hj => by rw [ht j hj, hv j hj])
  · exact Finset.sum_nbij e hm (fun i h j h' => hi i h j h') (fun q hq => by simpa using hs q hq)
      (fun j hj => by rw [ht j hj])

/-- A shift of all the scores does not change the mean. -/
theorem mean_shift {ι : Type} (P : Finset ι) (t v : ι → ℝ) (c : ℝ) :
    (∑ j ∈ P, Real.exp (t j - c) * v j) * (∑ j ∈ P, Real.exp (t j - c))⁻¹ = mean P t v := by
  unfold mean
  have hc : Real.exp (-c) ≠ 0 := (Real.exp_pos _).ne'
  have h1 : ∀ j, Real.exp (t j - c) = Real.exp (-c) * Real.exp (t j) := fun j => by rw [← Real.exp_add]; congr 1; ring
  simp only [h1, mul_assoc, ← Finset.mul_sum]
  rw [mul_inv, div_eq_mul_inv]
  field_simp

theorem coe_sum {ι : Type} (P : Finset ι) (f : ι → ℝ) : ((∑ j ∈ P, f j : ℝ) : EReal) = ∑ j ∈ P, ((f j : ℝ) : EReal) := by
  classical
  induction P using Finset.induction_on with
  | empty => simp
  | insert a s ha ih => rw [Finset.sum_insert ha, Finset.sum_insert ha, EReal.coe_add, ih]

section

variable {ι : Type} [Fintype ι] [DecidableEq ι] (P : Finset ι) (hP : P.Nonempty) (t v : ι → ℝ) (s V : ι → EReal)

include hP in
/-- The largest score is a real number when the visible scores are and the others are −∞. -/
theorem max_real (hs : ∀ j ∈ P, s j = ((t j : ℝ) : EReal)) (hn : ∀ j, j ∉ P → s j = ⊥) :
    ∃ m : ℝ, (Finset.univ : Finset ι).fold max ⊥ s = ((m : ℝ) : EReal) := by
  have h1 : (Finset.univ : Finset ι).fold max ⊥ s ≠ ⊥ := by
    obtain ⟨j, hj⟩ := hP
    refine ne_of_gt ?_
    rw [Finset.lt_fold_max]
    exact Or.inr ⟨j, Finset.mem_univ _, by rw [hs j hj]; exact EReal.bot_lt_coe _⟩
  have h2 : (Finset.univ : Finset ι).fold max ⊥ s ≠ ⊤ := by
    refine ne_of_lt ?_
    rw [Finset.fold_max_lt]
    refine ⟨bot_lt_top, fun j _ => ?_⟩
    by_cases hj : j ∈ P
    · rw [hs j hj]; exact EReal.coe_lt_top _
    · rw [hn j hj]; exact bot_lt_top
  exact ⟨_, (EReal.coe_toReal h2 h1).symm⟩

theorem sum_masked (f g : ι → EReal) (h1 : ∀ j ∈ P, f j = g j) (h2 : ∀ j, j ∉ P → f j = 0) : ∑ j, f j = ∑ j ∈ P, g j := by
  rw [← Finset.sum_subset (Finset.subset_univ P) (fun j _ hj => h2 j hj)]
  exact Finset.sum_congr rfl h1

include hP in
theorem sum_exp_pos (c : ℝ) : 0 < ∑ j ∈ P, Real.exp (t j - c) := Finset.sum_pos (fun _ _ => Real.exp_pos _) hP

theorem exp2_coe (a c : ℝ) : Ideal.exp2 (((a / Real.log 2 : ℝ) : EReal) - ((c : ℝ) : EReal)) = ((Real.exp (a - c * Real.log 2) : ℝ) : EReal) := by
  rw [← EReal.coe_sub]
  show ((Real.rpow 2 _ : ℝ) : EReal) = _
  have hl : Real.log 2 ≠ 0 := (Real.log_pos (by norm_num)).ne'
  congr 1
  show (2 : ℝ) ^ (a / Real.log 2 - c) = _
  rw [Real.rpow_def_of_pos (by norm_num)]
  congr 1
  field_simp

theorem exp_coe (a c : ℝ) : Ideal.exp (((a : ℝ) : EReal) - ((c : ℝ) : EReal)) = ((Real.exp (a - c) : ℝ) : EReal) := by
  rw [← EReal.coe_sub]; rfl

theorem div_coe (a b : ℝ) (hb : b ≠ 0) : Ideal.div ((a : ℝ) : EReal) ((b : ℝ) : EReal) = ((a * b⁻¹ : ℝ) : EReal) := by
  unfold Ideal.div
  rw [if_neg (by exact_mod_cast hb), EReal.coe_mul, EReal.coe_inv]

include hP in
/-- The kernel's softmax: base-two exponentials of the scores less their largest, the sum of the products with the values times
    the reciprocal of their sum. -/
theorem soft_kernel (hs : ∀ j ∈ P, s j = ((t j / Real.log 2 : ℝ) : EReal)) (hn : ∀ j, j ∉ P → s j = ⊥)
    (hv : ∀ j ∈ P, V j = ((v j : ℝ) : EReal)) :
    (∑ j, Ideal.exp2 (s j - (Finset.univ : Finset ι).fold max ⊥ s) * V j)
      * Ideal.div 1 (∑ j, Ideal.exp2 (s j - (Finset.univ : Finset ι).fold max ⊥ s)) = ((mean P t v : ℝ) : EReal) := by
  obtain ⟨m, hm⟩ := max_real P hP (fun j => t j / Real.log 2) s hs hn
  rw [hm]
  have hz : ∀ j, j ∉ P → Ideal.exp2 (s j - ((m : ℝ) : EReal)) = 0 := fun j hj => by rw [hn j hj, EReal.bot_sub]; rfl
  rw [sum_masked P _ (fun j => ((Real.exp (t j - m * Real.log 2) * v j : ℝ) : EReal))
      (fun j hj => by rw [hs j hj, exp2_coe, hv j hj, EReal.coe_mul]) (fun j hj => by rw [hz j hj, zero_mul]),
    sum_masked P _ (fun j => ((Real.exp (t j - m * Real.log 2) : ℝ) : EReal))
      (fun j hj => by rw [hs j hj, exp2_coe]) hz,
    ← coe_sum, ← coe_sum, ← EReal.coe_one, div_coe _ _ (sum_exp_pos P hP t _).ne', ← EReal.coe_mul, one_mul, mean_shift]

include hP in
/-- The reference's softmax: exponentials of the scores less their largest, each divided by their sum, times the values. -/
theorem soft_reference (hs : ∀ j ∈ P, s j = ((t j : ℝ) : EReal)) (hn : ∀ j, j ∉ P → s j = ⊥)
    (hv : ∀ j ∈ P, V j = ((v j : ℝ) : EReal)) :
    ∑ j, V j * Ideal.div (Ideal.exp (s j - (Finset.univ : Finset ι).fold max ⊥ s))
      (∑ j, Ideal.exp (s j - (Finset.univ : Finset ι).fold max ⊥ s)) = ((mean P t v : ℝ) : EReal) := by
  obtain ⟨m, hm⟩ := max_real P hP t s hs hn
  rw [hm]
  have hz : ∀ j, j ∉ P → Ideal.exp (s j - ((m : ℝ) : EReal)) = 0 := fun j hj => by rw [hn j hj, EReal.bot_sub]; rfl
  rw [sum_masked P (fun j => Ideal.exp (s j - ((m : ℝ) : EReal))) (fun j => ((Real.exp (t j - m) : ℝ) : EReal))
      (fun j hj => by rw [hs j hj, exp_coe]) hz, ← coe_sum]
  have hp := (sum_exp_pos P hP t m).ne'
  rw [sum_masked P _ (fun j => ((Real.exp (t j - m) * v j * (∑ j ∈ P, Real.exp (t j - m))⁻¹ : ℝ) : EReal))
      (fun j hj => by rw [hs j hj, exp_coe, hv j hj, div_coe _ _ hp, ← EReal.coe_mul]; congr 1; ring)
      (fun j hj => by
        rw [hz j hj, ← EReal.coe_zero, div_coe _ _ hp, zero_mul, EReal.coe_zero, mul_zero]),
    ← coe_sum, ← Finset.sum_mul, mean_shift]

end

/-! ### The attention of one batch row -/

variable (x : Fin 8192 → Fin 1024 → EReal) (g : Fin 1024 → EReal) (W : Fin 1024 → Fin 3072 → EReal) (B : Fin 16 → Fin 513 → EReal)

/-- Queries, keys and values at a row. -/
def qkv (s : Fin 8192) (n : Fin 3072) : EReal := ∑ k : Fin 1024, rms (x s) g k * W k n

/-- The same as a real number. -/
def qkvR (s : Fin 8192) (n : Fin 3072) : ℝ := (qkv x g W s n).toReal

/-- Which entry of the bias table a query at `s` uses for a key at `p`. -/
def rel (s p : ℕ) : Fin 513 := ⟨min (s + 256 - p) 512, by omega⟩

/-- The positions a query sees: its own chunk of 64 and the eight before it. -/
def vis (s : Fin 8192) : Finset (Fin 8192) :=
  Finset.univ.filter fun p => 64 * (s.val / 64) ≤ p.val + 512 ∧ p.val < 64 * (s.val / 64) + 64

/-- The score of a query and a key in head `h`. -/
def score (s : Fin 8192) (h : Fin 16) (p : Fin 8192) : ℝ :=
  (∑ d : Fin 64, qkvR x g W s ⟨64 * h.val + d.val, by omega⟩ * qkvR x g W p ⟨1024 + (64 * h.val + d.val), by omega⟩) * (1 / 8)
    + (B h (rel s.val p.val)).toReal

/-- The attention output at a row and a column. -/
def att (s : Fin 8192) (n : Fin 1024) : ℝ :=
  mean (vis s) (score x g W B s ⟨n.val / 64, by omega⟩) (fun p => qkvR x g W p ⟨2048 + n.val, by omega⟩)

/-- The input plus the attention output times the last weight. -/
def out (wo : Fin 1024 → Fin 1024 → EReal) (s : Fin 8192) (n : Fin 1024) : EReal :=
  x s n + ∑ k : Fin 1024, ((att x g W B s k : ℝ) : EReal) * wo k n

/-! ### The values are real numbers -/

/-- Neither infinity. -/
def Fin' (a : EReal) : Prop := ∃ r : ℝ, a = ((r : ℝ) : EReal)

theorem Fin'.mul {a b : EReal} : Fin' a → Fin' b → Fin' (a * b)
  | ⟨r, h⟩, ⟨s, k⟩ => ⟨r * s, by rw [h, k, EReal.coe_mul]⟩

theorem Fin'.add {a b : EReal} : Fin' a → Fin' b → Fin' (a + b)
  | ⟨r, h⟩, ⟨s, k⟩ => ⟨r + s, by rw [h, k, EReal.coe_add]⟩

theorem Fin'.sum {ι : Type} (P : Finset ι) {f : ι → EReal} (h : ∀ j, Fin' (f j)) : Fin' (∑ j ∈ P, f j) := by
  choose r hr using h
  exact ⟨∑ j ∈ P, r j, by rw [coe_sum]; exact Finset.sum_congr rfl fun j _ => hr j⟩

theorem Fin'.coe_toReal {a : EReal} : Fin' a → ((a.toReal : ℝ) : EReal) = a
  | ⟨r, h⟩ => by rw [h, EReal.toReal_coe]

theorem Fin'.of_abs {a : EReal} (h : max a (-a) < ⊤) : Fin' a := by
  have h1 : a ≠ ⊤ := fun e => by rw [e] at h; simp at h
  have h2 : a ≠ ⊥ := fun e => by rw [e] at h; simp at h
  exact ⟨a.toReal, (EReal.coe_toReal h1 h2).symm⟩

theorem sq_nonneg' (a : EReal) : 0 ≤ a * a := by
  induction a with
  | bot => rw [EReal.bot_mul_bot]; exact le_top
  | top => rw [EReal.top_mul_top]; exact le_top
  | coe r => rw [← EReal.coe_mul]; exact_mod_cast mul_self_nonneg r

theorem sq_top {a : EReal} (h : ¬ Fin' a) : a * a = ⊤ := by
  induction a with
  | bot => exact EReal.bot_mul_bot
  | top => exact EReal.top_mul_top
  | coe r => exact absurd ⟨r, rfl⟩ h

/-- A normalised row is real when the gain is: a row with an infinite entry has mean square `⊤` and normalises to zero. -/
theorem rms_real (y w : Fin 1024 → EReal) (hw : ∀ d, Fin' (w d)) (k : Fin 1024) : Fin' (rms y w k) := by
  have hn : Ideal.ofBits .f32 0x44800000#32 = ((1024 : ℝ) : EReal) := by simp [Ideal.ofBits, Ideal.ieee, -EReal.coe_mul]; norm_num
  have he : ∃ e : ℝ, 0 < e ∧ Ideal.ofBits .f32 0x358637BD#32 = ((e : ℝ) : EReal) := by
    refine ⟨(8796093 : ℝ) * (2 : ℝ) ^ (-43 : ℤ), by positivity, ?_⟩
    simp [Ideal.ofBits, Ideal.ieee]
  obtain ⟨e, he0, he⟩ := he
  unfold rms
  by_cases hy : ∀ d, Fin' (y d)
  · choose r hr using hy
    have hs : ∑ d : Fin 1024, y d * y d = ((∑ d : Fin 1024, r d * r d : ℝ) : EReal) := by
      rw [coe_sum]; exact Finset.sum_congr rfl fun d _ => by rw [hr d, EReal.coe_mul]
    rw [hn, he, hs, div_coe _ _ (by norm_num), ← EReal.coe_add]
    have hpos : 0 < (∑ d : Fin 1024, r d * r d) * (1024 : ℝ)⁻¹ + e :=
      add_pos_of_nonneg_of_pos (mul_nonneg (Finset.sum_nonneg fun d _ => mul_self_nonneg _) (by norm_num)) he0
    refine (Fin'.mul ⟨_, hr k⟩ ⟨(Real.sqrt ((∑ d : Fin 1024, r d * r d) * (1024 : ℝ)⁻¹ + e))⁻¹, ?_⟩).mul (hw k)
    show (if _ then _ else _) = _
    rw [if_neg (not_lt.2 hpos.le), if_neg hpos.ne']
  · obtain ⟨d, hd⟩ := not_forall.1 hy
    have hs : ∑ d : Fin 1024, y d * y d = ⊤ := top_le_iff.1 ((sq_top hd).ge.trans
      (Finset.single_le_sum (f := fun d => y d * y d) (fun d _ => sq_nonneg' (y d)) (Finset.mem_univ d)))
    have ht : Ideal.div (⊤ : EReal) ((1024 : ℝ) : EReal) = ⊤ := by
      unfold Ideal.div
      rw [if_neg (by exact_mod_cast (by norm_num : (1024 : ℝ) ≠ 0)), ← EReal.coe_inv]
      exact EReal.top_mul_coe_of_pos (by norm_num)
    rw [hn, he, hs, ht, EReal.top_add_coe, Ideal.rsqrt_top, mul_zero, zero_mul]
    exact ⟨0, rfl⟩

theorem qkv_real (hg : ∀ d, Fin' (g d)) (hW : ∀ d n, Fin' (W d n)) (s : Fin 8192) (n : Fin 3072) :
    ((qkvR x g W s n : ℝ) : EReal) = qkv x g W s n :=
  (Fin'.sum _ fun k => (rms_real _ _ hg k).mul (hW k n)).coe_toReal

end Cert.AttSpec

end
-- ==== Proof.AttFinite.lean ====
/- The precondition, decoded: every element of the three arrays is a real number. -/
module

public import proofs.«01_k».proof.Pre_finite
public import proofs.«01_k».proof.Proof.AttSpec
public import Idealize.ShloMosaic.PureOps.Ideal
public import Idealize.ShloMosaic.Lib.Affine
public import Idealize.ShloMosaic.Lib.ReduceAll

@[expose] public section

noncomputable section

namespace Cert.Pre_finite.Att

open Idealize.ShloMosaic
open Cert.Pre_finite Cert.Pre_finite.Facts
open Cert.AttSpec

/-- The side conditions of the precondition's operations hold. -/
theorem facts : Cert.Pre_finite.Facts where
  h_S_ := by decide
  bcast_S_S1024 := by decide
  reducesTo_S1024_S_d0 := by decide
  bcast_S_S1024x3072 := by decide
  reducesTo_S1024x3072_S_d0_1 := by decide
  bcast_S_S16x513 := by decide
  reducesTo_S16x513_S_d0_1 := by decide

variable [Facts]

instance : Subsingleton S_.Idx := ⟨fun a b => by funext k; exact k.elim0⟩

/-- The word of plus infinity is the top of the extended reals. -/
theorem inf_word : Ideal.ofBits .f32 0x7F800000#32 = (⊤ : EReal) := by
  simp [Ideal.ofBits, Ideal.ieee]

/-- One array: if all its absolute values compare below infinity, all its elements are real. -/
theorem all_fin {s : Shape} {axes : List (Fin s.rank)} (x : FVec Ideal s .f32)
    (hb : S_.BroadcastsInDim s (![] : Fin 0 → Fin s.rank)) (hr : s.ReducesTo axes S_) (h0 : 0 < S_.numel) (j : S_.Idx)
    (e : Host.reduce IntOp.andi (cmpf .olt (Host.absf x) (broadcastInDim s ![] hb (constant (F := Ideal) S_ .f32 0x7F800000#32)))
      (constantI S_ 1 1#1) hr h0 j = 1#1) (i : s.Idx) : Fin' (x i : EReal) := by
  have h := Host.reduce_andi_all _ _ _ _ j e i
  refine Fin'.of_abs (lt_of_lt_of_eq (?_ : max (x i : EReal) (-(x i : EReal)) < Ideal.ofBits .f32 0x7F800000#32) inf_word)
  by_contra hn
  have h' : BitVec.ofBool (decide (max (x i : EReal) (-(x i : EReal)) < Ideal.ofBits .f32 0x7F800000#32)) = 1#1 := h
  rw [decide_eq_false hn] at h'
  exact absurd h' (by decide)

/-- The precondition gives the three arrays real elements. -/
theorem fin_of_pre (x : FVec Ideal S4x8192x1024 .f32) (g : FVec Ideal S1024 .f32) (w : FVec Ideal S1024x3072 .f32)
    (t : FVec Ideal S16x513 .f32) (o : FVec Ideal S1024x1024 .f32)
    (h : Cert.Pre_finite.fn (F := Ideal) x g w t o = fun _ => 1#1) :
    (∀ i, Fin' (g i : EReal)) ∧ (∀ i, Fin' (w i : EReal)) ∧ ∀ i, Fin' (t i : EReal) := by
  have e := congrFun h (fun k : Fin 0 => k.elim0)
  obtain ⟨e, e3⟩ := IntOp.andi_eq_one.1 e
  obtain ⟨e1, e2⟩ := IntOp.andi_eq_one.1 e
  exact ⟨all_fin g _ _ _ _ e1, all_fin w _ _ _ _ e2, all_fin t _ _ _ _ e3⟩

end Cert.Pre_finite.Att

end
-- ==== Proof.AttRef.lean ====
/- The reference's attention program, read at an index up to its scores: queries, keys and values, the gathered band and the mask. -/
module

public import proofs.«01_k».proof.Proof.AttSpec
public import proofs.«01_k».proof.Proof.Gen.ReferenceIdeal.Read
public import Idealize.ShloMosaic.Lib.Pointwise

@[expose] public section

noncomputable section

namespace Cert.ReferenceIdeal.Att

open Cert.ReferenceIdeal Cert.ReferenceIdeal.Gen Cert.ReferenceIdeal.Read Cert.AttSpec
open Idealize.ShloMosaic Idealize.ShloMosaic.TcCoe

/-- A gather along the table's second axis, at an index. -/
theorem gather_bias (x : S16x513.Idx → EReal) (idx : IVec S64x576x1 32) (h : Fin 16) (q : Fin 64) (j : Fin 576) :
    Host.gather gather_S16x513_S64x576x1_S16x64x576_0_1_n_n_1_2_161 x idx (ix3 h q j)
      = x (ix2 h (⟨min (idx (ix3 q j (0 : Fin 1))).toInt.toNat 512, by omega⟩ : Fin 513)) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    unfold GatherDims.start GatherDims.offCoord
    rw [dif_neg (by decide +revert), dif_pos (by decide +revert), Nat.zero_add]
    rfl
  | ⟨1, _⟩ =>
    unfold GatherDims.start GatherDims.offCoord
    rw [dif_pos (by decide +revert), dif_neg (by decide +revert), Nat.add_zero]
    show min _ 512 = min _ 512
    refine congrArg (fun z => min (idx z).toInt.toNat 512) (funext fun b => ?_)
    match b with
    | ⟨0, _⟩ => rfl
    | ⟨1, _⟩ => rfl
    | ⟨2, _⟩ => rfl

/-- A gather of rows, at an index. -/
theorem gather_rows (x : S4x8704x16x64.Idx → EReal) (idx : IVec S128x576x1 32) (b : Fin 4) (c : Fin 128) (j : Fin 576) (h : Fin 16) (d : Fin 64) :
    Host.gather gather_S4x8704x16x64_S128x576x1_S4x128x576x16x64_034_1_n_n_1_2_411664 x idx (ix5 b c j h d)
      = x (ix4 b (⟨min (idx (ix3 c j (0 : Fin 1))).toInt.toNat 8703, by omega⟩ : Fin 8704) h d) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    unfold GatherDims.start GatherDims.offCoord
    rw [dif_neg (by decide +revert), dif_pos (by decide +revert), Nat.zero_add]
    rfl
  | ⟨1, _⟩ =>
    unfold GatherDims.start GatherDims.offCoord
    rw [dif_pos (by decide +revert), dif_neg (by decide +revert), Nat.add_zero]
    show min _ 8703 = min _ 8703
    refine congrArg (fun z => min (idx z).toInt.toNat 8703) (funext fun b => ?_)
    match b with
    | ⟨0, _⟩ => rfl
    | ⟨1, _⟩ => rfl
    | ⟨2, _⟩ => rfl
  | ⟨2, _⟩ =>
    unfold GatherDims.start GatherDims.offCoord
    rw [dif_neg (by decide +revert), dif_pos (by decide +revert), Nat.zero_add]
    rfl
  | ⟨3, _⟩ =>
    unfold GatherDims.start GatherDims.offCoord
    rw [dif_neg (by decide +revert), dif_pos (by decide +revert), Nat.zero_add]
    rfl

variable (x0 : S4x8192x1024.Idx → EReal) (x1 : S1024.Idx → EReal) (x2 : S1024x3072.Idx → EReal) (x3 : S16x513.Idx → EReal)

/-- Queries, keys and values. -/
theorem v13_apply (b : Fin 4) (s : Fin 8192) (n : Fin 3072) :
    val_main_v13 (F := Ideal) x0 x1 x2 (ix3 b s n)
      = qkv (fun s d => x0 (ix3 b s d)) (fun d => x1 (ix1 d)) (fun k n => x2 (ix2 k n)) s n := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A query's entry. -/
theorem v16_apply (b : Fin 4) (s : Fin 8192) (h : Fin 16) (d : Fin 64) (n : Fin 3072) (hn : n.val = 64 * h.val + d.val) :
    val_main_v16 (F := Ideal) x0 x1 x2 (ix4 b s h d) = val_main_v13 (F := Ideal) x0 x1 x2 (ix3 b s n) := by
  pointwise [val_main_v16, val_main_v15, val_main_v14]
  refine congrArg (fun p => val_main_v13 (F := Ideal) x0 x1 x2 (ix3 b s p)) (Fin.ext ?_)
  dsimp only
  omega

/-- A key's entry. -/
theorem v18_apply (b : Fin 4) (s : Fin 8192) (h : Fin 16) (d : Fin 64) (n : Fin 3072) (hn : n.val = 1024 + (64 * h.val + d.val)) :
    val_main_v18 (F := Ideal) x0 x1 x2 (ix4 b s h d) = val_main_v13 (F := Ideal) x0 x1 x2 (ix3 b s n) := by
  pointwise [val_main_v18, val_main_v17, val_main_v14]
  refine congrArg (fun p => val_main_v13 (F := Ideal) x0 x1 x2 (ix3 b s p)) (Fin.ext ?_)
  dsimp only
  omega

/-- A value's entry. -/
theorem v20_apply (b : Fin 4) (s : Fin 8192) (h : Fin 16) (d : Fin 64) (n : Fin 3072) (hn : n.val = 2048 + (64 * h.val + d.val)) :
    val_main_v20 (F := Ideal) x0 x1 x2 (ix4 b s h d) = val_main_v13 (F := Ideal) x0 x1 x2 (ix3 b s n) := by
  pointwise [val_main_v20, val_main_v19, val_main_v14]
  refine congrArg (fun p => val_main_v13 (F := Ideal) x0 x1 x2 (ix3 b s p)) (Fin.ext ?_)
  dsimp only
  omega

theorem zero_word : (FloatOps.sitofp (F := Ideal) .f32 (0#32) : EReal) = 0 := by
  show (((0#32 : BitVec 32).toInt : ℝ) : EReal) = 0
  simp

/-- The keys, 512 rows of zero in front. -/
theorem v21_apply (b : Fin 4) (p : Fin 8704) (h : Fin 16) (d : Fin 64) :
    val_main_v21 (F := Ideal) x0 x1 x2 (ix4 b p h d)
      = if hp : 512 ≤ p.val then val_main_v18 (F := Ideal) x0 x1 x2 (ix4 b (⟨p.val - 512, by omega⟩ : Fin 8192) h d) else 0 := by
  pointwise [val_main_v21, val_main_call0_v0, val_main_c]
  rw [zero_word]
  by_cases hp : 512 ≤ p.val
  · rw [dif_pos hp, dif_pos (by omega)]
  · rw [dif_neg hp, dif_neg (by omega)]

/-- The values, 512 rows of zero in front. -/
theorem v22_apply (b : Fin 4) (p : Fin 8704) (h : Fin 16) (d : Fin 64) :
    val_main_v22 (F := Ideal) x0 x1 x2 (ix4 b p h d)
      = if hp : 512 ≤ p.val then val_main_v20 (F := Ideal) x0 x1 x2 (ix4 b (⟨p.val - 512, by omega⟩ : Fin 8192) h d) else 0 := by
  pointwise [val_main_v22, val_main_call1_v0, val_main_c_2]
  rw [zero_word]
  by_cases hp : 512 ≤ p.val
  · rw [dif_pos hp, dif_pos (by omega)]
  · rw [dif_neg hp, dif_neg (by omega)]

/-- The distance from a slot to a query, as a word. -/
theorem dist_word (q : Fin 64) (j : Fin 576) :
    IntOp.subi (IntOp.addi (512#32) (BitVec.ofNat 32 q.val)) (BitVec.ofNat 32 j.val)
      = IntOp.subi (BitVec.ofNat 32 (q.val + 575 - j.val)) 63#32 := by
  apply BitVec.eq_of_toNat_eq
  show (512#32 + BitVec.ofNat 32 q.val - BitVec.ofNat 32 j.val).toNat = (BitVec.ofNat 32 (q.val + 575 - j.val) - 63#32).toNat
  simp only [BitVec.toNat_sub, BitVec.toNat_add, BitVec.toNat_ofNat]
  omega

theorem clip_word : ∀ t : Fin 639, min (Scalar.select
    (IntOp.cmpi .slt (IntOp.addi (IntOp.minsi 256#32 (IntOp.maxsi 4294967040#32 (IntOp.subi (BitVec.ofNat 32 t.val) 63#32))) 256#32) 0#32)
    (IntOp.addi (IntOp.addi (IntOp.minsi 256#32 (IntOp.maxsi 4294967040#32 (IntOp.subi (BitVec.ofNat 32 t.val) 63#32))) 256#32) 513#32)
    (IntOp.addi (IntOp.minsi 256#32 (IntOp.maxsi 4294967040#32 (IntOp.subi (BitVec.ofNat 32 t.val) 63#32))) 256#32)).toInt.toNat 512
    = min (t.val + 193) 512 := by
  decide +kernel

/-- Which entry of the table a query uses for a slot. -/
theorem v40_apply (q : Fin 64) (j : Fin 576) :
    min (val_main_v40 (F := Ideal) (ix3 q j (0 : Fin 1))).toInt.toNat 512 = min (768 + q.val - j.val) 512 := by
  have e := clip_word ⟨q.val + 575 - j.val, by omega⟩
  dsimp only at e
  rw [← dist_word q j] at e
  pointwise [val_main_v40, val_main_v39, val_main_v38, val_main_v37, val_main_v36, val_main_v35, val_main_v34, val_main_v33, val_main_v32, val_main_call2_v0, val_main_call2_v1, val_main_call2_v2, val_main_call2_v3, val_main_call2_v4, val_main_v31, val_main_v30, val_main_v29, val_main_v28, val_main_v27, val_main_v26, val_main_v25, val_main_v24, val_main_v23, val_main_c_3, val_main_c_4, val_main_c_5, val_main_c_6, val_main_c_7, val_main_c_8]
  refine Eq.trans (b := min (q.val + 575 - j.val + 193) 512) e ?_
  omega

/-- The bias of a query and a slot. -/
theorem v41_apply (h : Fin 16) (q : Fin 64) (j : Fin 576) :
    val_main_v41 (F := Ideal) x3 (ix3 h q j) = x3 (ix2 h (⟨min (768 + q.val - j.val) 512, by omega⟩ : Fin 513)) := by
  unfold val_main_v41
  rw [gather_bias]
  exact congrArg (fun p => x3 (ix2 h p)) (Fin.ext (v40_apply q j))

theorem place_word (c : Fin 128) (j : Fin 576) :
    IntOp.addi (IntOp.muli (BitVec.ofNat 32 c.val) 64#32) (BitVec.ofNat 32 j.val) = BitVec.ofNat 32 (64 * c.val + j.val) := by
  apply BitVec.eq_of_toNat_eq
  show (BitVec.ofNat 32 c.val * 64#32 + BitVec.ofNat 32 j.val).toNat = _
  simp only [BitVec.toNat_mul, BitVec.toNat_add, BitVec.toNat_ofNat]
  omega

theorem row_word : ∀ t : Fin 8704, min (Scalar.select (IntOp.cmpi .slt (BitVec.ofNat 32 t.val) 0#32)
    (IntOp.addi (BitVec.ofNat 32 t.val) 8704#32) (BitVec.ofNat 32 t.val)).toInt.toNat 8703 = t.val := by
  decide +kernel

/-- The row a slot reads. -/
theorem v56_apply (c : Fin 128) (j : Fin 576) :
    min (val_main_v56 (F := Ideal) (ix3 c j (0 : Fin 1))).toInt.toNat 8703 = 64 * c.val + j.val := by
  pointwise [val_main_v56, val_main_v55, val_main_v54, val_main_v53, val_main_v52, val_main_v51, val_main_v49, val_main_v48, val_main_v47, val_main_v46, val_main_v45, val_main_v44, val_main_v43, val_main_v42, val_main_v24, val_main_c_9, val_main_c_10, val_main_c_11]
  rw [place_word]
  exact row_word ⟨64 * c.val + j.val, by omega⟩

theorem v63_apply (c : Fin 128) (j : Fin 576) :
    min (val_main_v63 (F := Ideal) (ix3 c j (0 : Fin 1))).toInt.toNat 8703 = 64 * c.val + j.val := by
  pointwise [val_main_v63, val_main_v62, val_main_v61, val_main_v60, val_main_v59, val_main_v58, val_main_v49, val_main_v48, val_main_v47, val_main_v46, val_main_v45, val_main_v44, val_main_v43, val_main_v42, val_main_v24, val_main_c_9, val_main_c_12, val_main_c_13]
  rw [place_word]
  exact row_word ⟨64 * c.val + j.val, by omega⟩

/-- The key a slot reads. -/
theorem v57_apply (b : Fin 4) (c : Fin 128) (j : Fin 576) (h : Fin 16) (d : Fin 64) :
    val_main_v57 (F := Ideal) x0 x1 x2 (ix5 b c j h d)
      = val_main_v21 (F := Ideal) x0 x1 x2 (ix4 b (⟨64 * c.val + j.val, by omega⟩ : Fin 8704) h d) := by
  unfold val_main_v57
  generalize val_main_v21 (F := Ideal) x0 x1 x2 = y
  rw [gather_rows]
  exact congrArg (fun p => y (ix4 b p h d)) (Fin.ext (v56_apply c j))

/-- The value a slot reads. -/
theorem v64_apply (b : Fin 4) (c : Fin 128) (j : Fin 576) (h : Fin 16) (d : Fin 64) :
    val_main_v64 (F := Ideal) x0 x1 x2 (ix5 b c j h d)
      = val_main_v22 (F := Ideal) x0 x1 x2 (ix4 b (⟨64 * c.val + j.val, by omega⟩ : Fin 8704) h d) := by
  unfold val_main_v64
  generalize val_main_v22 (F := Ideal) x0 x1 x2 = y
  rw [gather_rows]
  exact congrArg (fun p => y (ix4 b p h d)) (Fin.ext (v63_apply c j))

theorem slot_int : ∀ j : Fin 576, (BitVec.ofNat 32 j.val).toInt = (j.val : ℤ) := by decide +kernel

theorem edge_int : ∀ c : Fin 128, (IntOp.subi (512#32) (IntOp.muli (BitVec.ofNat 32 c.val) 64#32)).toInt = 512 - 64 * (c.val : ℤ) := by
  decide +kernel

/-- A slot is inside the array when its position is not before the first row. -/
theorem v77_apply (c : Fin 128) (j : Fin 576) :
    val_main_v77 (F := Ideal) (ix2 c j) = BitVec.ofBool (decide (512 ≤ 64 * c.val + j.val)) := by
  pointwise [val_main_v77, val_main_v76, val_main_v75, val_main_v74, val_main_v73, val_main_v72, val_main_v71, val_main_v44, val_main_v43, val_main_v42, val_main_v24, val_main_c_9, val_main_c_15]
  show BitVec.ofBool (BitVec.sle _ _) = _
  rw [BitVec.sle_eq_decide, slot_int, edge_int]
  exact congrArg _ (decide_eq_decide.mpr ⟨fun h => by omega, fun h => by omega⟩)

/-- A query of a chunk. -/
theorem v50_apply (b : Fin 4) (c : Fin 128) (q : Fin 64) (h : Fin 16) (d : Fin 64) :
    val_main_v50 (F := Ideal) x0 x1 x2 (ix5 b c q h d)
      = val_main_v16 (F := Ideal) x0 x1 x2 (ix4 b (⟨64 * c.val + q.val, by omega⟩ : Fin 8192) h d) := by
  pointwise [val_main_v50]
  refine congrArg (fun p => val_main_v16 (F := Ideal) x0 x1 x2 (ix4 b p h d)) (Fin.ext ?_)
  dsimp only
  omega

/-- A score before the mask. -/
theorem v70_apply (b : Fin 4) (c : Fin 128) (h : Fin 16) (q : Fin 64) (j : Fin 576) :
    val_main_v70 (F := Ideal) x0 x1 x2 x3 (ix5 b c h q j)
      = (∑ x : Fin 64, val_main_v50 (F := Ideal) x0 x1 x2 (ix5 b c q h x) * val_main_v57 (F := Ideal) x0 x1 x2 (ix5 b c j h x))
          * Ideal.ofBits .f32 0x3E000000#32 + val_main_v41 (F := Ideal) x3 (ix3 h q j) := by
  pointwise [val_main_v70, val_main_v69, val_main_v68, val_main_v67, val_main_v66, val_main_v65, val_main_cst_14]

theorem neg_inf : (Ideal.ofBits .f32 0xFF800000#32 : EReal) = ⊥ := by
  simp [Ideal.ofBits, Ideal.ieee]

/-- A score. -/
theorem v79_apply (b : Fin 4) (c : Fin 128) (h : Fin 16) (q : Fin 64) (j : Fin 576) :
    val_main_v79 (F := Ideal) x0 x1 x2 x3 (ix5 b c h q j)
      = if 512 ≤ 64 * c.val + j.val then val_main_v70 (F := Ideal) x0 x1 x2 x3 (ix5 b c h q j) else ⊥ := by
  pointwise [val_main_v79, val_main_call3_v0, val_main_call3_v1, val_main_call3_v2, val_main_v78, val_main_cst_16]
  rw [v77_apply]
  by_cases hj : 512 ≤ 64 * c.val + j.val
  · rw [if_pos hj, decide_eq_true hj]
    rfl
  · rw [if_neg hj, decide_eq_false hj]
    exact neg_inf

end Cert.ReferenceIdeal.Att

end
-- ==== Proof.AttRefB.lean ====
/- The reference's softmax and its last product, read at an index over its scores. -/
module

public import proofs.«01_k».proof.Proof.AttSpec
public import proofs.«01_k».proof.Proof.Gen.ReferenceIdeal.Read
public import Idealize.ShloMosaic.Lib.Pointwise
public import Idealize.ShloMosaic.Lib.KernelVsHost

@[expose] public section

noncomputable section

namespace Cert.ReferenceIdeal.Att

open Cert.ReferenceIdeal Cert.ReferenceIdeal.Gen Cert.ReferenceIdeal.Read Cert.AttSpec
open Idealize.ShloMosaic Idealize.ShloMosaic.TcCoe

variable (x0 : S4x8192x1024.Idx → EReal) (x1 : S1024.Idx → EReal) (x2 : S1024x3072.Idx → EReal) (x3 : S16x513.Idx → EReal)
  (x4 : S1024x1024.Idx → EReal)

theorem neg_inf' : (Ideal.ofBits .f32 0xFF800000#32 : EReal) = ⊥ := by
  simp [Ideal.ofBits, Ideal.ieee]

/-- The largest score of a query. -/
theorem v80_apply (b : Fin 4) (c : Fin 128) (h : Fin 16) (q : Fin 64) :
    val_main_v80 (F := Ideal) x0 x1 x2 x3 (ix4 b c h q)
      = (Finset.univ : Finset (Fin 576)).fold max ⊥ (fun j => val_main_v79 (F := Ideal) x0 x1 x2 x3 (ix5 b c h q j)) := by
  unfold val_main_v80 val_main_cst_17
  generalize val_main_v79 (F := Ideal) x0 x1 x2 x3 = y
  have hr : S4x128x16x64x576.Reduces [4] S4x128x16x64 := by decide
  refine (congrFun (hostReduce_maximumf_eq_multiReduction (F := Ideal) (φ := .f32) y _ reducesTo_S4x128x16x64x576_S4x128x16x64_d4 h_S_ hr
    (by decide) (by decide)) (ix4 b c h q)).trans ?_
  refine (Ideal.multiReduction_maximumf_single (a := (4 : Fin S4x128x16x64x576.rank)) y _ hr _ _ (ix4 b c h q)).trans ?_
  show (Finset.univ : Finset (Fin 576)).fold max (Ideal.ofBits .f32 0xFF800000#32) _ = _
  rw [neg_inf']
  refine congrArg (fun f => (Finset.univ : Finset (Fin 576)).fold max ⊥ f) (funext fun j => congrArg y ?_)
  funext a
  match a with
  | ⟨0, _⟩ => rfl
  | ⟨1, _⟩ => rfl
  | ⟨2, _⟩ => rfl
  | ⟨3, _⟩ => rfl
  | ⟨4, _⟩ => rfl

/-- The exponential of a score less the largest. -/
theorem v86_apply (b : Fin 4) (c : Fin 128) (h : Fin 16) (q : Fin 64) (j : Fin 576) :
    val_main_v86 (F := Ideal) x0 x1 x2 x3 (ix5 b c h q j)
      = Ideal.exp (val_main_v79 (F := Ideal) x0 x1 x2 x3 (ix5 b c h q j)
        - (Finset.univ : Finset (Fin 576)).fold max ⊥ (fun j => val_main_v79 (F := Ideal) x0 x1 x2 x3 (ix5 b c h q j))) := by
  refine Eq.trans ?_ (congrArg (fun w => Ideal.exp (val_main_v79 (F := Ideal) x0 x1 x2 x3 (ix5 b c h q j) - w)) (v80_apply x0 x1 x2 x3 b c h q))
  dsimp only
  rw [val_main_v86_apply, val_main_v85_apply, val_main_v84_apply, val_main_v83_apply, val_main_v82_apply]
  have h81 (i : S4x128x16x64.Idx) : val_main_v81 (F := Ideal) i = (⊥ : EReal) := by
    rw [val_main_v81_apply]
    exact neg_inf'
  have hi : idx_main_v83 (idx_main_v84 (ix5 b c h q j)) = ix4 b c h q := by
    funext a
    match a with
    | ⟨0, _⟩ => rfl
    | ⟨1, _⟩ => rfl
    | ⟨2, _⟩ => rfl
    | ⟨3, _⟩ => rfl
  rw [hi, h81]
  generalize val_main_v80 (F := Ideal) x0 x1 x2 x3 (ix4 b c h q) = z
  generalize val_main_v79 (F := Ideal) x0 x1 x2 x3 (ix5 b c h q j) = y
  show Ideal.exp (y - max ⊥ z) = Ideal.exp (y - z)
  rw [max_eq_right bot_le]

/-- A weight of the softmax. -/
theorem v90_apply (b : Fin 4) (c : Fin 128) (h : Fin 16) (q : Fin 64) (j : Fin 576) :
    val_main_v90 (F := Ideal) x0 x1 x2 x3 (ix5 b c h q j)
      = Ideal.div (val_main_v86 (F := Ideal) x0 x1 x2 x3 (ix5 b c h q j)) (∑ k : Fin 576, val_main_v86 (F := Ideal) x0 x1 x2 x3 (ix5 b c h q k)) := by
  rw [val_main_v90_apply, val_main_v89_apply, val_main_v88_apply, val_main_v87_apply]
  generalize val_main_v86 (F := Ideal) x0 x1 x2 x3 = y
  refine congrArg (Ideal.div _) ?_
  have h0 : (val_main_cst_19 (F := Ideal)) (Shape.Idx.first h_S_) = (0 : EReal) := by
    show Ideal.ofBits .f32 0x00000000#32 = 0
    simp [Ideal.ofBits, Ideal.ieee]
  rw [h0, zero_add]
  refine Finset.sum_congr rfl fun k _ => congrArg y ?_
  funext a
  match a with
  | ⟨0, _⟩ => rfl
  | ⟨1, _⟩ => rfl
  | ⟨2, _⟩ => rfl
  | ⟨3, _⟩ => rfl
  | ⟨4, _⟩ => rfl

/-- The result over the weights and the values. -/
theorem v95_read (b : Fin 4) (s : Fin 8192) (n : Fin 1024) :
    val_main_v95 (F := Ideal) x0 x1 x2 x3 x4 (ix3 b s n)
      = x0 (ix3 b s n) + ∑ k : Fin 1024, (∑ j : Fin 576,
          val_main_v64 (F := Ideal) x0 x1 x2 (ix5 b (⟨s.val / 64, by omega⟩ : Fin 128) j (⟨k.val / 64, by omega⟩ : Fin 16) (⟨k.val % 64, by omega⟩ : Fin 64))
            * val_main_v90 (F := Ideal) x0 x1 x2 x3 (ix5 b (⟨s.val / 64, by omega⟩ : Fin 128) (⟨k.val / 64, by omega⟩ : Fin 16) (⟨s.val % 64, by omega⟩ : Fin 64) j))
          * x4 (ix2 k n) := by
  generalize hy : val_main_v90 (F := Ideal) x0 x1 x2 x3 = y
  generalize hz : val_main_v64 (F := Ideal) x0 x1 x2 = z
  pointwise [val_main_v95, val_main_v94, val_main_v93, val_main_v92, val_main_v91]
  rw [hy, hz]

end Cert.ReferenceIdeal.Att

end
-- ==== Proof.AttRefC.lean ====
/- The reference's attention program, read at an index, is the plain attention of AttSpec. -/
module

public import proofs.«01_k».proof.Proof.AttRef
public import proofs.«01_k».proof.Proof.AttRefB

@[expose] public section

noncomputable section

namespace Cert.ReferenceIdeal.Att

open Cert.ReferenceIdeal Cert.ReferenceIdeal.Gen Cert.ReferenceIdeal.Read Cert.AttSpec
open Idealize.ShloMosaic Idealize.ShloMosaic.TcCoe

theorem eighth : (Ideal.ofBits .f32 0x3E000000#32 : EReal) = ((1 / 8 : ℝ) : EReal) := by
  simp [Ideal.ofBits, Ideal.ieee, -EReal.coe_mul]; norm_num

section

variable (x0 : S4x8192x1024.Idx → EReal) (x1 : S1024.Idx → EReal) (x2 : S1024x3072.Idx → EReal) (x3 : S16x513.Idx → EReal)
  (x4 : S1024x1024.Idx → EReal)
  (h1 : ∀ i, Fin' (x1 i)) (h2 : ∀ i, Fin' (x2 i)) (h3 : ∀ i, Fin' (x3 i))

/-- A batch entry of the input. -/
abbrev bx (b : Fin 4) (s : Fin 8192) (d : Fin 1024) : EReal := x0 (ix3 b s d)
/-- The norm's weight. -/
abbrev bg (d : Fin 1024) : EReal := x1 (ix1 d)
/-- The projection's weight. -/
abbrev bw (k : Fin 1024) (n : Fin 3072) : EReal := x2 (ix2 k n)
/-- The bias table. -/
abbrev bb (h : Fin 16) (p : Fin 513) : EReal := x3 (ix2 h p)

include h1 h2 in
/-- Queries, keys and values are real numbers. -/
theorem v13_real (b : Fin 4) (s : Fin 8192) (n : Fin 3072) :
    val_main_v13 (F := Ideal) x0 x1 x2 (ix3 b s n) = ((qkvR (bx x0 b) (bg x1) (bw x2) s n : ℝ) : EReal) :=
  (v13_apply x0 x1 x2 b s n).trans
    (qkv_real (bx x0 b) (bg x1) (bw x2) (fun _ => h1 _) (fun _ _ => h2 _) s n).symm

/-- The position of a slot inside the array. -/
def pos (c : Fin 128) (j : Fin 576) : Fin 8192 := ⟨64 * c.val + j.val - 512, by omega⟩

include h1 h2 in
theorem v50_real (b : Fin 4) (c : Fin 128) (q : Fin 64) (h : Fin 16) (d : Fin 64) (s : Fin 8192) (hs : s.val = 64 * c.val + q.val) :
    val_main_v50 (F := Ideal) x0 x1 x2 (ix5 b c q h d)
      = ((qkvR (bx x0 b) (bg x1) (bw x2) s (⟨64 * h.val + d.val, by omega⟩ : Fin 3072) : ℝ) : EReal) := by
  rw [v50_apply, v16_apply x0 x1 x2 b _ h d (⟨64 * h.val + d.val, by omega⟩ : Fin 3072) rfl, v13_real x0 x1 x2 h1 h2]
  rw [show (⟨64 * c.val + q.val, by omega⟩ : Fin 8192) = s from Fin.ext hs.symm]

include h1 h2 in
theorem v57_real (b : Fin 4) (c : Fin 128) (j : Fin 576) (h : Fin 16) (d : Fin 64) (hj : 512 ≤ 64 * c.val + j.val) :
    val_main_v57 (F := Ideal) x0 x1 x2 (ix5 b c j h d)
      = ((qkvR (bx x0 b) (bg x1) (bw x2) (pos c j) (⟨1024 + (64 * h.val + d.val), by omega⟩ : Fin 3072) : ℝ) : EReal) := by
  rw [v57_apply, v21_apply, dif_pos hj,
    v18_apply x0 x1 x2 b _ h d (⟨1024 + (64 * h.val + d.val), by omega⟩ : Fin 3072) rfl, v13_real x0 x1 x2 h1 h2]
  rfl

include h1 h2 in
theorem v64_real (b : Fin 4) (c : Fin 128) (j : Fin 576) (h : Fin 16) (d : Fin 64) (hj : 512 ≤ 64 * c.val + j.val) (n : Fin 3072)
    (hn : n.val = 2048 + (64 * h.val + d.val)) :
    val_main_v64 (F := Ideal) x0 x1 x2 (ix5 b c j h d) = ((qkvR (bx x0 b) (bg x1) (bw x2) (pos c j) n : ℝ) : EReal) := by
  rw [v64_apply, v22_apply, dif_pos hj, v20_apply x0 x1 x2 b _ h d n hn, v13_real x0 x1 x2 h1 h2]
  rfl

include h1 h2 h3 in
/-- A visible score is the plain one. -/
theorem v79_real (b : Fin 4) (c : Fin 128) (h : Fin 16) (q : Fin 64) (j : Fin 576) (s : Fin 8192) (hs : s.val = 64 * c.val + q.val)
    (hj : 512 ≤ 64 * c.val + j.val) :
    val_main_v79 (F := Ideal) x0 x1 x2 x3 (ix5 b c h q j)
      = ((score (bx x0 b) (bg x1) (bw x2) (bb x3) s h (pos c j) : ℝ) : EReal) := by
  rw [v79_apply, if_pos hj, v70_apply, v41_apply, eighth]
  unfold score
  rw [EReal.coe_add, EReal.coe_mul, coe_sum]
  refine congrArg₂ (· + ·) (congrArg (· * _) (Finset.sum_congr rfl fun d _ => ?_)) ?_
  · rw [v50_real x0 x1 x2 h1 h2 b c q h d s hs, v57_real x0 x1 x2 h1 h2 b c j h d hj, EReal.coe_mul]
  · rw [(h3 _).coe_toReal]
    refine congrArg (fun p => x3 (ix2 h p)) (Fin.ext ?_)
    show min (768 + q.val - j.val) 512 = min (s.val + 256 - (64 * c.val + j.val - 512)) 512
    omega

include h1 h2 h3 in
/-- The weighted values of one query are the plain attention output. -/
theorem att_apply (b : Fin 4) (s : Fin 8192) (k : Fin 1024) (c : Fin 128) (q : Fin 64) (h : Fin 16) (d : Fin 64)
    (hs : s.val = 64 * c.val + q.val) (hk : k.val = 64 * h.val + d.val) :
    ∑ j : Fin 576, val_main_v64 (F := Ideal) x0 x1 x2 (ix5 b c j h d) * val_main_v90 (F := Ideal) x0 x1 x2 x3 (ix5 b c h q j)
      = ((att (bx x0 b) (bg x1) (bw x2) (bb x3) s k : ℝ) : EReal) := by
  simp only [v90_apply, v86_apply]
  have hP : ((Finset.univ : Finset (Fin 576)).filter fun j => 512 ≤ 64 * c.val + j.val).Nonempty :=
    ⟨⟨512, by omega⟩, Finset.mem_filter.mpr ⟨Finset.mem_univ _, by show 512 ≤ 64 * c.val + 512; omega⟩⟩
  rw [soft_reference ((Finset.univ : Finset (Fin 576)).filter fun j => 512 ≤ 64 * c.val + j.val) hP
    (fun j => score (bx x0 b) (bg x1) (bw x2) (bb x3) s h (pos c j))
    (fun j => qkvR (bx x0 b) (bg x1) (bw x2) (pos c j) (⟨2048 + k.val, by omega⟩ : Fin 3072))
    (fun j => val_main_v79 (F := Ideal) x0 x1 x2 x3 (ix5 b c h q j)) (fun j => val_main_v64 (F := Ideal) x0 x1 x2 (ix5 b c j h d))
    (fun j hj => v79_real x0 x1 x2 x3 h1 h2 h3 b c h q j s hs (Finset.mem_filter.mp hj).2)
    (fun j hj => (v79_apply x0 x1 x2 x3 b c h q j).trans (if_neg fun hp => hj (Finset.mem_filter.mpr ⟨Finset.mem_univ _, hp⟩)))
    (fun j hj => v64_real x0 x1 x2 h1 h2 b c j h d (Finset.mem_filter.mp hj).2 _ (by show 2048 + k.val = _; omega))]
  refine congrArg (fun r : ℝ => (r : EReal)) ?_
  unfold att
  have hh : (⟨k.val / 64, by omega⟩ : Fin 16) = h := Fin.ext (by show k.val / 64 = h.val; omega)
  rw [hh]
  refine mean_reindex _ _ (pos c) _ _ _ _ (fun j hj => ?_) (fun i hi j hj e => ?_) (fun p hp => ?_) (fun j _ => rfl) (fun j _ => rfl)
  · have := (Finset.mem_filter.mp hj).2
    unfold vis
    rw [Finset.mem_filter]
    refine ⟨Finset.mem_univ _, ?_, ?_⟩
    · show 64 * (s.val / 64) ≤ 64 * c.val + j.val - 512 + 512
      omega
    · show 64 * c.val + j.val - 512 < 64 * (s.val / 64) + 64
      omega
  · have hi' := (Finset.mem_filter.mp hi).2
    have hj' := (Finset.mem_filter.mp hj).2
    have e' : 64 * c.val + i.val - 512 = 64 * c.val + j.val - 512 := congrArg Fin.val e
    exact Fin.ext (by omega)
  · unfold vis at hp
    obtain ⟨_, hp1, hp2⟩ := Finset.mem_filter.mp hp
    refine ⟨⟨p.val + 512 - 64 * c.val, by omega⟩, Finset.mem_filter.mpr ⟨Finset.mem_univ _, ?_⟩, Fin.ext ?_⟩
    · show 512 ≤ 64 * c.val + (p.val + 512 - 64 * c.val)
      omega
    · show 64 * c.val + (p.val + 512 - 64 * c.val) - 512 = p.val
      omega

include h1 h2 h3 in
/-- The reference's result. -/
theorem v95_apply (b : Fin 4) (s : Fin 8192) (n : Fin 1024) :
    val_main_v95 (F := Ideal) x0 x1 x2 x3 x4 (ix3 b s n)
      = out (bx x0 b) (bg x1) (bw x2) (bb x3) (fun k n => x4 (ix2 k n)) s n := by
  rw [v95_read]
  unfold out
  refine congrArg (x0 (ix3 b s n) + ·) (Finset.sum_congr rfl fun k _ => congrArg (· * _) ?_)
  exact att_apply x0 x1 x2 x3 h1 h2 h3 b s k _ _ _ _ (by show s.val = 64 * (s.val / 64) + s.val % 64; omega)
    (by show k.val = 64 * (k.val / 64) + k.val % 64; omega)

end

end Cert.ReferenceIdeal.Att

end
-- ==== Proof.AttModel.lean ====
/- What one tile of the band attention kernel computes, in the kernel's own vector operations: the attention of a pair of heads on
   128 rows over a band of `w` positions, for any width `w`. -/
module

public import proofs.«01_k».proof.Proof.Gen.KernelIdeal.Frame
public import Idealize.ShloMosaic.Lib.Pipeline.Value
public import Idealize.ShloMosaic.Lib.Pointwise

@[expose] public section

noncomputable section

namespace Cert.KernelIdeal.Att

open Cert.KernelIdeal Cert.KernelIdeal.Gen
open Idealize.ShloMosaic Idealize.ShloMosaic.TcCoe Idealize.ShloMosaic.Tactic

/-- The shape of a matrix. -/
abbrev Mat (a b : ℕ) : Shape := ⟨2, ![a, b]⟩

/-- The block at `(r0, c0)` of a matrix. -/
def sub2 {α : Type} {A B : ℕ} [NeZero A] [NeZero B] (X : (Mat A B).Idx → α) (r0 c0 a b : ℕ) : (Mat a b).Idx → α :=
  fun j => X (ix2 (Fin.ofNat A (r0 + (j 0).val)) (Fin.ofNat B (c0 + (j 1).val)))

/-- The columns from `c0` on of table `h` of the bias. -/
def sub3 {α : Type} (X : S16x128x640.Idx → α) (h c0 w : ℕ) : (⟨3, ![1, 128, w]⟩ : Shape).Idx → α :=
  fun j => X (ix3 (Fin.ofNat 16 h) (Fin.ofNat 128 (j 1).val) (Fin.ofNat 640 (c0 + (j 2).val)))

/-- The side conditions of the operations on a band of width `w`. -/
structure Wd (w : ℕ) : Prop where
  catL : Shape.Concatenates [Mat 128 w, Mat 128 w] (Mat 128 (2 * w)) 1
  catR : Shape.Concatenates [Mat w 128, Mat w 128] (Mat (2 * w) 128) 0
  sl0 : (Mat 128 (2 * w)).Slices ![0, 0] (Mat 128 w)
  sl1 : (Mat 128 (2 * w)).Slices ![0, w] (Mat 128 w)
  cast : (⟨3, ![1, 128, w]⟩ : Shape).ShapeCasts (Mat 128 w)
  red : (Mat 128 w).Reduces [1] S128
  bc : S128x1.Broadcasts (Mat 128 w)

variable {F : FTy → Type} [FloatOps F] [Named F]

section

variable {w : ℕ} (W : Wd w)

/-- The products of 128 queries with a band of keys of the even and of the odd head. -/
def prodOf (ke ko : FVec F (Mat 128 w) .bf16) (q : FVec F S128x128 .bf16) : FVec F (Mat 128 (2 * w)) .f32 :=
  matmul (DotDims.plain 128 128 (2 * w)) none q (concatenate (Mat 128 (2 * w)) 1 [⟨Mat 128 w, ke⟩, ⟨Mat 128 w, ko⟩] W.catL)
    (constant (Mat 128 (2 * w)) .f32 0x00000000#32)

/-- The scores of one head: its products plus the bias times `log2e`. -/
def scoresOf (off : Fin 2 → ℕ) (h : (Mat 128 (2 * w)).Slices off (Mat 128 w)) (p : FVec F (Mat 128 (2 * w)) .f32)
    (b : FVec F (⟨3, ![1, 128, w]⟩ : Shape) .f32) : FVec F (Mat 128 w) .f32 :=
  addf (extractStridedSlice (Mat 128 w) off p h)
    (mulf (shapeCast (Mat 128 w) b W.cast) (broadcast (Mat 128 w) (Named.named κ "log2e" 0x3FB8AA3B#32)))

/-- The powers of two of the scores less their row's largest. -/
def expOf (s : FVec F (Mat 128 w) .f32) : FVec F (Mat 128 w) .f32 :=
  exp2 (subf s (broadcastTo (Mat 128 w)
    (shapeCast S128x1 (multiReduction .maximumf [1] S128 s 0xFF800000#32 W.red (.inl rfl) rfl) shapeCasts_S128_S128x1) W.bc))

/-- One over the row sums. -/
def invOf (e : FVec F (Mat 128 w) .f32) : FVec F S128x1 .f32 :=
  divf (broadcast S128x1 (Scalar.ofBits .f32 0x3F800000#32))
    (shapeCast S128x1 (multiReduction .add [1] S128 e 0x00000000#32 W.red (.inl rfl) rfl) shapeCasts_S128_S128x1)

/-- The weighted values of both heads, each column times its head's reciprocal row sum. -/
def weighOf (e0 e1 : FVec F (Mat 128 w) .f32) (ve vo : FVec F (Mat w 128) .bf16) : FVec F S128x128 .bf16 :=
  truncf .bf16 (mulf
    (matmul (DotDims.plain 128 (2 * w) 128) none
      (concatenate (Mat 128 (2 * w)) 1 [⟨Mat 128 w, truncf .bf16 e0 bitsLt_bf16_f32⟩, ⟨Mat 128 w, truncf .bf16 e1 bitsLt_bf16_f32⟩] W.catL)
      (concatenate (Mat (2 * w) 128) 0 [⟨Mat w 128, ve⟩, ⟨Mat w 128, vo⟩] W.catR) (constant S128x128 .f32 0x00000000#32))
    (select (cmpi .slt (iota .tc S128x128 32 [1] iota_S128x128_d1_w32) (broadcast S128x128 64#32))
      (broadcastTo S128x128 (invOf W e0) broadcasts_S128x1_S128x128) (broadcastTo S128x128 (invOf W e1) broadcasts_S128x1_S128x128)))
    bitsLt_bf16_f32

/-- The attention of a pair of heads on 128 rows, from the loaded blocks. -/
def itemOf (q : FVec F S128x128 .bf16) (ke ko : FVec F (Mat 128 w) .bf16) (b0 b1 : FVec F (⟨3, ![1, 128, w]⟩ : Shape) .f32)
    (ve vo : FVec F (Mat w 128) .bf16) : FVec F S128x128 .bf16 :=
  weighOf W (expOf W (scoresOf W ![0, 0] W.sl0 (prodOf W ke ko q) b0)) (expOf W (scoresOf W ![0, w] W.sl1 (prodOf W ke ko q) b1)) ve vo

/-- The attention of head pair `hp` on the rows from `r0` on over the band from `k0` on, from the scratch buffers. -/
def itemAt (Q : S512x1024.Idx → F .bf16) (KE KO VE VO : S1024x1024.Idx → F .bf16) (bias : S16x128x640.Idx → F .f32)
    (r0 k0 hp : ℕ) : FVec F S128x128 .bf16 :=
  itemOf W (sub2 (A := 512) (B := 1024) Q r0 (128 * hp) 128 128) (sub2 (A := 1024) (B := 1024) KE (128 * hp) k0 128 w)
    (sub2 (A := 1024) (B := 1024) KO (128 * hp) k0 128 w) (sub3 bias (2 * hp) (640 - w) w) (sub3 bias (2 * hp + 1) (640 - w) w)
    (sub2 (A := 1024) (B := 1024) VE k0 (128 * hp) w 128) (sub2 (A := 1024) (B := 1024) VO k0 (128 * hp) w 128)

end

theorem wd128 : Wd 128 := ⟨concatenates_S128x128_S128x128_S128x256_d1, concatenates_S128x128_S128x128_S256x128_d0,
  slices_S128x256_o0_0_S128x128, slices_S128x256_o0_128_S128x128, shapeCasts_S1x128x128_S128x128, reduces_S128x128_S128, broadcasts_S128x1_S128x128⟩

theorem wd256 : Wd 256 := ⟨concatenates_S128x256_S128x256_S128x512_d1, concatenates_S256x128_S256x128_S512x128_d0,
  slices_S128x512_o0_0_S128x256, slices_S128x512_o0_256_S128x256, shapeCasts_S1x128x256_S128x256, reduces_S128x256_S128, broadcasts_S128x1_S128x256⟩

theorem wd384 : Wd 384 := ⟨concatenates_S128x384_S128x384_S128x768_d1, concatenates_S384x128_S384x128_S768x128_d0,
  slices_S128x768_o0_0_S128x384, slices_S128x768_o0_384_S128x384, shapeCasts_S1x128x384_S128x384, reduces_S128x384_S128, broadcasts_S128x1_S128x384⟩

theorem wd512 : Wd 512 := ⟨concatenates_S128x512_S128x512_S128x1024_d1, concatenates_S512x128_S512x128_S1024x128_d0,
  slices_S128x1024_o0_0_S128x512, slices_S128x1024_o0_512_S128x512, shapeCasts_S1x128x512_S128x512, reduces_S128x512_S128, broadcasts_S128x1_S128x512⟩

theorem wd640 : Wd 640 := ⟨concatenates_S128x640_S128x640_S128x1280_d1, concatenates_S640x128_S640x128_S1280x128_d0,
  slices_S128x1280_o0_0_S128x640, slices_S128x1280_o0_640_S128x640, shapeCasts_S1x128x640_S128x640, reduces_S128x640_S128, broadcasts_S128x1_S128x640⟩

/-! ### The loads -/

section

variable {Val : EltTy → Type} {e : EltTy}

theorem ld_sub2 {A B : ℕ} [NeZero A] [NeZero B] (X : (Mat A B).Idx → Val e) (r0 c0 a b : ℕ) (inb) :
    View.ld X (Rect.unit (s := Mat A B) ![r0, c0] ![a, b] inb) = sub2 X r0 c0 a b := by
  have h0 : r0 + a ≤ A := inb 0
  have h1 : c0 + b ≤ B := inb 1
  funext j
  show X _ = X _
  congr 1
  funext x
  apply Fin.ext
  have j0 : (j 0).val < a := (j 0).isLt
  have j1 : (j 1).val < b := (j 1).isLt
  match x with
  | 0 => show r0 + 1 * (j 0).val = (r0 + (j 0).val) % A; rw [Nat.mod_eq_of_lt (by omega)]; omega
  | 1 => show c0 + 1 * (j 1).val = (c0 + (j 1).val) % B; rw [Nat.mod_eq_of_lt (by omega)]; omega

theorem ld_sub3 (X : S16x128x640.Idx → Val e) (h c0 w : ℕ) (inb) :
    View.ld X (Rect.unit (s := S16x128x640) ![h, 0, c0] ![1, 128, w] inb) = sub3 X h c0 w := by
  have h0 : h + 1 ≤ 16 := inb 0
  have h1 : c0 + w ≤ 640 := inb 2
  funext j
  show X _ = X _
  congr 1
  funext x
  apply Fin.ext
  have j0 : (j 0).val < 1 := (j 0).isLt
  have j1 : (j 1).val < 128 := (j 1).isLt
  have j2 : (j 2).val < w := (j 2).isLt
  match x with
  | 0 => show h + 1 * (j 0).val = h % 16; omega
  | 1 => show 0 + 1 * (j 1).val = (j 1).val % 128; omega
  | 2 => show c0 + 1 * (j 2).val = (c0 + (j 2).val) % 640; omega

end

end Cert.KernelIdeal.Att

end
-- ==== Proof.AttPieces.lean ====
/- The attention kernel's stores into its block of attention rows, and what they leave. -/
module

public import proofs.«01_k».proof.Proof.AttModel
public import Idealize.ShloMosaic.Lib.WritesUnit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

section

variable {Val : EltTy → Type} [∀ e, Nonempty (Val e)] {e : EltTy}

/-- What a list of stores leaves at the place where the last store's rectangle puts an index. -/
theorem canon_cons_at {S : Shape} (r : Rect S) (w : r.shape.Idx → Val e) (L : List (View.Piece Val S e)) (x : r.shape.Idx) (y : S.Idx)
    (h : ∀ a, (y a).val = r.off a + r.stride a * (x a).val) : View.canon (⟨r, w⟩ :: L) y = w x := by
  rw [← Rect.emb_eq_of_coords r x y h, View.canon_cons_emb]

/-- A load from a list of stores reads what they leave. -/
theorem readCov_eq_ld {sig : RefSig} {κ : Kind} {sp : Space} {S : Shape} (v : View sig κ sp S e) (L : List (View.Piece Val S e)) (r : Rect S) :
    v.readCov L r.toLoadRect = View.ld (View.canon L) r := View.readCov_eq_canon' v L _

end

variable {F : FTy → Type} [FloatOps F] [Named F]

/-- Item `n` of the first tile of a batch row, eight head pairs to a block of 128 rows: block `b` looks at the `128 * (b + 1)` positions of
    the tile up to its own end. -/
def itemA (Q : S512x1024.Idx → F .bf16) (KE KO VE VO : S1024x1024.Idx → F .bf16) (bias : S16x128x640.Idx → F .f32) (n : ℕ) :
    FVec F S128x128 .bf16 :=
  if n < 8 then itemAt wd128 Q KE KO VE VO bias 0 512 (n % 8)
  else if n < 16 then itemAt wd256 Q KE KO VE VO bias 128 512 (n % 8)
  else if n < 24 then itemAt wd384 Q KE KO VE VO bias 256 512 (n % 8)
  else itemAt wd512 Q KE KO VE VO bias 384 512 (n % 8)

/-- Item `n` of a later tile: block `b` looks at the 640 positions up to its own end. -/
def itemB (Q : S512x1024.Idx → F .bf16) (KE KO VE VO : S1024x1024.Idx → F .bf16) (bias : S16x128x640.Idx → F .f32) (n : ℕ) :
    FVec F S128x128 .bf16 :=
  itemAt wd640 Q KE KO VE VO bias (128 * (n / 8)) (128 * (n / 8)) (n % 8)

variable (item : ℕ → FVec F S128x128 .bf16)

/-- The stores of the first `n` items, the last one first. -/
def attPieces : ℕ → List (View.Piece (Elt F) S512x1024 .bf16)
  | 0 => []
  | n + 1 => if hn : n < 32 then
      ⟨Rect.unit (s := S512x1024) ![128 * (n / 8), 128 * (n % 8)] ![128, 128]
        (fun a => match a with
          | 0 => (by omega : 128 * (n / 8) + 128 ≤ 512)
          | 1 => (by omega : 128 * (n % 8) + 128 ≤ 1024)), item n⟩ :: attPieces n
    else []

/-- The block the items fill. -/
def attAll : S512x1024.Idx → F .bf16 := fun y =>
  item (8 * ((y 0 : Fin 512).val / 128) + (y 1 : Fin 1024).val / 128)
    (ix2 (⟨(y 0 : Fin 512).val % 128, Nat.mod_lt _ (by decide)⟩ : Fin 128) (⟨(y 1 : Fin 1024).val % 128, Nat.mod_lt _ (by decide)⟩ : Fin 128))

/-- The first `n` stores leave the first `n` items. -/
theorem canon_attPieces : ∀ (n : ℕ) (hn : n ≤ 32) (y : S512x1024.Idx) (hy : 8 * ((y 0 : Fin 512).val / 128) + (y 1 : Fin 1024).val / 128 < n),
    View.canon (attPieces item n) y = attAll item y
  | 0, _, _, hy => absurd hy (by omega)
  | n + 1, hn, y, hy => by
    have h1 : (y 1 : Fin 1024).val < 1024 := (y 1 : Fin 1024).isLt
    rw [attPieces, dif_pos (by omega : n < 32)]
    by_cases hc : 8 * ((y 0 : Fin 512).val / 128) + (y 1 : Fin 1024).val / 128 = n
    · rw [canon_cons_at _ _ _ (ix2 (⟨(y 0 : Fin 512).val % 128, Nat.mod_lt _ (by decide)⟩ : Fin 128)
        (⟨(y 1 : Fin 1024).val % 128, Nat.mod_lt _ (by decide)⟩ : Fin 128)) y]
      · unfold attAll
        rw [hc]
      · intro a
        match a with
        | 0 => show (y 0 : Fin 512).val = 128 * (n / 8) + 1 * ((y 0 : Fin 512).val % 128); omega
        | 1 => show (y 1 : Fin 1024).val = 128 * (n % 8) + 1 * ((y 1 : Fin 1024).val % 128); omega
    · by_cases hr : (y 0 : Fin 512).val / 128 = n / 8
      · rw [View.canon_cons_of_not_mem _ _ (Rect.not_mem_set_of_axis _ _ 1 (128 * (n % 8)) 128 rfl rfl rfl ?_)]
        · exact canon_attPieces n (by omega) y (by omega)
        · left; show (y 1 : Fin 1024).val < 128 * (n % 8); omega
      · rw [View.canon_cons_of_not_mem _ _ (Rect.not_mem_set_of_axis _ _ 0 (128 * (n / 8)) 128 rfl rfl rfl ?_)]
        · exact canon_attPieces n (by omega) y (by omega)
        · left; show (y 0 : Fin 512).val < 128 * (n / 8); omega

/-- All 32 stores leave the block. -/
theorem canon_attPieces_all : View.canon (attPieces item 32) = attAll item := by
  funext y
  have h0 : (y 0 : Fin 512).val < 512 := (y 0 : Fin 512).isLt
  have h1 : (y 1 : Fin 1024).val < 1024 := (y 1 : Fin 1024).isLt
  exact canon_attPieces item 32 le_rfl y (by omega)

/-! ### The scratch buffers -/

/-- The queries of a tile. -/
def qOf (x0 : Vec F S1x512x1024 .f32) (x1 : Vec F S1x1024 .f32) (x2 : Vec F S1024x1024 .bf16) : FVec F S512x1024 .bf16 := k0_pay415 x0 x1 x2

/-- The keys of a tile, as columns, the odd heads' rows zero. -/
def keOf (x0 : Vec F S1x512x1024 .f32) (x1 : Vec F S1x1024 .f32) (x3 : Vec F S1024x1024 .bf16) : FVec F S1024x512 .bf16 :=
  k0_pay419 (k0_pay416 x0 x1 x3) 128#32 k0_pay417 0#32

/-- The keys of a tile, as columns, the even heads' rows zero. -/
def koOf (x0 : Vec F S1x512x1024 .f32) (x1 : Vec F S1x1024 .f32) (x3 : Vec F S1024x1024 .bf16) : FVec F S1024x512 .bf16 :=
  k0_pay420 (k0_pay416 x0 x1 x3) 128#32 k0_pay417 0#32

/-- The values of a tile, the odd heads' columns zero. -/
def veOf (x0 : Vec F S1x512x1024 .f32) (x1 : Vec F S1x1024 .f32) (x4 : Vec F S1024x1024 .bf16) : FVec F S512x1024 .bf16 :=
  k0_pay427 (k0_pay421 (k0_pay414 x0 x1) x4) 128#32 k0_pay422 k0_pay423 k0_pay424 k0_pay425

/-- The values of a tile, the even heads' columns zero. -/
def voOf (x0 : Vec F S1x512x1024 .f32) (x1 : Vec F S1x1024 .f32) (x4 : Vec F S1024x1024 .bf16) : FVec F S512x1024 .bf16 :=
  k0_pay428 (k0_pay421 (k0_pay414 x0 x1) x4) 128#32 k0_pay422 k0_pay423 k0_pay424 k0_pay425

/-- The output block, from the input block and the attention rows. -/
def outOf (x0 : Vec F S1x512x1024 .f32) (a : FVec F S512x1024 .bf16) (x5 : Vec F S1024x1024 .bf16) : FVec F S1x512x1024 .f32 :=
  k0_pay431 (k0_pay413 x0) a x5

section

variable {α : Type}

/-- A buffer whose columns from 512 on are replaced. -/
def bufC (old : S1024x1024.Idx → α) (new : S1024x512.Idx → α) : S1024x1024.Idx → α := fun j =>
  if 512 ≤ (j 1 : Fin 1024).val then new (ix2 (j 0 : Fin 1024) (⟨((j 1 : Fin 1024).val - 512) % 512, Nat.mod_lt _ (by decide)⟩ : Fin 512)) else old j

/-- A buffer whose rows from 512 on are replaced. -/
def bufR (old : S1024x1024.Idx → α) (new : S512x1024.Idx → α) : S1024x1024.Idx → α := fun j =>
  if 512 ≤ (j 0 : Fin 1024).val then new (ix2 (⟨((j 0 : Fin 1024).val - 512) % 512, Nat.mod_lt _ (by decide)⟩ : Fin 512) (j 1 : Fin 1024)) else old j

/-- The buffer of columns a tile leaves for the next one. -/
def carryC (new : S1024x512.Idx → α) : S1024x1024.Idx → α := fun j =>
  new (ix2 (j 0 : Fin 1024) (⟨(j 1 : Fin 1024).val % 512, Nat.mod_lt _ (by decide)⟩ : Fin 512))

/-- The buffer of rows a tile leaves for the next one. -/
def carryR (new : S512x1024.Idx → α) : S1024x1024.Idx → α := fun j =>
  new (ix2 (⟨(j 0 : Fin 1024).val % 512, Nat.mod_lt _ (by decide)⟩ : Fin 512) (j 1 : Fin 1024))

end

section

variable {Val : EltTy → Type} [∀ e, Nonempty (Val e)] {e : EltTy}

theorem canon_bufC (new : S1024x512.Idx → Val e) (inb) (L : List (View.Piece Val S1024x1024 e)) :
    View.canon (⟨Rect.unit (s := S1024x1024) ![0, 512] ![1024, 512] inb, new⟩ :: L) = bufC (View.canon L) new := by
  funext y
  have h1 : (y 1 : Fin 1024).val < 1024 := (y 1 : Fin 1024).isLt
  unfold bufC
  by_cases h : 512 ≤ (y 1 : Fin 1024).val
  · rw [if_pos h]
    refine canon_cons_at _ _ _ _ _ fun a => ?_
    match a with
    | 0 => show (y 0 : Fin 1024).val = 0 + 1 * (y 0 : Fin 1024).val; omega
    | 1 => show (y 1 : Fin 1024).val = 512 + 1 * (((y 1 : Fin 1024).val - 512) % 512); omega
  · rw [if_neg h]
    refine View.canon_cons_of_not_mem _ _ (Rect.not_mem_set_of_axis _ _ 1 512 512 rfl rfl rfl ?_)
    left; show (y 1 : Fin 1024).val < 512; omega

theorem canon_bufR (new : S512x1024.Idx → Val e) (inb) (L : List (View.Piece Val S1024x1024 e)) :
    View.canon (⟨Rect.unit (s := S1024x1024) ![512, 0] ![512, 1024] inb, new⟩ :: L) = bufR (View.canon L) new := by
  funext y
  have h1 : (y 0 : Fin 1024).val < 1024 := (y 0 : Fin 1024).isLt
  unfold bufR
  by_cases h : 512 ≤ (y 0 : Fin 1024).val
  · rw [if_pos h]
    refine canon_cons_at _ _ _ _ _ fun a => ?_
    match a with
    | 0 => show (y 0 : Fin 1024).val = 512 + 1 * (((y 0 : Fin 1024).val - 512) % 512); omega
    | 1 => show (y 1 : Fin 1024).val = 0 + 1 * (y 1 : Fin 1024).val; omega
  · rw [if_neg h]
    refine View.canon_cons_of_not_mem _ _ (Rect.not_mem_set_of_axis _ _ 0 512 512 rfl rfl rfl ?_)
    left; show (y 0 : Fin 1024).val < 512; omega

theorem read_bufC {sig : RefSig} {κ : Kind} {sp : Space} (v : View sig κ sp S1024x1024 e) (f : v.ty.Contents Val) (new : S1024x512.Idx → Val e)
    (inb) : v.read Val (v.writes Val f [⟨Rect.unit (s := S1024x1024) ![0, 512] ![1024, 512] inb, new⟩]) = bufC (v.read Val f) new := by
  funext y
  have h1 : (y 1 : Fin 1024).val < 1024 := (y 1 : Fin 1024).isLt
  unfold bufC
  by_cases h : 512 ≤ (y 1 : Fin 1024).val
  · rw [if_pos h]
    refine View.read_writes_cons_unit_of_mem v f inb new [] y _ rfl fun a => ?_
    match a with
    | 0 => show (y 0 : Fin 1024).val = 0 + (y 0 : Fin 1024).val; omega
    | 1 => show (y 1 : Fin 1024).val = 512 + (((y 1 : Fin 1024).val - 512) % 512); omega
  · rw [if_neg h]
    refine (View.read_writes_cons_unit_of_not_mem v f inb new [] y rfl 1 ?_).trans rfl
    left; show (y 1 : Fin 1024).val < 512; omega

theorem read_bufR {sig : RefSig} {κ : Kind} {sp : Space} (v : View sig κ sp S1024x1024 e) (f : v.ty.Contents Val) (new : S512x1024.Idx → Val e)
    (inb) : v.read Val (v.writes Val f [⟨Rect.unit (s := S1024x1024) ![512, 0] ![512, 1024] inb, new⟩]) = bufR (v.read Val f) new := by
  funext y
  have h1 : (y 0 : Fin 1024).val < 1024 := (y 0 : Fin 1024).isLt
  unfold bufR
  by_cases h : 512 ≤ (y 0 : Fin 1024).val
  · rw [if_pos h]
    refine View.read_writes_cons_unit_of_mem v f inb new [] y _ rfl fun a => ?_
    match a with
    | 0 => show (y 0 : Fin 1024).val = 512 + (((y 0 : Fin 1024).val - 512) % 512); omega
    | 1 => show (y 1 : Fin 1024).val = 0 + (y 1 : Fin 1024).val; omega
  · rw [if_neg h]
    refine (View.read_writes_cons_unit_of_not_mem v f inb new [] y rfl 0 ?_).trans rfl
    left; show (y 0 : Fin 1024).val < 512; omega

/-- Columns stored at 512 and copied to 0 leave the buffer for the next tile. -/
theorem canon_carryC (new : S1024x512.Idx → Val e) (inb inb') (L : List (View.Piece Val S1024x1024 e)) :
    View.canon (⟨Rect.unit (s := S1024x1024) ![0, 0] ![1024, 512] inb, new⟩
      :: ⟨Rect.unit (s := S1024x1024) ![0, 512] ![1024, 512] inb', new⟩ :: L) = carryC new := by
  funext y
  have h1 : (y 1 : Fin 1024).val < 1024 := (y 1 : Fin 1024).isLt
  by_cases h : 512 ≤ (y 1 : Fin 1024).val
  · rw [View.canon_cons_of_not_mem _ _ (Rect.not_mem_set_of_axis _ _ 1 0 512 rfl rfl rfl ?_)]
    · refine canon_cons_at _ _ _ _ _ fun a => ?_
      match a with
      | 0 => show (y 0 : Fin 1024).val = 0 + 1 * (y 0 : Fin 1024).val; omega
      | 1 => show (y 1 : Fin 1024).val = 512 + 1 * ((y 1 : Fin 1024).val % 512); omega
    · right; show 0 + 512 ≤ (y 1 : Fin 1024).val; omega
  · refine canon_cons_at _ _ _ _ _ fun a => ?_
    match a with
    | 0 => show (y 0 : Fin 1024).val = 0 + 1 * (y 0 : Fin 1024).val; omega
    | 1 => show (y 1 : Fin 1024).val = 0 + 1 * ((y 1 : Fin 1024).val % 512); omega

/-- Rows stored at 512 and copied to 0 leave the buffer for the next tile. -/
theorem canon_carryR (new : S512x1024.Idx → Val e) (inb inb') (L : List (View.Piece Val S1024x1024 e)) :
    View.canon (⟨Rect.unit (s := S1024x1024) ![0, 0] ![512, 1024] inb, new⟩
      :: ⟨Rect.unit (s := S1024x1024) ![512, 0] ![512, 1024] inb', new⟩ :: L) = carryR new := by
  funext y
  have h1 : (y 0 : Fin 1024).val < 1024 := (y 0 : Fin 1024).isLt
  by_cases h : 512 ≤ (y 0 : Fin 1024).val
  · rw [View.canon_cons_of_not_mem _ _ (Rect.not_mem_set_of_axis _ _ 0 0 512 rfl rfl rfl ?_)]
    · refine canon_cons_at _ _ _ _ _ fun a => ?_
      match a with
      | 0 => show (y 0 : Fin 1024).val = 512 + 1 * ((y 0 : Fin 1024).val % 512); omega
      | 1 => show (y 1 : Fin 1024).val = 0 + 1 * (y 1 : Fin 1024).val; omega
    · right; show 0 + 512 ≤ (y 0 : Fin 1024).val; omega
  · refine canon_cons_at _ _ _ _ _ fun a => ?_
    match a with
    | 0 => show (y 0 : Fin 1024).val = 0 + 1 * ((y 0 : Fin 1024).val % 512); omega
    | 1 => show (y 1 : Fin 1024).val = 0 + 1 * (y 1 : Fin 1024).val; omega

theorem cov_C {sig : RefSig} {κ : Kind} {sp : Space} (v : View sig κ sp S1024x1024 e) (new : S1024x512.Idx → Val e) (inb inb')
    (L : List (View.Piece Val S1024x1024 e)) :
    v.readCov (⟨Rect.unit (s := S1024x1024) ![0, 512] ![1024, 512] inb, new⟩ :: L)
      (Rect.unit (s := S1024x1024) ![0, 512] ![1024, 512] inb').toLoadRect = new :=
  View.readCov_cons_toLoadRect v (Rect.unit (s := S1024x1024) ![0, 512] ![1024, 512] inb) new L

theorem cov_R {sig : RefSig} {κ : Kind} {sp : Space} (v : View sig κ sp S1024x1024 e) (new : S512x1024.Idx → Val e) (inb inb')
    (L : List (View.Piece Val S1024x1024 e)) :
    v.readCov (⟨Rect.unit (s := S1024x1024) ![512, 0] ![512, 1024] inb, new⟩ :: L)
      (Rect.unit (s := S1024x1024) ![512, 0] ![512, 1024] inb').toLoadRect = new :=
  View.readCov_cons_toLoadRect v (Rect.unit (s := S1024x1024) ![512, 0] ![512, 1024] inb) new L

end

/-- A buffer nothing was stored in. -/
def noBuf : S1024x1024.Idx → F .bf16 := View.canon (Val := Elt F) (s := S1024x1024) (e := .bf16) []

theorem canon_nil_eq : View.canon (Val := Elt F) (s := S1024x1024) (e := .bf16) [] = noBuf (F := F) := rfl

end Cert.KernelIdeal.Att

end
-- ==== Proof.AttIdeal.lean ====
/- The ideal value of the attention of a pair of heads on 128 rows over a band. -/
module

public import proofs.«01_k».proof.Proof.AttPieces
public import Idealize.ShloMosaic.Lib.LawUnitPlain
public import Idealize.ShloMosaic.PureOps.Ideal.Laws

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

/-- A plain matrix product read at an entry. -/
theorem matmul_plain {φ₁ φ₂ : FTy} (M K N : ℕ) (lhs : FVec Ideal (Mat M K) φ₁) (rhs : FVec Ideal (Mat K N) φ₂) (acc : FVec Ideal (Mat M N) .f32)
    (r : Fin M) (c : Fin N) :
    matmul (DotDims.plain M K N) none lhs rhs acc (ix2 r c) = acc (ix2 r c) + ∑ k : Fin K, lhs (ix2 r k) * rhs (ix2 k c) := by
  show acc (ix2 r c) + ∑ k : (DotDims.plain M K N).contr.Idx, lhs ((DotDims.plain M K N).lhsIdx (ix2 r c) k)
    * rhs ((DotDims.plain M K N).rhsIdx (ix2 r c) k) = _
  congr 1
  refine Fintype.sum_equiv ((DotDims.plain M K N).contr.rowMajor.trans (finCongr (LawUnitPlain.plain_contr_numel M K N))) _ _ fun k => ?_
  have hp : ∀ (m : ℕ) (n : ℕ) (a : Fin m) (b : Fin n), (ix2 a b : (Mat m n).Idx) = Shape.pair a b := fun m n a b => by
    funext x; fin_cases x <;> rfl
  have hk : k = (DotDims.plain M K N).contr.rowMajor.symm ((DotDims.plain M K N).contr.rowMajor k) := by simp
  have hl := LawUnitPlain.plain_lhsIdx M K N r c ((DotDims.plain M K N).contr.rowMajor k)
    (finCongr (LawUnitPlain.plain_contr_numel M K N) ((DotDims.plain M K N).contr.rowMajor k)) rfl
  have hr := LawUnitPlain.plain_rhsIdx M K N r c ((DotDims.plain M K N).contr.rowMajor k)
    (finCongr (LawUnitPlain.plain_contr_numel M K N) ((DotDims.plain M K N).contr.rowMajor k)) rfl
  rw [← hk] at hl hr
  rw [← hp, ← hp] at hl hr
  rw [hl, hr]
  rfl

section

variable {w : ℕ} (W : Wd w)

/-- The place of column `j` in the left half. -/
def lo (j : Fin w) : Fin (2 * w) := ⟨j.val, by omega⟩

/-- The place of column `j` in the right half. -/
def hi (j : Fin w) : Fin (2 * w) := ⟨w + j.val, by omega⟩

theorem sum_halves (f : Fin (2 * w) → EReal) : ∑ k, f k = ∑ j : Fin w, f (lo j) + ∑ j : Fin w, f (hi j) := by
  have h : w + w = 2 * w := by omega
  rw [← Fintype.sum_equiv (finCongr h) (fun k => f (finCongr h k)) f (fun _ => rfl), Fin.sum_univ_add]
  rfl

section

variable {α : Type}

theorem catL_lo (x y : (Mat 128 w).Idx → α) (r : Fin 128) (j : Fin w) :
    concatenate (Mat 128 (2 * w)) 1 [⟨Mat 128 w, x⟩, ⟨Mat 128 w, y⟩] W.catL (ix2 r (lo j)) = x (ix2 r j) := by
  refine concatenate_pair_apply_left (t := Mat 128 (2 * w)) 1 x y W.catL _ rfl _ fun b => ?_
  match b with
  | 0 => rfl
  | 1 => rfl

theorem catL_hi (x y : (Mat 128 w).Idx → α) (r : Fin 128) (j : Fin w) :
    concatenate (Mat 128 (2 * w)) 1 [⟨Mat 128 w, x⟩, ⟨Mat 128 w, y⟩] W.catL (ix2 r (hi j)) = y (ix2 r j) := by
  refine concatenate_pair_apply_right (t := Mat 128 (2 * w)) 1 x y W.catL _ rfl rfl _ (fun b hb => ?_) ?_
  · match b with
    | 0 => rfl
    | 1 => exact absurd rfl hb
  · show j.val + w = w + j.val
    omega

theorem catR_lo (x y : (Mat w 128).Idx → α) (n : Fin 128) (j : Fin w) :
    concatenate (Mat (2 * w) 128) 0 [⟨Mat w 128, x⟩, ⟨Mat w 128, y⟩] W.catR (ix2 (lo j) n) = x (ix2 j n) := by
  refine concatenate_pair_apply_left (t := Mat (2 * w) 128) 0 x y W.catR _ rfl _ fun b => ?_
  match b with
  | 0 => rfl
  | 1 => rfl

theorem catR_hi (x y : (Mat w 128).Idx → α) (n : Fin 128) (j : Fin w) :
    concatenate (Mat (2 * w) 128) 0 [⟨Mat w 128, x⟩, ⟨Mat w 128, y⟩] W.catR (ix2 (hi j) n) = y (ix2 j n) := by
  refine concatenate_pair_apply_right (t := Mat (2 * w) 128) 0 x y W.catR _ rfl rfl _ (fun b hb => ?_) ?_
  · match b with
    | 0 => exact absurd rfl hb
    | 1 => rfl
  · show j.val + w = w + j.val
    omega

end

/-- The score of row `r` at column `j`. -/
def scoreAt (q : FVec Ideal S128x128 .bf16) (k : FVec Ideal (Mat 128 w) .bf16) (b : FVec Ideal (⟨3, ![1, 128, w]⟩ : Shape) .f32)
    (r : Fin 128) (j : Fin w) : EReal :=
  (∑ d : Fin 128, q (ix2 r d) * k (ix2 d j)) + b (ix3 (0 : Fin 1) r j) * Named.named (F := Ideal) κ "log2e" 0x3FB8AA3B#32

theorem zero_bits : (constant (F := Ideal) S128x128 .f32 0x00000000#32) = fun _ => (0 : EReal) := by
  funext i
  show Ideal.ofBits .f32 0x00000000#32 = 0
  simp [Ideal.ofBits, Ideal.ieee]

theorem zero_bits' (a b : ℕ) : (constant (F := Ideal) (Mat a b) .f32 0x00000000#32) = fun _ => (0 : EReal) := by
  funext i
  show Ideal.ofBits .f32 0x00000000#32 = 0
  simp [Ideal.ofBits, Ideal.ieee]

theorem castB (b : (⟨3, ![1, 128, w]⟩ : Shape).Idx → EReal) (r : Fin 128) (j : Fin w) :
    shapeCast (Mat 128 w) b W.cast (ix2 r j) = b (ix3 (0 : Fin 1) r j) := by
  refine shapeCast_apply b W.cast _ _ ?_
  rw [Shape.rowMajor_val_three, Shape.rowMajor_val_two]
  show ((0 * 128 + r.val) * w + j.val) = r.val * w + j.val
  rw [Nat.zero_mul, Nat.zero_add]

theorem scores0_apply (q ke ko b) (r : Fin 128) (j : Fin w) :
    scoresOf (F := Ideal) W ![0, 0] W.sl0 (prodOf W ke ko q) b (ix2 r j) = scoreAt q ke b r j := by
  show extractStridedSlice (Mat 128 w) ![0, 0] (prodOf W ke ko q) W.sl0 (ix2 r j) + shapeCast (Mat 128 w) b W.cast (ix2 r j) * _ = _
  rw [extractStridedSlice_apply ![0, 0] _ W.sl0 _ (ix2 r (lo j)), castB W]
  · unfold prodOf
    rw [zero_bits', matmul_plain]
    simp only [catL_lo W, zero_add]
    rfl
  · intro a
    match a with
    | 0 => show r.val = 0 + r.val; omega
    | 1 => show j.val = 0 + j.val; omega

theorem scores1_apply (q ke ko b) (r : Fin 128) (j : Fin w) :
    scoresOf (F := Ideal) W ![0, w] W.sl1 (prodOf W ke ko q) b (ix2 r j) = scoreAt q ko b r j := by
  show extractStridedSlice (Mat 128 w) ![0, w] (prodOf W ke ko q) W.sl1 (ix2 r j) + shapeCast (Mat 128 w) b W.cast (ix2 r j) * _ = _
  rw [extractStridedSlice_apply ![0, w] _ W.sl1 _ (ix2 r (hi j)), castB W]
  · unfold prodOf
    rw [zero_bits', matmul_plain]
    simp only [catL_hi W, zero_add]
    rfl
  · intro a
    match a with
    | 0 => show r.val = 0 + r.val; omega
    | 1 => show w + j.val = w + j.val; omega

theorem lift_eq (r : Fin 128) (k : Fin w) : W.red.lift (ix1 r) k = ix2 r k := by
  funext a
  apply Fin.ext
  match a with
  | 0 => rfl
  | 1 => rfl

/-- A column of 128 numbers, read at a row. -/
theorem colOf (x : S128.Idx → EReal) (r : Fin 128) (z : Fin 1) :
    shapeCast S128x1 x shapeCasts_S128_S128x1 (ix2 r z) = x (ix1 r) := by
  refine shapeCast_apply x shapeCasts_S128_S128x1 _ _ ?_
  rw [Shape.rowMajor_val_one, Shape.rowMajor_val_two]
  show r.val = r.val * 1 + z.val
  omega

theorem expOf_apply (s : FVec Ideal (Mat 128 w) .f32) (r : Fin 128) (j : Fin w) :
    expOf (F := Ideal) W s (ix2 r j)
      = Ideal.exp2 (s (ix2 r j) - (Finset.univ : Finset (Fin w)).fold max ⊥ (fun j => s (ix2 r j))) := by
  show Ideal.exp2 (s (ix2 r j) - broadcastTo (Mat 128 w) _ W.bc (ix2 r j)) = _
  rw [broadcastTo_apply _ W.bc (ix2 r j) (ix2 r (0 : Fin 1)), colOf]
  · refine congrArg (fun z => Ideal.exp2 (s (ix2 r j) - z)) ((Ideal.multiReduction_maximumf_single (a := (1 : Fin (Mat 128 w).rank)) s _ W.red _ _ (ix1 r)).trans ?_)
    have h : (FloatOps.ofBits (F := Ideal) .f32 0xFF800000#32) = (⊥ : EReal) := by
      show Ideal.ofBits .f32 0xFF800000#32 = ⊥
      simp [Ideal.ofBits, Ideal.ieee]
    rw [h]
    refine congrArg (fun f => (Finset.univ : Finset (Fin w)).fold max ⊥ f) ?_
    funext k
    exact congrArg s (lift_eq W r k)
  · intro a
    match a with
    | 0 => show r.val = if (128 : ℕ) = 1 then 0 else r.val; rw [if_neg (by decide)]
    | 1 => show 0 = if (1 : ℕ) = 1 then 0 else _; rw [if_pos rfl]

theorem invOf_apply (e : FVec Ideal (Mat 128 w) .f32) (r : Fin 128) (z : Fin 1) :
    invOf (F := Ideal) W e (ix2 r z) = Ideal.div 1 (∑ j : Fin w, e (ix2 r j)) := by
  show Ideal.div (Ideal.ofBits .f32 0x3F800000#32) (shapeCast S128x1 _ shapeCasts_S128_S128x1 (ix2 r z)) = _
  rw [colOf]
  have h : Ideal.ofBits .f32 0x3F800000#32 = 1 := by
    simp [Ideal.ofBits, Ideal.ieee, -EReal.coe_mul]; norm_num
  rw [h]
  refine congrArg (Ideal.div 1) ((Ideal.multiReduction_add_single (a := (1 : Fin (Mat 128 w).rank)) e _ W.red _ _ (ix1 r)).trans
    (Finset.sum_congr rfl fun k _ => ?_))
  exact congrArg e (lift_eq W r k)

theorem lane_bit (n : Fin 128) : IntOp.cmpi .slt (BitVec.ofNat 32 n.val) 64#32 = if n.val < 64 then 1#1 else 0#1 := by
  revert n; decide

/-- The first 64 columns are chosen from the one, the others from the other. -/
theorem laneSel (x y : S128x128.Idx → EReal) (r n : Fin 128) :
    select (cmpi .slt (iota .tc S128x128 32 [1] iota_S128x128_d1_w32) (broadcast S128x128 64#32)) x y (ix2 r n)
      = if n.val < 64 then x (ix2 r n) else y (ix2 r n) := by
  pointwise [iota]
  rw [lane_bit]
  unfold Scalar.select
  by_cases h : n.val < 64
  · rw [if_pos h, if_pos h, if_pos (by decide)]
  · rw [if_neg h, if_neg h, if_neg (by decide)]

theorem bcCol (x : S128x1.Idx → EReal) (r n : Fin 128) :
    broadcastTo S128x128 x broadcasts_S128x1_S128x128 (ix2 r n) = x (ix2 r (0 : Fin 1)) := by
  refine broadcastTo_apply x broadcasts_S128x1_S128x128 _ _ fun a => ?_
  match a with
  | 0 => show r.val = if (128 : ℕ) = 1 then 0 else r.val; rw [if_neg (by decide)]
  | 1 => show 0 = if (1 : ℕ) = 1 then 0 else _; rw [if_pos rfl]

theorem weighOf_apply (e0 e1 : FVec Ideal (Mat 128 w) .f32) (ve vo : FVec Ideal (Mat w 128) .bf16) (r n : Fin 128) :
    weighOf (F := Ideal) W e0 e1 ve vo (ix2 r n)
      = (∑ j : Fin w, e0 (ix2 r j) * ve (ix2 j n) + ∑ j : Fin w, e1 (ix2 r j) * vo (ix2 j n))
        * (if n.val < 64 then Ideal.div 1 (∑ j : Fin w, e0 (ix2 r j)) else Ideal.div 1 (∑ j : Fin w, e1 (ix2 r j))) := by
  unfold weighOf
  show matmul (F := Ideal) (DotDims.plain 128 (2 * w) 128) none _ _ _ (ix2 r n) * select (α := EReal) _ _ _ (ix2 r n) = _
  rw [laneSel, bcCol, bcCol, invOf_apply, invOf_apply, zero_bits, matmul_plain, sum_halves, zero_add]
  simp only [catL_lo W, catL_hi W, catR_lo W, catR_hi W]
  rfl

/-- The exponentials of a head's scores. -/
def eAt (q : FVec Ideal S128x128 .bf16) (k : FVec Ideal (Mat 128 w) .bf16) (b : FVec Ideal (⟨3, ![1, 128, w]⟩ : Shape) .f32)
    (r : Fin 128) (j : Fin w) : EReal :=
  Ideal.exp2 (scoreAt q k b r j - (Finset.univ : Finset (Fin w)).fold max ⊥ (scoreAt q k b r))

/-- The attention of a pair of heads, read at an entry. -/
theorem itemOf_apply (q : FVec Ideal S128x128 .bf16) (ke ko : FVec Ideal (Mat 128 w) .bf16)
    (b0 b1 : FVec Ideal (⟨3, ![1, 128, w]⟩ : Shape) .f32) (ve vo : FVec Ideal (Mat w 128) .bf16) (r n : Fin 128) :
    itemOf (F := Ideal) W q ke ko b0 b1 ve vo (ix2 r n)
      = (∑ j : Fin w, eAt q ke b0 r j * ve (ix2 j n) + ∑ j : Fin w, eAt q ko b1 r j * vo (ix2 j n))
        * (if n.val < 64 then Ideal.div 1 (∑ j : Fin w, eAt q ke b0 r j) else Ideal.div 1 (∑ j : Fin w, eAt q ko b1 r j)) := by
  unfold itemOf
  rw [weighOf_apply]
  simp only [expOf_apply, scores0_apply, scores1_apply]
  rfl

end

end Cert.KernelIdeal.Att

end
-- ==== Proof.AttBlock.lean ====
/- The ideal values of the attention kernel's blocks: normalised rows, queries, keys, values and the output. -/
module

public import proofs.«01_k».proof.Proof.AttIdeal
public import proofs.«01_k».proof.Proof.AttSpec

@[expose] public section

set_option maxRecDepth 16384

noncomputable section

namespace Cert.KernelIdeal.Att

open Cert.KernelIdeal Cert.KernelIdeal.Gen Cert.FfnSpec
open Idealize.ShloMosaic Idealize.ShloMosaic.TcCoe Idealize.ShloMosaic.Tactic

/-- A normalised row. -/
def hAt (x0 : S1x512x1024.Idx → EReal) (x1 : S1x1024.Idx → EReal) (r : Fin 512) (k : Fin 1024) : EReal :=
  rms (fun d => x0 (ix3 (0 : Fin 1) r d)) (fun d => x1 (ix2 (0 : Fin 1) d)) k

theorem pay414_apply (x0 : Vec Ideal S1x512x1024 .f32) (x1 : Vec Ideal S1x1024 .f32) (r : Fin 512) (k : Fin 1024) :
    k0_pay414 (F := Ideal) x0 x1 (ix2 r k) = hAt x0 x1 r k := by
  unfold_payloads
  pointwise
  rfl

theorem qOf_apply (x0 : Vec Ideal S1x512x1024 .f32) (x1 : Vec Ideal S1x1024 .f32) (x2 : Vec Ideal S1024x1024 .bf16) (r : Fin 512) (n : Fin 1024) :
    qOf (F := Ideal) x0 x1 x2 (ix2 r n)
      = (∑ k : Fin 1024, hAt x0 x1 r k * x2 (ix2 k n)) * Named.named (F := Ideal) (φ := .f32) κ "qscale" 0x3E38AA3B#32 := by
  unfold qOf
  unfold_payloads
  pointwise
  rfl

theorem pay416_apply (x0 : Vec Ideal S1x512x1024 .f32) (x1 : Vec Ideal S1x1024 .f32) (x3 : Vec Ideal S1024x1024 .bf16) (n : Fin 1024) (s : Fin 512) :
    k0_pay416 (F := Ideal) x0 x1 x3 (ix2 n s) = ∑ k : Fin 1024, x3 (ix2 n k) * hAt x0 x1 s k := by
  unfold_payloads
  pointwise
  rfl

theorem pay421_apply (x0 : Vec Ideal S1x512x1024 .f32) (x1 : Vec Ideal S1x1024 .f32) (x4 : Vec Ideal S1024x1024 .bf16) (s : Fin 512) (n : Fin 1024) :
    k0_pay421 (F := Ideal) (k0_pay414 (F := Ideal) x0 x1) x4 (ix2 s n) = ∑ k : Fin 1024, hAt x0 x1 s k * x4 (ix2 k n) := by
  unfold_payloads
  pointwise
  rfl

/-- Whether a row belongs to an even head, as the kernel's bit. -/
theorem even_bit (n : Fin 1024) : IntOp.cmpi .slt
      (Scalar.select
        (IntOp.andi
          (IntOp.xori
            (IntOp.cmpi .slt (IntOp.remsi .vector (BitVec.ofNat 32 n.val) (Scalar.select (Scalar.cmpi .eq 128#32 0#32) 1#32 128#32)) 0#32)
            (Scalar.cmpi .slt 128#32 0#32))
          (IntOp.cmpi .ne (IntOp.remsi .vector (BitVec.ofNat 32 n.val) (Scalar.select (Scalar.cmpi .eq 128#32 0#32) 1#32 128#32)) 0#32))
        (IntOp.addi (IntOp.remsi .vector (BitVec.ofNat 32 n.val) (Scalar.select (Scalar.cmpi .eq 128#32 0#32) 1#32 128#32)) 128#32)
        (IntOp.remsi .vector (BitVec.ofNat 32 n.val) (Scalar.select (Scalar.cmpi .eq 128#32 0#32) 1#32 128#32)))
      64#32 = if n.val % 128 < 64 then 1#1 else 0#1 := by
  revert n; decide

/-- Whether a column belongs to an even head, as the kernel's bit. -/
theorem even_bit_v (n : Fin 1024) : IntOp.cmpi .slt
      (Scalar.select
        (IntOp.andi
          (IntOp.xori
            (IntOp.cmpi .slt (IntOp.remsi .vector (BitVec.ofNat 32 n.val) (Scalar.select (Scalar.cmpi .eq 128#32 0#32) 1#32 128#32)) 0#32)
            (Scalar.cmpi .slt (Scalar.select (Scalar.cmpi .eq 128#32 0#32) 1#32 128#32) 0#32))
          (IntOp.cmpi .ne (IntOp.remsi .vector (BitVec.ofNat 32 n.val) (Scalar.select (Scalar.cmpi .eq 128#32 0#32) 1#32 128#32)) 0#32))
        (IntOp.addi (IntOp.remsi .vector (BitVec.ofNat 32 n.val) (Scalar.select (Scalar.cmpi .eq 128#32 0#32) 1#32 128#32)) 128#32)
        (IntOp.remsi .vector (BitVec.ofNat 32 n.val) (Scalar.select (Scalar.cmpi .eq 128#32 0#32) 1#32 128#32)))
      64#32 = if n.val % 128 < 64 then 1#1 else 0#1 := by
  revert n; decide

theorem sel_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

theorem keOf_apply (x0 : Vec Ideal S1x512x1024 .f32) (x1 : Vec Ideal S1x1024 .f32) (x3 : Vec Ideal S1024x1024 .bf16) (n : Fin 1024) (s : Fin 512) :
    keOf (F := Ideal) x0 x1 x3 (ix2 n s) = if n.val % 128 < 64 then ∑ k : Fin 1024, x3 (ix2 n k) * hAt x0 x1 s k else 0 := by
  unfold keOf k0_pay419
  generalize hv : k0_pay416 (F := Ideal) x0 x1 x3 = v
  unfold_payloads
  pointwise
  rw [even_bit, sel_bit, ← hv, pay416_apply]

theorem koOf_apply (x0 : Vec Ideal S1x512x1024 .f32) (x1 : Vec Ideal S1x1024 .f32) (x3 : Vec Ideal S1024x1024 .bf16) (n : Fin 1024) (s : Fin 512) :
    koOf (F := Ideal) x0 x1 x3 (ix2 n s) = if n.val % 128 < 64 then 0 else ∑ k : Fin 1024, x3 (ix2 n k) * hAt x0 x1 s k := by
  unfold koOf k0_pay420
  generalize hv : k0_pay416 (F := Ideal) x0 x1 x3 = v
  unfold_payloads
  pointwise
  rw [even_bit, sel_bit, ← hv, pay416_apply]

theorem veOf_apply (x0 : Vec Ideal S1x512x1024 .f32) (x1 : Vec Ideal S1x1024 .f32) (x4 : Vec Ideal S1024x1024 .bf16) (s : Fin 512) (n : Fin 1024) :
    veOf (F := Ideal) x0 x1 x4 (ix2 s n) = if n.val % 128 < 64 then ∑ k : Fin 1024, hAt x0 x1 s k * x4 (ix2 k n) else 0 := by
  unfold veOf k0_pay427
  generalize hv : k0_pay421 (F := Ideal) (k0_pay414 (F := Ideal) x0 x1) x4 = v
  unfold_payloads
  pointwise
  rw [even_bit_v, sel_bit, ← hv, pay421_apply]

theorem voOf_apply (x0 : Vec Ideal S1x512x1024 .f32) (x1 : Vec Ideal S1x1024 .f32) (x4 : Vec Ideal S1024x1024 .bf16) (s : Fin 512) (n : Fin 1024) :
    voOf (F := Ideal) x0 x1 x4 (ix2 s n) = if n.val % 128 < 64 then 0 else ∑ k : Fin 1024, hAt x0 x1 s k * x4 (ix2 k n) := by
  unfold voOf k0_pay428
  generalize hv : k0_pay421 (F := Ideal) (k0_pay414 (F := Ideal) x0 x1) x4 = v
  unfold_payloads
  pointwise
  rw [even_bit_v, sel_bit, ← hv, pay421_apply]

theorem outOf_apply (x0 : Vec Ideal S1x512x1024 .f32) (a : FVec Ideal S512x1024 .bf16) (x5 : Vec Ideal S1024x1024 .bf16) (r : Fin 512) (n : Fin 1024) :
    outOf (F := Ideal) x0 a x5 (ix3 (0 : Fin 1) r n) = x0 (ix3 (0 : Fin 1) r n) + ∑ k : Fin 1024, a (ix2 r k) * x5 (ix2 k n) := by
  unfold outOf
  unfold_payloads
  pointwise

end Cert.KernelIdeal.Att

end
-- ==== Proof.AttTile.lean ====
/- A tile of the attention kernel in exact arithmetic: each block of attention rows is the plain attention of AttSpec. -/
module

public import proofs.«01_k».proof.Proof.AttBlock

@[expose] public section

set_option maxRecDepth 16384

noncomputable section

namespace Cert.KernelIdeal.Att

open Cert.KernelIdeal Cert.KernelIdeal.Gen Cert.FfnSpec Cert.AttSpec
open Idealize.ShloMosaic Idealize.ShloMosaic.TcCoe Idealize.ShloMosaic.Tactic

theorem qscale_eq : Named.named (F := Ideal) (φ := .f32) κ "qscale" 0x3E38AA3B#32
    = (((1 / 8) * (Real.log 2)⁻¹ : ℝ) : EReal) := by
  have h : Real.sqrt 64 = 8 := by rw [show (64 : ℝ) = 8 ^ 2 by norm_num]; exact Real.sqrt_sq (by norm_num)
  refine (IdealRules.named_const.ideal_named_scalar _ _ _ _ rfl).trans ?_
  show (((Real.sqrt 64)⁻¹ * (Real.log 2)⁻¹ : ℝ) : EReal) = _
  rw [h, one_div]

theorem log2e_eq : Named.named (F := Ideal) (φ := .f32) κ "log2e" 0x3FB8AA3B#32 = (((Real.log 2)⁻¹ : ℝ) : EReal) :=
  IdealRules.named_const.ideal_named_scalar _ _ _ _ rfl

/-- A sum over 128 lanes of which only half `e` counts. -/
theorem sum_half (f : Fin 128 → ℝ) (e : ℕ) (he : e < 2) :
    ∑ d : Fin 128, (if d.val / 64 = e then f d else 0) = ∑ d : Fin 64, f ⟨64 * e + d.val, by omega⟩ := by
  have h := Fin.sum_univ_add (a := 64) (b := 64) (fun d : Fin 128 => if d.val / 64 = e then f d else 0)
  refine h.trans ?_
  rcases (by omega : e = 0 ∨ e = 1) with rfl | rfl
  · refine (congrArg₂ (· + ·) (Finset.sum_congr rfl fun d _ => ?_) (Finset.sum_eq_zero fun d _ => ?_)).trans (add_zero _)
    · refine (if_pos (by show d.val / 64 = 0; omega)).trans (congrArg f (Fin.ext ?_))
      show d.val = 64 * 0 + d.val; omega
    · exact if_neg (by show ¬ (64 + d.val) / 64 = 0; omega)
  · refine (congrArg₂ (· + ·) (Finset.sum_eq_zero fun d _ => ?_) (Finset.sum_congr rfl fun d _ => ?_)).trans (zero_add _)
    · exact if_neg (by show ¬ d.val / 64 = 1; omega)
    · exact if_pos (by show (64 + d.val) / 64 = 1; omega)

variable (X : Fin 8192 → Fin 1024 → EReal) (g : Fin 1024 → EReal) (Wm : Fin 1024 → Fin 3072 → EReal) (B : Fin 16 → Fin 513 → EReal)

section

variable {w : ℕ} (s : Fin 8192) (p : Fin w → Fin 8192) (hp e : ℕ) (hhp : hp < 8) (he : e < 2)
  (q : FVec Ideal S128x128 .bf16) (k : FVec Ideal (Mat 128 w) .bf16) (b : FVec Ideal (⟨3, ![1, 128, w]⟩ : Shape) .f32) (r : Fin 128)
  (hq : ∀ d : Fin 128, q (ix2 r d) = ((qkvR X g Wm s ⟨128 * hp + d.val, by omega⟩ : ℝ) : EReal)
    * Named.named (F := Ideal) (φ := .f32) κ "qscale" 0x3E38AA3B#32)
  (hk : ∀ (d : Fin 128) (j : Fin w), k (ix2 d j)
    = if d.val / 64 = e then ((qkvR X g Wm (p j) ⟨1024 + (128 * hp + d.val), by omega⟩ : ℝ) : EReal) else 0)
  (hb : ∀ j : Fin w, b (ix3 (0 : Fin 1) r j)
    = if p j ∈ vis s then (((B ⟨2 * hp + e, by omega⟩ (rel s.val (p j).val)).toReal : ℝ) : EReal) else ⊥)

include hq hk in
/-- The products with the keys of one head. -/
theorem prod_real (j : Fin w) : ∑ d : Fin 128, q (ix2 r d) * k (ix2 d j)
    = (((∑ d : Fin 64, qkvR X g Wm s ⟨64 * (2 * hp + e) + d.val, by omega⟩
        * qkvR X g Wm (p j) ⟨1024 + (64 * (2 * hp + e) + d.val), by omega⟩) * (1 / 8) / Real.log 2 : ℝ) : EReal) := by
  have h1 : ∀ d : Fin 128, q (ix2 r d) * k (ix2 d j) = (((if d.val / 64 = e then
      qkvR X g Wm s ⟨128 * hp + d.val, by omega⟩ * qkvR X g Wm (p j) ⟨1024 + (128 * hp + d.val), by omega⟩ * (1 / 8) / Real.log 2
        else 0 : ℝ)) : EReal) := by
    intro d
    rw [hq, hk, qscale_eq]
    by_cases h : d.val / 64 = e
    · rw [if_pos h, if_pos h, ← EReal.coe_mul, ← EReal.coe_mul]
      congr 1
      ring
    · rw [if_neg h, if_neg h, mul_zero, EReal.coe_zero]
  rw [Finset.sum_congr rfl fun d _ => h1 d, ← coe_sum, sum_half _ e he, Finset.sum_mul, Finset.sum_div]
  congr 1
  refine Finset.sum_congr rfl fun d _ => ?_
  have e1 : 128 * hp + (64 * e + d.val) = 64 * (2 * hp + e) + d.val := by omega
  simp only [e1]

include hq hk hb in
/-- The scores of one head: the plain scores over `log 2` at the positions the query sees, −∞ elsewhere. -/
theorem score_real (j : Fin w) : scoreAt q k b r j
    = if p j ∈ vis s then ((score X g Wm B s ⟨2 * hp + e, by omega⟩ (p j) / Real.log 2 : ℝ) : EReal) else ⊥ := by
  have hl : 0 < (Real.log 2)⁻¹ := inv_pos.mpr (Real.log_pos (by norm_num))
  unfold scoreAt
  rw [prod_real X g Wm s p hp e hhp he q k r hq hk j, hb, log2e_eq]
  by_cases h : p j ∈ vis s
  · rw [if_pos h, if_pos h, ← EReal.coe_mul, ← EReal.coe_add]
    congr 1
    unfold score
    rw [add_div, div_eq_mul_inv (EReal.toReal _)]
  · rw [if_neg h, if_neg h, EReal.bot_mul_coe_of_pos hl, EReal.add_bot]

variable (P0 : ℕ) (hp0 : ∀ j : Fin w, (p j).val = P0 + j.val)
  (hlo : ∀ y ∈ vis s, P0 ≤ y.val) (hhi : ∀ y ∈ vis s, y.val < P0 + w)

include hq hk hb hp0 hlo hhi in
/-- The weighted values of one head at a column. -/
theorem head_att (v : Fin w → EReal) (n : Fin 128) (hn : n.val / 64 = e)
    (hv : ∀ j, v j = ((qkvR X g Wm (p j) ⟨2048 + (128 * hp + n.val), by omega⟩ : ℝ) : EReal)) :
    (∑ j : Fin w, eAt q k b r j * v j) * Ideal.div 1 (∑ j : Fin w, eAt q k b r j)
      = ((att X g Wm B s ⟨128 * hp + n.val, by omega⟩ : ℝ) : EReal) := by
  have hsc := score_real X g Wm B s p hp e hhp he q k b r hq hk hb
  have hin : ∀ y ∈ vis s, ∃ j : Fin w, p j = y := fun y hy =>
    ⟨⟨y.val - P0, by have := hlo y hy; have := hhi y hy; omega⟩, Fin.ext (by rw [hp0]; have := hlo y hy; show P0 + (y.val - P0) = y.val; omega)⟩
  have hself : s ∈ vis s := by
    unfold vis
    rw [Finset.mem_filter]
    exact ⟨Finset.mem_univ _, by omega, by omega⟩
  have hP : ((Finset.univ : Finset (Fin w)).filter fun j => p j ∈ vis s).Nonempty := by
    obtain ⟨j, hj⟩ := hin s hself
    exact ⟨j, by rw [Finset.mem_filter]; exact ⟨Finset.mem_univ _, by rw [hj]; exact hself⟩⟩
  unfold eAt
  rw [soft_kernel ((Finset.univ : Finset (Fin w)).filter fun j => p j ∈ vis s) hP
    (fun j => score X g Wm B s ⟨2 * hp + e, by omega⟩ (p j))
    (fun j => qkvR X g Wm (p j) ⟨2048 + (128 * hp + n.val), by omega⟩) (scoreAt q k b r) v
    (fun j hj => by rw [hsc, if_pos (Finset.mem_filter.mp hj).2])
    (fun j hj => by rw [hsc, if_neg (fun h => hj (Finset.mem_filter.mpr ⟨Finset.mem_univ _, h⟩))])
    (fun j _ => hv j)]
  congr 1
  unfold att
  have hh : (⟨(128 * hp + n.val) / 64, by omega⟩ : Fin 16) = ⟨2 * hp + e, by omega⟩ := Fin.ext (by
    show (128 * hp + n.val) / 64 = 2 * hp + e; omega)
  refine mean_reindex _ _ p _ _ _ _ (fun j hj => (Finset.mem_filter.mp hj).2) (fun i _ j _ h => ?_) (fun y hy => ?_)
    (fun j _ => by dsimp only; rw [hh]) (fun j _ => rfl)
  · have h' := congrArg Fin.val h
    rw [hp0, hp0] at h'
    exact Fin.ext (by omega)
  · obtain ⟨j, hj⟩ := hin y hy
    exact ⟨j, Finset.mem_filter.mpr ⟨Finset.mem_univ _, by rw [hj]; exact hy⟩, hj⟩

end

/-- A row of a tile. -/
def row (til : Fin 16) (r : Fin 512) : Fin 8192 := ⟨512 * til.val + r.val, by omega⟩

/-- The position of a buffer column in a tile: the tile before fills the first 512. -/
def posn (til : Fin 16) (c : Fin 1024) (hc : 512 ≤ 512 * til.val + c.val) : Fin 8192 := ⟨512 * til.val + c.val - 512, by omega⟩

/-- The scratch buffers hold the queries of a tile and the keys and values of the tile and the one before. -/
structure Holds (til : Fin 16) (Q : S512x1024.Idx → EReal) (KE KO VE VO : S1024x1024.Idx → EReal) : Prop where
  q : ∀ (r : Fin 512) (n : Fin 1024), Q (ix2 r n) = ((qkvR X g Wm (row til r) ⟨n.val, by omega⟩ : ℝ) : EReal)
    * Named.named (F := Ideal) (φ := .f32) κ "qscale" 0x3E38AA3B#32
  ke : ∀ (n c : Fin 1024) (hc : 512 ≤ 512 * til.val + c.val), KE (ix2 n c)
    = if n.val % 128 < 64 then ((qkvR X g Wm (posn til c hc) ⟨1024 + n.val, by omega⟩ : ℝ) : EReal) else 0
  ko : ∀ (n c : Fin 1024) (hc : 512 ≤ 512 * til.val + c.val), KO (ix2 n c)
    = if n.val % 128 < 64 then 0 else ((qkvR X g Wm (posn til c hc) ⟨1024 + n.val, by omega⟩ : ℝ) : EReal)
  ve : ∀ (c n : Fin 1024) (hc : 512 ≤ 512 * til.val + c.val), VE (ix2 c n)
    = if n.val % 128 < 64 then ((qkvR X g Wm (posn til c hc) ⟨2048 + n.val, by omega⟩ : ℝ) : EReal) else 0
  vo : ∀ (c n : Fin 1024) (hc : 512 ≤ 512 * til.val + c.val), VO (ix2 c n)
    = if n.val % 128 < 64 then 0 else ((qkvR X g Wm (posn til c hc) ⟨2048 + n.val, by omega⟩ : ℝ) : EReal)

/-- The bias table: the entry for a distance where the query's band reaches, −∞ elsewhere. -/
def IsBias (bias : S16x128x640.Idx → EReal) : Prop := ∀ (h : Fin 16) (r : Fin 128) (j : Fin 640), bias (ix3 h r j)
  = if (r.val < 64 ∧ j.val < 576) ∨ (64 ≤ r.val ∧ 64 ≤ j.val)
    then (((B h ⟨min (768 + r.val - j.val) 512, by omega⟩).toReal : ℝ) : EReal) else ⊥

section

variable {X g Wm B} {til : Fin 16} {Q : S512x1024.Idx → EReal} {KE KO VE VO : S1024x1024.Idx → EReal} {bias : S16x128x640.Idx → EReal}
  (H : Holds X g Wm til Q KE KO VE VO) (HB : IsBias B bias)

include H HB in
/-- The attention of a pair of heads on 128 rows of a tile. -/
theorem item_tile {w : ℕ} (W : Wd w) (r0 k0 hp : ℕ) (hhp : hp < 8) (hr : 128 ∣ r0) (hr0 : r0 + 128 ≤ 512) (hk : k0 + w = r0 + 640)
    (hw : w = 640 ∧ 1 ≤ til.val ∨ til.val = 0 ∧ k0 = 512) (hw' : w ≤ 640) (r n : Fin 128) :
    itemAt (F := Ideal) W Q KE KO VE VO bias r0 k0 hp (ix2 r n)
      = ((att X g Wm B (row til ⟨r0 + r.val, by omega⟩) ⟨128 * hp + n.val, by omega⟩ : ℝ) : EReal) := by
  have htil := til.isLt
  obtain ⟨u, hu⟩ := hr
  have hpos : ∀ j : Fin w, 512 ≤ 512 * til.val + (k0 + j.val) := fun j => by omega
  have hlt : ∀ j : Fin w, k0 + j.val < 1024 := fun j => by omega
  set s := row til ⟨r0 + r.val, by omega⟩ with hs
  have hsv : s.val = 512 * til.val + (r0 + r.val) := rfl
  let p : Fin w → Fin 8192 := fun j => posn til ⟨k0 + j.val, hlt j⟩ (hpos j)
  have hp0 : ∀ j : Fin w, (p j).val = (512 * til.val + k0 - 512) + j.val := fun j => by
    show 512 * til.val + (k0 + j.val) - 512 = _
    have := hpos j
    omega
  have hvis : ∀ y : Fin 8192, y ∈ vis s ↔ 64 * (s.val / 64) ≤ y.val + 512 ∧ y.val < 64 * (s.val / 64) + 64 := fun y => by
    unfold vis
    rw [Finset.mem_filter]
    exact ⟨fun h => h.2, fun h => ⟨Finset.mem_univ _, h⟩⟩
  have hlo : ∀ y ∈ vis s, 512 * til.val + k0 - 512 ≤ y.val := fun y hy => by have := (hvis y).mp hy; omega
  have hhi : ∀ y ∈ vis s, y.val < (512 * til.val + k0 - 512) + w := fun y hy => by have := (hvis y).mp hy; omega
  have hq : ∀ d : Fin 128, sub2 (A := 512) (B := 1024) Q r0 (128 * hp) 128 128 (ix2 r d)
      = ((qkvR X g Wm s ⟨128 * hp + d.val, by omega⟩ : ℝ) : EReal) * Named.named (F := Ideal) (φ := .f32) κ "qscale" 0x3E38AA3B#32 := fun d => by
    unfold sub2
    have e1 : Fin.ofNat 512 (r0 + r.val) = ⟨r0 + r.val, by omega⟩ := Fin.ext (Nat.mod_eq_of_lt (by omega))
    have e2 : Fin.ofNat 1024 (128 * hp + d.val) = ⟨128 * hp + d.val, by omega⟩ := Fin.ext (Nat.mod_eq_of_lt (by omega))
    exact (congrArg₂ (fun a b => Q (ix2 a b)) e1 e2).trans (H.q _ _)
  have hcol : ∀ d : Fin 128, Fin.ofNat 1024 (128 * hp + d.val) = ⟨128 * hp + d.val, by omega⟩ := fun d =>
    Fin.ext (Nat.mod_eq_of_lt (by omega))
  have hslot : ∀ j : Fin w, Fin.ofNat 1024 (k0 + j.val) = ⟨k0 + j.val, hlt j⟩ := fun j => Fin.ext (Nat.mod_eq_of_lt (hlt j))
  have hke : ∀ (d : Fin 128) (j : Fin w), sub2 (A := 1024) (B := 1024) KE (128 * hp) k0 128 w (ix2 d j)
      = if d.val / 64 = 0 then ((qkvR X g Wm (p j) ⟨1024 + (128 * hp + d.val), by omega⟩ : ℝ) : EReal) else 0 := fun d j => by
    refine ((congrArg₂ (fun a b => KE (ix2 a b)) (hcol d) (hslot j)).trans (H.ke _ _ (hpos j))).trans ?_
    exact if_congr (by show (128 * hp + d.val) % 128 < 64 ↔ _; omega) rfl rfl
  have hko : ∀ (d : Fin 128) (j : Fin w), sub2 (A := 1024) (B := 1024) KO (128 * hp) k0 128 w (ix2 d j)
      = if d.val / 64 = 1 then ((qkvR X g Wm (p j) ⟨1024 + (128 * hp + d.val), by omega⟩ : ℝ) : EReal) else 0 := fun d j => by
    refine ((congrArg₂ (fun a b => KO (ix2 a b)) (hcol d) (hslot j)).trans (H.ko _ _ (hpos j))).trans ?_
    rw [← ite_not]
    exact if_congr (by show ¬ (128 * hp + d.val) % 128 < 64 ↔ _; omega) rfl rfl
  have hve : ∀ (j : Fin w) (n : Fin 128), sub2 (A := 1024) (B := 1024) VE k0 (128 * hp) w 128 (ix2 j n)
      = if n.val < 64 then ((qkvR X g Wm (p j) ⟨2048 + (128 * hp + n.val), by omega⟩ : ℝ) : EReal) else 0 := fun j n => by
    refine ((congrArg₂ (fun a b => VE (ix2 a b)) (hslot j) (hcol n)).trans (H.ve _ _ (hpos j))).trans ?_
    exact if_congr (by show (128 * hp + n.val) % 128 < 64 ↔ _; omega) rfl rfl
  have hvo : ∀ (j : Fin w) (n : Fin 128), sub2 (A := 1024) (B := 1024) VO k0 (128 * hp) w 128 (ix2 j n)
      = if n.val < 64 then 0 else ((qkvR X g Wm (p j) ⟨2048 + (128 * hp + n.val), by omega⟩ : ℝ) : EReal) := fun j n => by
    refine ((congrArg₂ (fun a b => VO (ix2 a b)) (hslot j) (hcol n)).trans (H.vo _ _ (hpos j))).trans ?_
    exact if_congr (by show (128 * hp + n.val) % 128 < 64 ↔ _; omega) rfl rfl
  have hb : ∀ (e : ℕ) (he : e < 2) (j : Fin w), sub3 bias (2 * hp + e) (640 - w) w (ix3 (0 : Fin 1) r j)
      = if p j ∈ vis s then (((B ⟨2 * hp + e, by omega⟩ (rel s.val (p j).val)).toReal : ℝ) : EReal) else ⊥ := fun e he j => by
    have e1 : Fin.ofNat 16 (2 * hp + e) = ⟨2 * hp + e, by omega⟩ := Fin.ext (Nat.mod_eq_of_lt (by omega))
    have e2 : Fin.ofNat 128 r.val = r := Fin.ext (Nat.mod_eq_of_lt r.isLt)
    have e3 : Fin.ofNat 640 (640 - w + j.val) = ⟨640 - w + j.val, by omega⟩ := Fin.ext (Nat.mod_eq_of_lt (by omega))
    have e0 : sub3 bias (2 * hp + e) (640 - w) w (ix3 (0 : Fin 1) r j) = bias (ix3 (⟨2 * hp + e, by omega⟩ : Fin 16) r (⟨640 - w + j.val, by omega⟩ : Fin 640)) := by
      show bias (ix3 (Fin.ofNat 16 (2 * hp + e)) (Fin.ofNat 128 r.val) (Fin.ofNat 640 (640 - w + j.val))) = _
      rw [e1, e2, e3]
    rw [e0, HB]
    have hpj := hp0 j
    have hr' : rel s.val (p j).val = ⟨min (768 + r.val - (640 - w + j.val)) 512, by omega⟩ := Fin.ext (by
      show min (s.val + 256 - (p j).val) 512 = min (768 + r.val - (640 - w + j.val)) 512
      omega)
    rw [hr']
    refine if_congr ?_ rfl rfl
    rw [hvis]
    show (r.val < 64 ∧ 640 - w + j.val < 576) ∨ (64 ≤ r.val ∧ 64 ≤ 640 - w + j.val) ↔ _
    omega
  unfold itemAt
  rw [itemOf_apply W]
  by_cases hn : n.val < 64
  · have h2 : ∑ j : Fin w, eAt (sub2 (A := 512) (B := 1024) Q r0 (128 * hp) 128 128)
        (sub2 (A := 1024) (B := 1024) KO (128 * hp) k0 128 w) (sub3 bias (2 * hp + 1) (640 - w) w) r j
          * sub2 (A := 1024) (B := 1024) VO k0 (128 * hp) w 128 (ix2 j n) = 0 :=
      Finset.sum_eq_zero fun j _ => by rw [hvo, if_pos hn, mul_zero]
    rw [h2, add_zero, if_pos hn]
    exact head_att X g Wm B s p hp 0 hhp (by omega) _ _ _ r hq hke (hb 0 (by omega)) _ hp0 hlo hhi
      (fun j => sub2 (A := 1024) (B := 1024) VE k0 (128 * hp) w 128 (ix2 j n)) n (by omega) (fun j => by rw [hve, if_pos hn])
  · have h2 : ∑ j : Fin w, eAt (sub2 (A := 512) (B := 1024) Q r0 (128 * hp) 128 128)
        (sub2 (A := 1024) (B := 1024) KE (128 * hp) k0 128 w) (sub3 bias (2 * hp) (640 - w) w) r j
          * sub2 (A := 1024) (B := 1024) VE k0 (128 * hp) w 128 (ix2 j n) = 0 :=
      Finset.sum_eq_zero fun j _ => by rw [hve, if_neg hn, mul_zero]
    rw [h2, zero_add, if_neg hn]
    exact head_att X g Wm B s p hp 1 hhp (by omega) _ _ _ r hq hko (hb 1 (by omega)) _ hp0 hlo hhi
      (fun j => sub2 (A := 1024) (B := 1024) VO k0 (128 * hp) w 128 (ix2 j n)) n (by omega) (fun j => by rw [hvo, if_neg hn])

end

section

variable {X g Wm B} {til : Fin 16} {Q : S512x1024.Idx → EReal} {KE KO VE VO : S1024x1024.Idx → EReal} {bias : S16x128x640.Idx → EReal}
  (H : Holds X g Wm til Q KE KO VE VO) (HB : IsBias B bias)

include H HB in
/-- The attention rows of a first tile. -/
theorem attAll_A (ht : til.val = 0) (r : Fin 512) (n : Fin 1024) :
    attAll (F := Ideal) (itemA Q KE KO VE VO bias) (ix2 r n) = ((att X g Wm B (row til r) n : ℝ) : EReal) := by
  have hr := r.isLt
  have hn := n.isLt
  have key : ∀ {w : ℕ} (W : Wd w) (r0 k0 hp : ℕ) (h1 : r.val / 128 * 128 = r0) (h2 : n.val / 128 = hp) (hk : k0 + w = r0 + 640) (h3 : k0 = 512),
      itemAt (F := Ideal) W Q KE KO VE VO bias r0 k0 hp (ix2 (⟨r.val % 128, Nat.mod_lt _ (by decide)⟩ : Fin 128)
        (⟨n.val % 128, Nat.mod_lt _ (by decide)⟩ : Fin 128)) = ((att X g Wm B (row til r) n : ℝ) : EReal) := by
    intro w W r0 k0 hp h1 h2 hk h3
    rw [item_tile H HB W r0 k0 hp (by omega) (by omega) (by omega) hk (Or.inr ⟨ht, h3⟩) (by omega)]
    have e1 : (⟨r0 + r.val % 128, by omega⟩ : Fin 512) = r := Fin.ext (by show r0 + r.val % 128 = r.val; omega)
    have e2 : (⟨128 * hp + n.val % 128, by omega⟩ : Fin 1024) = n := Fin.ext (by show 128 * hp + n.val % 128 = n.val; omega)
    exact congrArg₂ (fun a b => ((att X g Wm B (row til a) b : ℝ) : EReal)) e1 e2
  show itemA (F := Ideal) Q KE KO VE VO bias (8 * (r.val / 128) + n.val / 128) (ix2 _ _) = _
  unfold itemA
  by_cases c1 : 8 * (r.val / 128) + n.val / 128 < 8
  · rw [if_pos c1]; exact key wd128 0 512 _ (by omega) (by omega) (by omega) rfl
  rw [if_neg c1]
  by_cases c2 : 8 * (r.val / 128) + n.val / 128 < 16
  · rw [if_pos c2]; exact key wd256 128 512 _ (by omega) (by omega) (by omega) rfl
  rw [if_neg c2]
  by_cases c3 : 8 * (r.val / 128) + n.val / 128 < 24
  · rw [if_pos c3]; exact key wd384 256 512 _ (by omega) (by omega) (by omega) rfl
  rw [if_neg c3]
  exact key wd512 384 512 _ (by omega) (by omega) (by omega) rfl

include H HB in
/-- The attention rows of a later tile. -/
theorem attAll_B (ht : 1 ≤ til.val) (r : Fin 512) (n : Fin 1024) :
    attAll (F := Ideal) (itemB Q KE KO VE VO bias) (ix2 r n) = ((att X g Wm B (row til r) n : ℝ) : EReal) := by
  have hr := r.isLt
  have hn := n.isLt
  show itemB (F := Ideal) Q KE KO VE VO bias (8 * (r.val / 128) + n.val / 128) (ix2 _ _) = _
  unfold itemB
  generalize h1 : 128 * ((8 * (r.val / 128) + n.val / 128) / 8) = r0
  generalize h2 : (8 * (r.val / 128) + n.val / 128) % 8 = hp
  have h1' : r.val / 128 * 128 = r0 := by omega
  have h2' : n.val / 128 = hp := by omega
  rw [item_tile H HB wd640 r0 r0 hp (by omega) (by omega) (by omega) rfl (Or.inl ⟨rfl, ht⟩) le_rfl]
  have e1 : (⟨r0 + r.val % 128, by omega⟩ : Fin 512) = r := Fin.ext (by show r0 + r.val % 128 = r.val; omega)
  have e2 : (⟨128 * hp + n.val % 128, by omega⟩ : Fin 1024) = n := Fin.ext (by show 128 * hp + n.val % 128 = n.val; omega)
  exact congrArg₂ (fun a b => ((att X g Wm B (row til a) b : ℝ) : EReal)) e1 e2

end

/-- The blocks a tile is launched on. -/
structure Blk (til : Fin 16) (x0 : S1x512x1024.Idx → EReal) (x1 : S1x1024.Idx → EReal) (x2 x3 x4 : S1024x1024.Idx → EReal) : Prop where
  x0 : ∀ (r : Fin 512) (d : Fin 1024), x0 (ix3 (0 : Fin 1) r d) = X (row til r) d
  x1 : ∀ d : Fin 1024, x1 (ix2 (0 : Fin 1) d) = g d
  x2 : ∀ k n : Fin 1024, x2 (ix2 k n) = Wm k ⟨n.val, by omega⟩
  x3 : ∀ n k : Fin 1024, x3 (ix2 n k) = Wm k ⟨1024 + n.val, by omega⟩
  x4 : ∀ k n : Fin 1024, x4 (ix2 k n) = Wm k ⟨2048 + n.val, by omega⟩

section

variable {X g Wm} (hg : ∀ d, Fin' (g d)) (hW : ∀ d n, Fin' (Wm d n))
  {til : Fin 16} {x0 : S1x512x1024.Idx → EReal} {x1 : S1x1024.Idx → EReal} {x2 x3 x4 : S1024x1024.Idx → EReal}
  (K : Blk X g Wm til x0 x1 x2 x3 x4)

include K in
theorem hAt_tile (r : Fin 512) (k : Fin 1024) : hAt x0 x1 r k = rms (X (row til r)) g k := by
  unfold hAt
  exact congrArg₂ (fun a b => rms a b k) (funext fun d => K.x0 r d) (funext fun d => K.x1 d)

include hg hW K in
theorem q_tile (r : Fin 512) (n : Fin 1024) : qOf (F := Ideal) x0 x1 x2 (ix2 r n) = ((qkvR X g Wm (row til r) ⟨n.val, by omega⟩ : ℝ) : EReal)
    * Named.named (F := Ideal) (φ := .f32) κ "qscale" 0x3E38AA3B#32 := by
  rw [qOf_apply, qkv_real X g Wm hg hW]
  refine congrArg (· * _) (Finset.sum_congr rfl fun k _ => ?_)
  rw [hAt_tile K, K.x2]

include hg hW K in
theorem k_tile (r : Fin 512) (n : Fin 1024) : ∑ k : Fin 1024, x3 (ix2 n k) * hAt x0 x1 r k
    = ((qkvR X g Wm (row til r) ⟨1024 + n.val, by omega⟩ : ℝ) : EReal) := by
  rw [qkv_real X g Wm hg hW]
  refine Finset.sum_congr rfl fun k _ => ?_
  rw [hAt_tile K, K.x3, mul_comm]

include hg hW K in
theorem v_tile (r : Fin 512) (n : Fin 1024) : ∑ k : Fin 1024, hAt x0 x1 r k * x4 (ix2 k n)
    = ((qkvR X g Wm (row til r) ⟨2048 + n.val, by omega⟩ : ℝ) : EReal) := by
  rw [qkv_real X g Wm hg hW]
  refine Finset.sum_congr rfl fun k _ => ?_
  rw [hAt_tile K, K.x4]

theorem row_posn (c : Fin 1024) (hc : 512 ≤ 512 * til.val + c.val) (h : 512 ≤ c.val) :
    row til ⟨(c.val - 512) % 512, Nat.mod_lt _ (by decide)⟩ = posn til c hc := Fin.ext (by
  show 512 * til.val + (c.val - 512) % 512 = 512 * til.val + c.val - 512
  omega)

theorem row_posn' {til' : Fin 16} (ht : til'.val + 1 = til.val) (c : Fin 1024) (hc : 512 ≤ 512 * til.val + c.val) (h : ¬ 512 ≤ c.val) :
    row til' ⟨c.val % 512, Nat.mod_lt _ (by decide)⟩ = posn til c hc := Fin.ext (by
  show 512 * til'.val + c.val % 512 = 512 * til.val + c.val - 512
  omega)

include hg hW K in
/-- The buffers of a tile hold its queries, keys and values, when the older columns do. -/
theorem holds (kc ko' vc vo' : S1024x1024.Idx → EReal)
    (h1 : ∀ (n c : Fin 1024) (hc : 512 ≤ 512 * til.val + c.val), ¬ 512 ≤ c.val → kc (ix2 n c)
      = if n.val % 128 < 64 then ((qkvR X g Wm (posn til c hc) ⟨1024 + n.val, by omega⟩ : ℝ) : EReal) else 0)
    (h2 : ∀ (n c : Fin 1024) (hc : 512 ≤ 512 * til.val + c.val), ¬ 512 ≤ c.val → ko' (ix2 n c)
      = if n.val % 128 < 64 then 0 else ((qkvR X g Wm (posn til c hc) ⟨1024 + n.val, by omega⟩ : ℝ) : EReal))
    (h3 : ∀ (c n : Fin 1024) (hc : 512 ≤ 512 * til.val + c.val), ¬ 512 ≤ c.val → vc (ix2 c n)
      = if n.val % 128 < 64 then ((qkvR X g Wm (posn til c hc) ⟨2048 + n.val, by omega⟩ : ℝ) : EReal) else 0)
    (h4 : ∀ (c n : Fin 1024) (hc : 512 ≤ 512 * til.val + c.val), ¬ 512 ≤ c.val → vo' (ix2 c n)
      = if n.val % 128 < 64 then 0 else ((qkvR X g Wm (posn til c hc) ⟨2048 + n.val, by omega⟩ : ℝ) : EReal)) :
    Holds X g Wm til (qOf (F := Ideal) x0 x1 x2) (bufC kc (keOf (F := Ideal) x0 x1 x3)) (bufC ko' (koOf (F := Ideal) x0 x1 x3))
      (bufR vc (veOf (F := Ideal) x0 x1 x4)) (bufR vo' (voOf (F := Ideal) x0 x1 x4)) where
  q := q_tile hg hW K
  ke n c hc := by
    unfold bufC
    by_cases h : 512 ≤ c.val
    · rw [if_pos (show 512 ≤ ((ix2 n c : S1024x1024.Idx) 1 : Fin 1024).val from h)]
      refine (keOf_apply x0 x1 x3 n _).trans ?_
      rw [k_tile hg hW K, ← row_posn c hc h]
      rfl
    · rw [if_neg (show ¬ 512 ≤ ((ix2 n c : S1024x1024.Idx) 1 : Fin 1024).val from h)]
      exact h1 n c hc h
  ko n c hc := by
    unfold bufC
    by_cases h : 512 ≤ c.val
    · rw [if_pos (show 512 ≤ ((ix2 n c : S1024x1024.Idx) 1 : Fin 1024).val from h)]
      refine (koOf_apply x0 x1 x3 n _).trans ?_
      rw [k_tile hg hW K, ← row_posn c hc h]
      rfl
    · rw [if_neg (show ¬ 512 ≤ ((ix2 n c : S1024x1024.Idx) 1 : Fin 1024).val from h)]
      exact h2 n c hc h
  ve c n hc := by
    unfold bufR
    by_cases h : 512 ≤ c.val
    · rw [if_pos (show 512 ≤ ((ix2 c n : S1024x1024.Idx) 0 : Fin 1024).val from h)]
      refine (veOf_apply x0 x1 x4 _ n).trans ?_
      rw [v_tile hg hW K, ← row_posn c hc h]
      rfl
    · rw [if_neg (show ¬ 512 ≤ ((ix2 c n : S1024x1024.Idx) 0 : Fin 1024).val from h)]
      exact h3 c n hc h
  vo c n hc := by
    unfold bufR
    by_cases h : 512 ≤ c.val
    · rw [if_pos (show 512 ≤ ((ix2 c n : S1024x1024.Idx) 0 : Fin 1024).val from h)]
      refine (voOf_apply x0 x1 x4 _ n).trans ?_
      rw [v_tile hg hW K, ← row_posn c hc h]
      rfl
    · rw [if_neg (show ¬ 512 ≤ ((ix2 c n : S1024x1024.Idx) 0 : Fin 1024).val from h)]
      exact h4 c n hc h

include hg hW K in
/-- In a first tile there are no older columns. -/
theorem holds_A (ht : til.val = 0) (kc ko' vc vo' : S1024x1024.Idx → EReal) :
    Holds X g Wm til (qOf (F := Ideal) x0 x1 x2) (bufC kc (keOf (F := Ideal) x0 x1 x3)) (bufC ko' (koOf (F := Ideal) x0 x1 x3))
      (bufR vc (veOf (F := Ideal) x0 x1 x4)) (bufR vo' (voOf (F := Ideal) x0 x1 x4)) :=
  holds hg hW K kc ko' vc vo' (fun n c hc h => absurd hc (by omega)) (fun n c hc h => absurd hc (by omega))
    (fun c n hc h => absurd hc (by omega)) (fun c n hc h => absurd hc (by omega))

include hg hW K in
/-- In a later tile the older columns are those of the tile before. -/
theorem holds_B {til' : Fin 16} (ht : til'.val + 1 = til.val) {y0 : S1x512x1024.Idx → EReal} {y1 : S1x1024.Idx → EReal}
    {y2 y3 y4 : S1024x1024.Idx → EReal} (K' : Blk X g Wm til' y0 y1 y2 y3 y4) :
    Holds X g Wm til (qOf (F := Ideal) x0 x1 x2)
      (bufC (carryC (keOf (F := Ideal) y0 y1 y3)) (keOf (F := Ideal) x0 x1 x3)) (bufC (carryC (koOf (F := Ideal) y0 y1 y3)) (koOf (F := Ideal) x0 x1 x3))
      (bufR (carryR (veOf (F := Ideal) y0 y1 y4)) (veOf (F := Ideal) x0 x1 x4)) (bufR (carryR (voOf (F := Ideal) y0 y1 y4)) (voOf (F := Ideal) x0 x1 x4)) :=
  holds hg hW K _ _ _ _
    (fun n c hc h => by
      unfold carryC
      refine (keOf_apply y0 y1 y3 n _).trans ?_
      rw [k_tile hg hW K', ← row_posn' ht c hc h]
      rfl)
    (fun n c hc h => by
      unfold carryC
      refine (koOf_apply y0 y1 y3 n _).trans ?_
      rw [k_tile hg hW K', ← row_posn' ht c hc h]
      rfl)
    (fun c n hc h => by
      unfold carryR
      refine (veOf_apply y0 y1 y4 _ n).trans ?_
      rw [v_tile hg hW K', ← row_posn' ht c hc h]
      rfl)
    (fun c n hc h => by
      unfold carryR
      refine (voOf_apply y0 y1 y4 _ n).trans ?_
      rw [v_tile hg hW K', ← row_posn' ht c hc h]
      rfl)

include K in
/-- The output block of a tile. -/
theorem out_tile (B : Fin 16 → Fin 513 → EReal) (wo : Fin 1024 → Fin 1024 → EReal) (a : S512x1024.Idx → EReal) (x5 : S1024x1024.Idx → EReal)
    (ha : ∀ r n, a (ix2 r n) = ((att X g Wm B (row til r) n : ℝ) : EReal)) (h5 : ∀ k n, x5 (ix2 k n) = wo k n) (r : Fin 512) (n : Fin 1024) :
    outOf (F := Ideal) x0 a x5 (ix3 (0 : Fin 1) r n) = AttSpec.out X g Wm B wo (row til r) n := by
  rw [outOf_apply, K.x0]
  unfold AttSpec.out
  refine congrArg (_ + ·) (Finset.sum_congr rfl fun k _ => ?_)
  rw [ha, h5]

end

end Cert.KernelIdeal.Att

end
-- ==== Proof.AttHost.lean ====
/- The operands the attention kernel is launched on, in exact arithmetic: the three parts of the projection weight, the keys' part
   transposed, and the bias table laid out by query and key position over two chunks of queries. -/
module

public import proofs.«01_k».proof.Proof.Gen.KernelIdeal.Value
public import proofs.«01_k».proof.Proof.AttTile
public import Idealize.ShloMosaic.Lib.Pointwise
public import Idealize.ShloMosaic.Lib.StableHlo.RunRead

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable (m : (ℓ : Loc nD τ sig) → Buf (Elt Ideal) ℓ)

/-- The layer's input. -/
abbrev argX (c : Dev nD) : S4x8192x1024.Idx → EReal := m ((c : Thread nD τ).loc main_arg0)
/-- The norm weight. -/
abbrev argG (c : Dev nD) : S1024.Idx → EReal := m ((c : Thread nD τ).loc main_arg1)
/-- The projection weight. -/
abbrev argW (c : Dev nD) : S1024x3072.Idx → EReal := m ((c : Thread nD τ).loc main_arg2)
/-- The relative position bias. -/
abbrev argB (c : Dev nD) : S16x513.Idx → EReal := m ((c : Thread nD τ).loc main_arg3)
/-- The output weight. -/
abbrev argO (c : Dev nD) : S1024x1024.Idx → EReal := m ((c : Thread nD τ).loc main_arg4)

/-- The kernel's norm weight. -/
abbrev opG (c : Dev nD) : S1x1024.Idx → EReal := V m c main_v0
/-- The kernel's query weight. -/
abbrev opQ (c : Dev nD) : S1024x1024.Idx → EReal := V m c main_v2
/-- The kernel's key weight, transposed. -/
abbrev opK (c : Dev nD) : S1024x1024.Idx → EReal := V m c main_v5
/-- The kernel's value weight. -/
abbrev opV (c : Dev nD) : S1024x1024.Idx → EReal := V m c main_v7
/-- The kernel's output weight. -/
abbrev opO (c : Dev nD) : S1024x1024.Idx → EReal := V m c main_v8
/-- The kernel's bias. -/
abbrev opB (c : Dev nD) : S16x128x640.Idx → EReal := V m c main_v158

theorem opG_eq (c : Dev nD) : opG m c = shapeCast S1x1024 (argG m c) shapeCasts_S1024_S1x1024 := by
  unfold_abbrev_sides
  after_reads_simp
  rfl

theorem opQ_eq (c : Dev nD) : opQ m c = extractStridedSlice S1024x1024 ![0, 0] (argW m c) slices_S1024x3072_S1024x1024_0_0 := by
  unfold_abbrev_sides
  after_reads_simp
  rfl

theorem opK_eq (c : Dev nD) : opK m c = transpose S1024x1024 [1, 0]
    (extractStridedSlice S1024x1024 ![0, 1024] (argW m c) slices_S1024x3072_S1024x1024_0_1024) transposes_S1024x1024_S1024x1024_1_0 := by
  unfold_abbrev_sides
  after_reads_simp
  rfl

theorem opV_eq (c : Dev nD) : opV m c = extractStridedSlice S1024x1024 ![0, 2048] (argW m c) slices_S1024x3072_S1024x1024_0_2048 := by
  unfold_abbrev_sides
  after_reads_simp
  rfl

theorem opO_eq (c : Dev nD) : opO m c = argO m c := by
  unfold_abbrev_sides
  after_reads_simp
  rfl

theorem opG_apply (c : Dev nD) (d : Fin 1024) : opG m c (ix2 (0 : Fin 1) d) = argG m c (ix1 d) := by
  rw [opG_eq]
  pointwise

theorem opQ_apply (c : Dev nD) (k n : Fin 1024) : opQ m c (ix2 k n) = argW m c (ix2 k (⟨n.val, by omega⟩ : Fin 3072)) := by
  rw [opQ_eq]
  pointwise

theorem opK_apply (c : Dev nD) (n k : Fin 1024) : opK m c (ix2 n k) = argW m c (ix2 k (⟨1024 + n.val, by omega⟩ : Fin 3072)) := by
  rw [opK_eq]
  pointwise

theorem opV_apply (c : Dev nD) (k n : Fin 1024) : opV m c (ix2 k n) = argW m c (ix2 k (⟨2048 + n.val, by omega⟩ : Fin 3072)) := by
  rw [opV_eq]
  pointwise

/-! ### The bias table -/

/-- The position of the bias entry at each place of a diagonal: 575 less the place, clipped to 256 either way, plus 256. -/
abbrev diagIx : IVec S639 32 :=
  addi (minsi (broadcastInDim S639 ![] bcast_S_S639 (constantI S_ 32 256#32))
    (maxsi (broadcastInDim S639 ![] bcast_S_S639 (constantI S_ 32 4294967040#32))
      (subi (broadcastInDim S639 ![] bcast_S_S639 (constantI S_ 32 575#32)) (iotaInDim S639 32 0))))
    (broadcastInDim S639 ![] bcast_S_S639 (constantI S_ 32 256#32))

/-- The diagonal of the bias table. -/
abbrev diagOf (b : S16x513.Idx → EReal) : S16x639.Idx → EReal :=
  Host.gather gather_S16x513_S639x1_S16x639_0_1_n_n_1_1_161 b (broadcastInDim S639x1 ![0] bcast_S639_S639x1_0
    (select (cmpi .slt diagIx (broadcastInDim S639 ![] bcast_S_S639 (constantI S_ 32 0#32)))
      (addi diagIx (broadcastInDim S639 ![] bcast_S_S639 (constantI S_ 32 513#32))) diagIx))

/-- The bias of one query: 576 places of the diagonal. -/
abbrev pc (D : S16x639.Idx → EReal) (o : ℕ) (h : S16x639.Slices ![0, o] S16x576) : S16x1x576.Idx → EReal :=
  broadcastInDim S16x1x576 ![0, 2] bcast_S16x576_S16x1x576_0_2 (extractStridedSlice S16x576 ![0, o] D h)

/-- Sixteen queries' biases, stacked. -/
abbrev stk (p : Fin 16 → S16x1x576.Idx → EReal) : S16x16x576.Idx → EReal :=
  concatenate S16x16x576 1 [⟨S16x1x576, p 0⟩,
   ⟨S16x1x576, p 1⟩,
   ⟨S16x1x576, p 2⟩,
   ⟨S16x1x576, p 3⟩,
   ⟨S16x1x576, p 4⟩,
   ⟨S16x1x576, p 5⟩,
   ⟨S16x1x576, p 6⟩,
   ⟨S16x1x576, p 7⟩,
   ⟨S16x1x576, p 8⟩,
   ⟨S16x1x576, p 9⟩,
   ⟨S16x1x576, p 10⟩,
   ⟨S16x1x576, p 11⟩,
   ⟨S16x1x576, p 12⟩,
   ⟨S16x1x576, p 13⟩,
   ⟨S16x1x576, p 14⟩,
   ⟨S16x1x576, p 15⟩]
    concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1

/-- The queries from 0 on. -/
abbrev stk0 (D : S16x639.Idx → EReal) : S16x16x576.Idx → EReal := stk ![
  pc D 63 slices_S16x639_S16x576_0_63,
  pc D 62 slices_S16x639_S16x576_0_62,
  pc D 61 slices_S16x639_S16x576_0_61,
  pc D 60 slices_S16x639_S16x576_0_60,
  pc D 59 slices_S16x639_S16x576_0_59,
  pc D 58 slices_S16x639_S16x576_0_58,
  pc D 57 slices_S16x639_S16x576_0_57,
  pc D 56 slices_S16x639_S16x576_0_56,
  pc D 55 slices_S16x639_S16x576_0_55,
  pc D 54 slices_S16x639_S16x576_0_54,
  pc D 53 slices_S16x639_S16x576_0_53,
  pc D 52 slices_S16x639_S16x576_0_52,
  pc D 51 slices_S16x639_S16x576_0_51,
  pc D 50 slices_S16x639_S16x576_0_50,
  pc D 49 slices_S16x639_S16x576_0_49,
  pc D 48 slices_S16x639_S16x576_0_48]

/-- The queries from 16 on. -/
abbrev stk1 (D : S16x639.Idx → EReal) : S16x16x576.Idx → EReal := stk ![
  pc D 47 slices_S16x639_S16x576_0_47,
  pc D 46 slices_S16x639_S16x576_0_46,
  pc D 45 slices_S16x639_S16x576_0_45,
  pc D 44 slices_S16x639_S16x576_0_44,
  pc D 43 slices_S16x639_S16x576_0_43,
  pc D 42 slices_S16x639_S16x576_0_42,
  pc D 41 slices_S16x639_S16x576_0_41,
  pc D 40 slices_S16x639_S16x576_0_40,
  pc D 39 slices_S16x639_S16x576_0_39,
  pc D 38 slices_S16x639_S16x576_0_38,
  pc D 37 slices_S16x639_S16x576_0_37,
  pc D 36 slices_S16x639_S16x576_0_36,
  pc D 35 slices_S16x639_S16x576_0_35,
  pc D 34 slices_S16x639_S16x576_0_34,
  pc D 33 slices_S16x639_S16x576_0_33,
  pc D 32 slices_S16x639_S16x576_0_32]

/-- The queries from 32 on. -/
abbrev stk2 (D : S16x639.Idx → EReal) : S16x16x576.Idx → EReal := stk ![
  pc D 31 slices_S16x639_S16x576_0_31,
  pc D 30 slices_S16x639_S16x576_0_30,
  pc D 29 slices_S16x639_S16x576_0_29,
  pc D 28 slices_S16x639_S16x576_0_28,
  pc D 27 slices_S16x639_S16x576_0_27,
  pc D 26 slices_S16x639_S16x576_0_26,
  pc D 25 slices_S16x639_S16x576_0_25,
  pc D 24 slices_S16x639_S16x576_0_24,
  pc D 23 slices_S16x639_S16x576_0_23,
  pc D 22 slices_S16x639_S16x576_0_22,
  pc D 21 slices_S16x639_S16x576_0_21,
  pc D 20 slices_S16x639_S16x576_0_20,
  pc D 19 slices_S16x639_S16x576_0_19,
  pc D 18 slices_S16x639_S16x576_0_18,
  pc D 17 slices_S16x639_S16x576_0_17,
  pc D 16 slices_S16x639_S16x576_0_16]

/-- The queries from 48 on. -/
abbrev stk3 (D : S16x639.Idx → EReal) : S16x16x576.Idx → EReal := stk ![
  pc D 15 slices_S16x639_S16x576_0_15,
  pc D 14 slices_S16x639_S16x576_0_14,
  pc D 13 slices_S16x639_S16x576_0_13,
  pc D 12 slices_S16x639_S16x576_0_12,
  pc D 11 slices_S16x639_S16x576_0_11,
  pc D 10 slices_S16x639_S16x576_0_10,
  pc D 9 slices_S16x639_S16x576_0_9,
  pc D 8 slices_S16x639_S16x576_0_8,
  pc D 7 slices_S16x639_S16x576_0_7,
  pc D 6 slices_S16x639_S16x576_0_6,
  pc D 5 slices_S16x639_S16x576_0_5,
  pc D 4 slices_S16x639_S16x576_0_4,
  pc D 3 slices_S16x639_S16x576_0_3,
  pc D 2 slices_S16x639_S16x576_0_2,
  pc D 1 slices_S16x639_S16x576_0_1,
  pc D 0 slices_S16x639_S16x576_0_0]

/-- The biases of a chunk of 64 queries. -/
abbrev bandOf (D : S16x639.Idx → EReal) : S16x64x576.Idx → EReal :=
  concatenate S16x64x576 1 [⟨S16x16x576, stk0 D⟩, ⟨S16x16x576, stk1 D⟩, ⟨S16x16x576, stk2 D⟩, ⟨S16x16x576, stk3 D⟩]
    concatenates_S16x16x576_S16x16x576_S16x16x576_S16x16x576_S16x64x576_d1

/-- The mask: −∞. -/
abbrev maskOf : S16x64x64.Idx → EReal := broadcastInDim S16x64x64 ![] bcast_S_S16x64x64 (constant (F := Ideal) S_ .f32 0xFF800000#32)

/-- The kernel's bias from the chunk's: two chunks of queries, the second one's band 64 places further on. -/
abbrev twoOf (b : S16x64x576.Idx → EReal) (z : S16x64x64.Idx → EReal) : S16x128x640.Idx → EReal :=
  concatenate S16x128x640 1
    [⟨S16x64x640, concatenate S16x64x640 2 [⟨S16x64x576, b⟩, ⟨S16x64x64, z⟩] concatenates_S16x64x576_S16x64x64_S16x64x640_d2⟩,
     ⟨S16x64x640, concatenate S16x64x640 2 [⟨S16x64x64, z⟩, ⟨S16x64x576, b⟩] concatenates_S16x64x64_S16x64x576_S16x64x640_d2⟩]
    concatenates_S16x64x640_S16x64x640_S16x128x640_d1

end Cert.KernelIdeal.Att

end
-- ==== Proof.AttPieceU.lean ====
/- A buffer of the host program part of the way through. -/
module

public import proofs.«01_k».proof.Proof.AttHost

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable (m : (ℓ : Loc nD τ sig) → Buf (Elt Ideal) ℓ)

/-- A buffer after the first `n` host operations. -/
abbrev U (n : ℕ) (c : Dev nD) (b : Ref sig .tc) : Buf (Elt Ideal) ((c : Thread nD τ).loc b) :=
  StableHlo.upto (List.flatten [hostOps0, hostOps0_1, hostOps0_2]) (fun b => m (c, b)) n (Proc.devRef .tc b)

end Cert.KernelIdeal.Att

end
-- ==== Proof.AttPieceA.lean ====
/- The bias operand's pieces, first half: what each query's piece holds when the stacks are built. -/
module

public import proofs.«01_k».proof.Proof.AttPieceU

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 2000000 in
theorem rd86 (c : Dev nD) : (U m 161 c main_v86 : S16x1x576.Idx → EReal) = pc (diagOf (argB m c)) 63 slices_S16x639_S16x576_0_63 := by
  unfold U
  after_reads_simp
  rfl

set_option maxHeartbeats 2000000 in
theorem rd87 (c : Dev nD) : (U m 161 c main_v87 : S16x1x576.Idx → EReal) = pc (diagOf (argB m c)) 62 slices_S16x639_S16x576_0_62 := by
  unfold U
  after_reads_simp
  rfl

set_option maxHeartbeats 2000000 in
theorem rd88 (c : Dev nD) : (U m 161 c main_v88 : S16x1x576.Idx → EReal) = pc (diagOf (argB m c)) 61 slices_S16x639_S16x576_0_61 := by
  unfold U
  after_reads_simp
  rfl

set_option maxHeartbeats 2000000 in
theorem rd89 (c : Dev nD) : (U m 161 c main_v89 : S16x1x576.Idx → EReal) = pc (diagOf (argB m c)) 60 slices_S16x639_S16x576_0_60 := by
  unfold U
  after_reads_simp
  rfl

set_option maxHeartbeats 2000000 in
theorem rd90 (c : Dev nD) : (U m 161 c main_v90 : S16x1x576.Idx → EReal) = pc (diagOf (argB m c)) 59 slices_S16x639_S16x576_0_59 := by
  unfold U
  after_reads_simp
  rfl

set_option maxHeartbeats 2000000 in
theorem rd91 (c : Dev nD) : (U m 161 c main_v91 : S16x1x576.Idx → EReal) = pc (diagOf (argB m c)) 58 slices_S16x639_S16x576_0_58 := by
  unfold U
  after_reads_simp
  rfl

set_option maxHeartbeats 2000000 in
theorem rd92 (c : Dev nD) : (U m 161 c main_v92 : S16x1x576.Idx → EReal) = pc (diagOf (argB m c)) 57 slices_S16x639_S16x576_0_57 := by
  unfold U
  after_reads_simp
  rfl

set_option maxHeartbeats 2000000 in
theorem rd93 (c : Dev nD) : (U m 161 c main_v93 : S16x1x576.Idx → EReal) = pc (diagOf (argB m c)) 56 slices_S16x639_S16x576_0_56 := by
  unfold U
  after_reads_simp
  rfl

set_option maxHeartbeats 2000000 in
theorem rd94 (c : Dev nD) : (U m 161 c main_v94 : S16x1x576.Idx → EReal) = pc (diagOf (argB m c)) 55 slices_S16x639_S16x576_0_55 := by
  unfold U
  after_reads_simp
  rfl

set_option maxHeartbeats 2000000 in
theorem rd95 (c : Dev nD) : (U m 161 c main_v95 : S16x1x576.Idx → EReal) = pc (diagOf (argB m c)) 54 slices_S16x639_S16x576_0_54 := by
  unfold U
  after_reads_simp
  rfl

set_option maxHeartbeats 2000000 in
theorem rd96 (c : Dev nD) : (U m 161 c main_v96 : S16x1x576.Idx → EReal) = pc (diagOf (argB m c)) 53 slices_S16x639_S16x576_0_53 := by
  unfold U
  after_reads_simp
  rfl

set_option maxHeartbeats 2000000 in
theorem rd97 (c : Dev nD) : (U m 161 c main_v97 : S16x1x576.Idx → EReal) = pc (diagOf (argB m c)) 52 slices_S16x639_S16x576_0_52 := by
  unfold U
  after_reads_simp
  rfl

set_option maxHeartbeats 2000000 in
theorem rd98 (c : Dev nD) : (U m 161 c main_v98 : S16x1x576.Idx → EReal) = pc (diagOf (argB m c)) 51 slices_S16x639_S16x576_0_51 := by
  unfold U
  after_reads_simp
  rfl

set_option maxHeartbeats 2000000 in
theorem rd99 (c : Dev nD) : (U m 161 c main_v99 : S16x1x576.Idx → EReal) = pc (diagOf (argB m c)) 50 slices_S16x639_S16x576_0_50 := by
  unfold U
  after_reads_simp
  rfl

set_option maxHeartbeats 2000000 in
theorem rd100 (c : Dev nD) : (U m 161 c main_v100 : S16x1x576.Idx → EReal) = pc (diagOf (argB m c)) 49 slices_S16x639_S16x576_0_49 := by
  unfold U
  after_reads_simp
  rfl

set_option maxHeartbeats 2000000 in
theorem rd101 (c : Dev nD) : (U m 161 c main_v101 : S16x1x576.Idx → EReal) = pc (diagOf (argB m c)) 48 slices_S16x639_S16x576_0_48 := by
  unfold U
  after_reads_simp
  rfl

set_option maxHeartbeats 2000000 in
theorem rd102 (c : Dev nD) : (U m 162 c main_v102 : S16x1x576.Idx → EReal) = pc (diagOf (argB m c)) 47 slices_S16x639_S16x576_0_47 := by
  unfold U
  after_reads_simp
  rfl

set_option maxHeartbeats 2000000 in
theorem rd103 (c : Dev nD) : (U m 162 c main_v103 : S16x1x576.Idx → EReal) = pc (diagOf (argB m c)) 46 slices_S16x639_S16x576_0_46 := by
  unfold U
  after_reads_simp
  rfl

set_option maxHeartbeats 2000000 in
theorem rd104 (c : Dev nD) : (U m 162 c main_v104 : S16x1x576.Idx → EReal) = pc (diagOf (argB m c)) 45 slices_S16x639_S16x576_0_45 := by
  unfold U
  after_reads_simp
  rfl

set_option maxHeartbeats 2000000 in
theorem rd105 (c : Dev nD) : (U m 162 c main_v105 : S16x1x576.Idx → EReal) = pc (diagOf (argB m c)) 44 slices_S16x639_S16x576_0_44 := by
  unfold U
  after_reads_simp
  rfl

set_option maxHeartbeats 2000000 in
theorem rd106 (c : Dev nD) : (U m 162 c main_v106 : S16x1x576.Idx → EReal) = pc (diagOf (argB m c)) 43 slices_S16x639_S16x576_0_43 := by
  unfold U
  after_reads_simp
  rfl

set_option maxHeartbeats 2000000 in
theorem rd107 (c : Dev nD) : (U m 162 c main_v107 : S16x1x576.Idx → EReal) = pc (diagOf (argB m c)) 42 slices_S16x639_S16x576_0_42 := by
  unfold U
  after_reads_simp
  rfl

set_option maxHeartbeats 2000000 in
theorem rd108 (c : Dev nD) : (U m 162 c main_v108 : S16x1x576.Idx → EReal) = pc (diagOf (argB m c)) 41 slices_S16x639_S16x576_0_41 := by
  unfold U
  after_reads_simp
  rfl

set_option maxHeartbeats 2000000 in
theorem rd109 (c : Dev nD) : (U m 162 c main_v109 : S16x1x576.Idx → EReal) = pc (diagOf (argB m c)) 40 slices_S16x639_S16x576_0_40 := by
  unfold U
  after_reads_simp
  rfl

set_option maxHeartbeats 2000000 in
theorem rd110 (c : Dev nD) : (U m 162 c main_v110 : S16x1x576.Idx → EReal) = pc (diagOf (argB m c)) 39 slices_S16x639_S16x576_0_39 := by
  unfold U
  after_reads_simp
  rfl

set_option maxHeartbeats 2000000 in
theorem rd111 (c : Dev nD) : (U m 162 c main_v111 : S16x1x576.Idx → EReal) = pc (diagOf (argB m c)) 38 slices_S16x639_S16x576_0_38 := by
  unfold U
  after_reads_simp
  rfl

set_option maxHeartbeats 2000000 in
theorem rd112 (c : Dev nD) : (U m 162 c main_v112 : S16x1x576.Idx → EReal) = pc (diagOf (argB m c)) 37 slices_S16x639_S16x576_0_37 := by
  unfold U
  after_reads_simp
  rfl

set_option maxHeartbeats 2000000 in
theorem rd113 (c : Dev nD) : (U m 162 c main_v113 : S16x1x576.Idx → EReal) = pc (diagOf (argB m c)) 36 slices_S16x639_S16x576_0_36 := by
  unfold U
  after_reads_simp
  rfl

set_option maxHeartbeats 2000000 in
theorem rd114 (c : Dev nD) : (U m 162 c main_v114 : S16x1x576.Idx → EReal) = pc (diagOf (argB m c)) 35 slices_S16x639_S16x576_0_35 := by
  unfold U
  after_reads_simp
  rfl

set_option maxHeartbeats 2000000 in
theorem rd115 (c : Dev nD) : (U m 162 c main_v115 : S16x1x576.Idx → EReal) = pc (diagOf (argB m c)) 34 slices_S16x639_S16x576_0_34 := by
  unfold U
  after_reads_simp
  rfl

set_option maxHeartbeats 2000000 in
theorem rd116 (c : Dev nD) : (U m 162 c main_v116 : S16x1x576.Idx → EReal) = pc (diagOf (argB m c)) 33 slices_S16x639_S16x576_0_33 := by
  unfold U
  after_reads_simp
  rfl

set_option maxHeartbeats 2000000 in
theorem rd117 (c : Dev nD) : (U m 162 c main_v117 : S16x1x576.Idx → EReal) = pc (diagOf (argB m c)) 32 slices_S16x639_S16x576_0_32 := by
  unfold U
  after_reads_simp
  rfl

end Cert.KernelIdeal.Att

end
-- ==== Proof.AttPieceB.lean ====
/- The bias operand's pieces, second half. -/
module

public import proofs.«01_k».proof.Proof.AttPieceU

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 2000000 in
theorem rd118 (c : Dev nD) : (U m 163 c main_v118 : S16x1x576.Idx → EReal) = pc (diagOf (argB m c)) 31 slices_S16x639_S16x576_0_31 := by
  unfold U
  after_reads_simp
  rfl

set_option maxHeartbeats 2000000 in
theorem rd119 (c : Dev nD) : (U m 163 c main_v119 : S16x1x576.Idx → EReal) = pc (diagOf (argB m c)) 30 slices_S16x639_S16x576_0_30 := by
  unfold U
  after_reads_simp
  rfl

set_option maxHeartbeats 2000000 in
theorem rd120 (c : Dev nD) : (U m 163 c main_v120 : S16x1x576.Idx → EReal) = pc (diagOf (argB m c)) 29 slices_S16x639_S16x576_0_29 := by
  unfold U
  after_reads_simp
  rfl

set_option maxHeartbeats 2000000 in
theorem rd121 (c : Dev nD) : (U m 163 c main_v121 : S16x1x576.Idx → EReal) = pc (diagOf (argB m c)) 28 slices_S16x639_S16x576_0_28 := by
  unfold U
  after_reads_simp
  rfl

set_option maxHeartbeats 2000000 in
theorem rd122 (c : Dev nD) : (U m 163 c main_v122 : S16x1x576.Idx → EReal) = pc (diagOf (argB m c)) 27 slices_S16x639_S16x576_0_27 := by
  unfold U
  after_reads_simp
  rfl

set_option maxHeartbeats 2000000 in
theorem rd123 (c : Dev nD) : (U m 163 c main_v123 : S16x1x576.Idx → EReal) = pc (diagOf (argB m c)) 26 slices_S16x639_S16x576_0_26 := by
  unfold U
  after_reads_simp
  rfl

set_option maxHeartbeats 2000000 in
theorem rd124 (c : Dev nD) : (U m 163 c main_v124 : S16x1x576.Idx → EReal) = pc (diagOf (argB m c)) 25 slices_S16x639_S16x576_0_25 := by
  unfold U
  after_reads_simp
  rfl

set_option maxHeartbeats 2000000 in
theorem rd125 (c : Dev nD) : (U m 163 c main_v125 : S16x1x576.Idx → EReal) = pc (diagOf (argB m c)) 24 slices_S16x639_S16x576_0_24 := by
  unfold U
  after_reads_simp
  rfl

set_option maxHeartbeats 2000000 in
theorem rd126 (c : Dev nD) : (U m 163 c main_v126 : S16x1x576.Idx → EReal) = pc (diagOf (argB m c)) 23 slices_S16x639_S16x576_0_23 := by
  unfold U
  after_reads_simp
  rfl

set_option maxHeartbeats 2000000 in
theorem rd127 (c : Dev nD) : (U m 163 c main_v127 : S16x1x576.Idx → EReal) = pc (diagOf (argB m c)) 22 slices_S16x639_S16x576_0_22 := by
  unfold U
  after_reads_simp
  rfl

set_option maxHeartbeats 2000000 in
theorem rd128 (c : Dev nD) : (U m 163 c main_v128 : S16x1x576.Idx → EReal) = pc (diagOf (argB m c)) 21 slices_S16x639_S16x576_0_21 := by
  unfold U
  after_reads_simp
  rfl

set_option maxHeartbeats 2000000 in
theorem rd129 (c : Dev nD) : (U m 163 c main_v129 : S16x1x576.Idx → EReal) = pc (diagOf (argB m c)) 20 slices_S16x639_S16x576_0_20 := by
  unfold U
  after_reads_simp
  rfl

set_option maxHeartbeats 2000000 in
theorem rd130 (c : Dev nD) : (U m 163 c main_v130 : S16x1x576.Idx → EReal) = pc (diagOf (argB m c)) 19 slices_S16x639_S16x576_0_19 := by
  unfold U
  after_reads_simp
  rfl

set_option maxHeartbeats 2000000 in
theorem rd131 (c : Dev nD) : (U m 163 c main_v131 : S16x1x576.Idx → EReal) = pc (diagOf (argB m c)) 18 slices_S16x639_S16x576_0_18 := by
  unfold U
  after_reads_simp
  rfl

set_option maxHeartbeats 2000000 in
theorem rd132 (c : Dev nD) : (U m 163 c main_v132 : S16x1x576.Idx → EReal) = pc (diagOf (argB m c)) 17 slices_S16x639_S16x576_0_17 := by
  unfold U
  after_reads_simp
  rfl

set_option maxHeartbeats 2000000 in
theorem rd133 (c : Dev nD) : (U m 163 c main_v133 : S16x1x576.Idx → EReal) = pc (diagOf (argB m c)) 16 slices_S16x639_S16x576_0_16 := by
  unfold U
  after_reads_simp
  rfl

set_option maxHeartbeats 2000000 in
theorem rd134 (c : Dev nD) : (U m 164 c main_v134 : S16x1x576.Idx → EReal) = pc (diagOf (argB m c)) 15 slices_S16x639_S16x576_0_15 := by
  unfold U
  after_reads_simp
  rfl

set_option maxHeartbeats 2000000 in
theorem rd135 (c : Dev nD) : (U m 164 c main_v135 : S16x1x576.Idx → EReal) = pc (diagOf (argB m c)) 14 slices_S16x639_S16x576_0_14 := by
  unfold U
  after_reads_simp
  rfl

set_option maxHeartbeats 2000000 in
theorem rd136 (c : Dev nD) : (U m 164 c main_v136 : S16x1x576.Idx → EReal) = pc (diagOf (argB m c)) 13 slices_S16x639_S16x576_0_13 := by
  unfold U
  after_reads_simp
  rfl

set_option maxHeartbeats 2000000 in
theorem rd137 (c : Dev nD) : (U m 164 c main_v137 : S16x1x576.Idx → EReal) = pc (diagOf (argB m c)) 12 slices_S16x639_S16x576_0_12 := by
  unfold U
  after_reads_simp
  rfl

set_option maxHeartbeats 2000000 in
theorem rd138 (c : Dev nD) : (U m 164 c main_v138 : S16x1x576.Idx → EReal) = pc (diagOf (argB m c)) 11 slices_S16x639_S16x576_0_11 := by
  unfold U
  after_reads_simp
  rfl

set_option maxHeartbeats 2000000 in
theorem rd139 (c : Dev nD) : (U m 164 c main_v139 : S16x1x576.Idx → EReal) = pc (diagOf (argB m c)) 10 slices_S16x639_S16x576_0_10 := by
  unfold U
  after_reads_simp
  rfl

set_option maxHeartbeats 2000000 in
theorem rd140 (c : Dev nD) : (U m 164 c main_v140 : S16x1x576.Idx → EReal) = pc (diagOf (argB m c)) 9 slices_S16x639_S16x576_0_9 := by
  unfold U
  after_reads_simp
  rfl

set_option maxHeartbeats 2000000 in
theorem rd141 (c : Dev nD) : (U m 164 c main_v141 : S16x1x576.Idx → EReal) = pc (diagOf (argB m c)) 8 slices_S16x639_S16x576_0_8 := by
  unfold U
  after_reads_simp
  rfl

set_option maxHeartbeats 2000000 in
theorem rd142 (c : Dev nD) : (U m 164 c main_v142 : S16x1x576.Idx → EReal) = pc (diagOf (argB m c)) 7 slices_S16x639_S16x576_0_7 := by
  unfold U
  after_reads_simp
  rfl

set_option maxHeartbeats 2000000 in
theorem rd143 (c : Dev nD) : (U m 164 c main_v143 : S16x1x576.Idx → EReal) = pc (diagOf (argB m c)) 6 slices_S16x639_S16x576_0_6 := by
  unfold U
  after_reads_simp
  rfl

set_option maxHeartbeats 2000000 in
theorem rd144 (c : Dev nD) : (U m 164 c main_v144 : S16x1x576.Idx → EReal) = pc (diagOf (argB m c)) 5 slices_S16x639_S16x576_0_5 := by
  unfold U
  after_reads_simp
  rfl

set_option maxHeartbeats 2000000 in
theorem rd145 (c : Dev nD) : (U m 164 c main_v145 : S16x1x576.Idx → EReal) = pc (diagOf (argB m c)) 4 slices_S16x639_S16x576_0_4 := by
  unfold U
  after_reads_simp
  rfl

set_option maxHeartbeats 2000000 in
theorem rd146 (c : Dev nD) : (U m 164 c main_v146 : S16x1x576.Idx → EReal) = pc (diagOf (argB m c)) 3 slices_S16x639_S16x576_0_3 := by
  unfold U
  after_reads_simp
  rfl

set_option maxHeartbeats 2000000 in
theorem rd147 (c : Dev nD) : (U m 164 c main_v147 : S16x1x576.Idx → EReal) = pc (diagOf (argB m c)) 2 slices_S16x639_S16x576_0_2 := by
  unfold U
  after_reads_simp
  rfl

set_option maxHeartbeats 2000000 in
theorem rd148 (c : Dev nD) : (U m 164 c main_v148 : S16x1x576.Idx → EReal) = pc (diagOf (argB m c)) 1 slices_S16x639_S16x576_0_1 := by
  unfold U
  after_reads_simp
  rfl

set_option maxHeartbeats 2000000 in
theorem rd149 (c : Dev nD) : (U m 164 c main_v149 : S16x1x576.Idx → EReal) = pc (diagOf (argB m c)) 0 slices_S16x639_S16x576_0_0 := by
  unfold U
  after_reads_simp
  rfl

end Cert.KernelIdeal.Att

end
-- ==== Proof.AttBias.lean ====
/- The kernel's bias operand, read at an index: two chunks of queries against 640 keys, the bias entry inside the band and −∞ outside. -/
module

public import proofs.«01_k».proof.Proof.AttHost
public import proofs.«01_k».proof.Proof.AttTile

@[expose] public section

noncomputable section

namespace Cert.KernelIdeal.Att

open Cert.KernelIdeal Cert.KernelIdeal.Gen Cert.AttSpec
open Idealize.ShloMosaic Idealize.ShloMosaic.TcCoe

/-- A gather along the table's second axis, at an index. -/
theorem gather_diag (x : S16x513.Idx → EReal) (idx : IVec S639x1 32) (h : Fin 16) (t : Fin 639) :
    Host.gather gather_S16x513_S639x1_S16x639_0_1_n_n_1_1_161 x idx (ix2 h t)
      = x (ix2 h (⟨min (idx (ix2 t (0 : Fin 1))).toInt.toNat 512, by omega⟩ : Fin 513)) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    unfold GatherDims.start GatherDims.offCoord
    rw [dif_neg (by decide +revert), dif_pos (by decide +revert), Nat.zero_add]
    rfl
  | ⟨1, _⟩ =>
    unfold GatherDims.start GatherDims.offCoord
    rw [dif_pos (by decide +revert), dif_neg (by decide +revert), Nat.add_zero]
    show min _ 512 = min _ 512
    refine congrArg (fun z => min (idx z).toInt.toNat 512) (funext fun b => ?_)
    match b with
    | ⟨0, _⟩ => rfl
    | ⟨1, _⟩ => rfl

/-- Which entry a place of the diagonal holds. -/
theorem diag_word : ∀ t : Fin 639, min (Scalar.select
    (IntOp.cmpi .slt (IntOp.addi (IntOp.minsi 256#32 (IntOp.maxsi 4294967040#32 (IntOp.subi 575#32 (BitVec.ofNat 32 t.val)))) 256#32) 0#32)
    (IntOp.addi (IntOp.addi (IntOp.minsi 256#32 (IntOp.maxsi 4294967040#32 (IntOp.subi 575#32 (BitVec.ofNat 32 t.val)))) 256#32) 513#32)
    (IntOp.addi (IntOp.minsi 256#32 (IntOp.maxsi 4294967040#32 (IntOp.subi 575#32 (BitVec.ofNat 32 t.val)))) 256#32)).toInt.toNat 512
    = min (831 - t.val) 512 := by
  decide +kernel

theorem diagOf_apply (b : S16x513.Idx → EReal) (h : Fin 16) (t : Fin 639) :
    diagOf b (ix2 h t) = b (ix2 h (⟨min (831 - t.val) 512, by omega⟩ : Fin 513)) := by
  unfold diagOf diagIx
  rw [gather_diag]
  refine congrArg (fun p => b (ix2 h p)) (Fin.ext ?_)
  refine Eq.trans ?_ (diag_word t)
  dsimp only
  refine congrArg (fun w : BitVec 32 => min w.toInt.toNat 512) ?_
  pointwise

/-- One query's biases. -/
theorem pc_apply (D : S16x639.Idx → EReal) (o : ℕ) (ho : o ≤ 63) (hs : S16x639.Slices ![0, o] S16x576) (h : Fin 16) (j : Fin 576) :
    pc D o hs (ix3 h (0 : Fin 1) j) = D (ix2 h (⟨o + j.val, by omega⟩ : Fin 639)) := by
  unfold pc
  pointwise

/-- Sixteen queries' biases, at one of them. -/
theorem stk_apply (p : Fin 16 → S16x1x576.Idx → EReal) (h : Fin 16) (i : Fin 16) (j : Fin 576) :
    stk p (ix3 h i j) = p i (ix3 h (0 : Fin 1) j) := by
  unfold stk
  fin_cases i <;> pointwise

theorem bandOf_pick (D : S16x639.Idx → EReal) (h : Fin 16) (q : Fin 64) (j : Fin 576) :
    bandOf D (ix3 h q j) = (if q.val < 16 then stk0 D else if q.val < 32 then stk1 D else if q.val < 48 then stk2 D else stk3 D)
      (ix3 h (⟨q.val % 16, by omega⟩ : Fin 16) j) := by
  unfold bandOf
  generalize stk0 D = s0
  generalize stk1 D = s1
  generalize stk2 D = s2
  generalize stk3 D = s3
  pointwise
  have hq := q.isLt
  have e (s : S16x16x576.Idx → EReal) (p p' : Fin 16) (hp : p.val = p'.val) : s (ix3 h p j) = s (ix3 h p' j) := by
    rw [Fin.ext hp]
  by_cases h1 : q.val < 16
  · rw [if_pos h1]
    exact (dif_pos h1).trans (e _ _ _ (by show q.val = q.val % 16; omega))
  rw [if_neg h1]
  refine (dif_neg h1).trans ?_
  by_cases h2 : q.val < 32
  · have h2' : q.val - 16 < 16 := by omega
    rw [if_pos h2]
    exact (dif_pos h2').trans (e _ _ _ (by show q.val - 16 = q.val % 16; omega))
  have h2' : ¬ q.val - 16 < 16 := by omega
  rw [if_neg h2]
  refine (dif_neg h2').trans ?_
  by_cases h3 : q.val < 48
  · have h3' : q.val - 16 - 16 < 16 := by omega
    rw [if_pos h3]
    exact (dif_pos h3').trans (e _ _ _ (by show q.val - 16 - 16 = q.val % 16; omega))
  have h3' : ¬ q.val - 16 - 16 < 16 := by omega
  rw [if_neg h3]
  exact (dif_neg h3').trans (e _ _ _ (by show q.val - 16 - 16 - 16 = q.val % 16; omega))

theorem stk0_apply (D : S16x639.Idx → EReal) (h : Fin 16) (i : Fin 16) (j : Fin 576) :
    stk0 D (ix3 h i j) = D (ix2 h (⟨63 - i.val + j.val, by omega⟩ : Fin 639)) := by
  unfold stk0
  rw [stk_apply]
  fin_cases i
  · exact pc_apply D 63 (by decide) slices_S16x639_S16x576_0_63 h j
  · exact pc_apply D 62 (by decide) slices_S16x639_S16x576_0_62 h j
  · exact pc_apply D 61 (by decide) slices_S16x639_S16x576_0_61 h j
  · exact pc_apply D 60 (by decide) slices_S16x639_S16x576_0_60 h j
  · exact pc_apply D 59 (by decide) slices_S16x639_S16x576_0_59 h j
  · exact pc_apply D 58 (by decide) slices_S16x639_S16x576_0_58 h j
  · exact pc_apply D 57 (by decide) slices_S16x639_S16x576_0_57 h j
  · exact pc_apply D 56 (by decide) slices_S16x639_S16x576_0_56 h j
  · exact pc_apply D 55 (by decide) slices_S16x639_S16x576_0_55 h j
  · exact pc_apply D 54 (by decide) slices_S16x639_S16x576_0_54 h j
  · exact pc_apply D 53 (by decide) slices_S16x639_S16x576_0_53 h j
  · exact pc_apply D 52 (by decide) slices_S16x639_S16x576_0_52 h j
  · exact pc_apply D 51 (by decide) slices_S16x639_S16x576_0_51 h j
  · exact pc_apply D 50 (by decide) slices_S16x639_S16x576_0_50 h j
  · exact pc_apply D 49 (by decide) slices_S16x639_S16x576_0_49 h j
  · exact pc_apply D 48 (by decide) slices_S16x639_S16x576_0_48 h j

theorem stk1_apply (D : S16x639.Idx → EReal) (h : Fin 16) (i : Fin 16) (j : Fin 576) :
    stk1 D (ix3 h i j) = D (ix2 h (⟨47 - i.val + j.val, by omega⟩ : Fin 639)) := by
  unfold stk1
  rw [stk_apply]
  fin_cases i
  · exact pc_apply D 47 (by decide) slices_S16x639_S16x576_0_47 h j
  · exact pc_apply D 46 (by decide) slices_S16x639_S16x576_0_46 h j
  · exact pc_apply D 45 (by decide) slices_S16x639_S16x576_0_45 h j
  · exact pc_apply D 44 (by decide) slices_S16x639_S16x576_0_44 h j
  · exact pc_apply D 43 (by decide) slices_S16x639_S16x576_0_43 h j
  · exact pc_apply D 42 (by decide) slices_S16x639_S16x576_0_42 h j
  · exact pc_apply D 41 (by decide) slices_S16x639_S16x576_0_41 h j
  · exact pc_apply D 40 (by decide) slices_S16x639_S16x576_0_40 h j
  · exact pc_apply D 39 (by decide) slices_S16x639_S16x576_0_39 h j
  · exact pc_apply D 38 (by decide) slices_S16x639_S16x576_0_38 h j
  · exact pc_apply D 37 (by decide) slices_S16x639_S16x576_0_37 h j
  · exact pc_apply D 36 (by decide) slices_S16x639_S16x576_0_36 h j
  · exact pc_apply D 35 (by decide) slices_S16x639_S16x576_0_35 h j
  · exact pc_apply D 34 (by decide) slices_S16x639_S16x576_0_34 h j
  · exact pc_apply D 33 (by decide) slices_S16x639_S16x576_0_33 h j
  · exact pc_apply D 32 (by decide) slices_S16x639_S16x576_0_32 h j

theorem stk2_apply (D : S16x639.Idx → EReal) (h : Fin 16) (i : Fin 16) (j : Fin 576) :
    stk2 D (ix3 h i j) = D (ix2 h (⟨31 - i.val + j.val, by omega⟩ : Fin 639)) := by
  unfold stk2
  rw [stk_apply]
  fin_cases i
  · exact pc_apply D 31 (by decide) slices_S16x639_S16x576_0_31 h j
  · exact pc_apply D 30 (by decide) slices_S16x639_S16x576_0_30 h j
  · exact pc_apply D 29 (by decide) slices_S16x639_S16x576_0_29 h j
  · exact pc_apply D 28 (by decide) slices_S16x639_S16x576_0_28 h j
  · exact pc_apply D 27 (by decide) slices_S16x639_S16x576_0_27 h j
  · exact pc_apply D 26 (by decide) slices_S16x639_S16x576_0_26 h j
  · exact pc_apply D 25 (by decide) slices_S16x639_S16x576_0_25 h j
  · exact pc_apply D 24 (by decide) slices_S16x639_S16x576_0_24 h j
  · exact pc_apply D 23 (by decide) slices_S16x639_S16x576_0_23 h j
  · exact pc_apply D 22 (by decide) slices_S16x639_S16x576_0_22 h j
  · exact pc_apply D 21 (by decide) slices_S16x639_S16x576_0_21 h j
  · exact pc_apply D 20 (by decide) slices_S16x639_S16x576_0_20 h j
  · exact pc_apply D 19 (by decide) slices_S16x639_S16x576_0_19 h j
  · exact pc_apply D 18 (by decide) slices_S16x639_S16x576_0_18 h j
  · exact pc_apply D 17 (by decide) slices_S16x639_S16x576_0_17 h j
  · exact pc_apply D 16 (by decide) slices_S16x639_S16x576_0_16 h j

theorem stk3_apply (D : S16x639.Idx → EReal) (h : Fin 16) (i : Fin 16) (j : Fin 576) :
    stk3 D (ix3 h i j) = D (ix2 h (⟨15 - i.val + j.val, by omega⟩ : Fin 639)) := by
  unfold stk3
  rw [stk_apply]
  fin_cases i
  · exact pc_apply D 15 (by decide) slices_S16x639_S16x576_0_15 h j
  · exact pc_apply D 14 (by decide) slices_S16x639_S16x576_0_14 h j
  · exact pc_apply D 13 (by decide) slices_S16x639_S16x576_0_13 h j
  · exact pc_apply D 12 (by decide) slices_S16x639_S16x576_0_12 h j
  · exact pc_apply D 11 (by decide) slices_S16x639_S16x576_0_11 h j
  · exact pc_apply D 10 (by decide) slices_S16x639_S16x576_0_10 h j
  · exact pc_apply D 9 (by decide) slices_S16x639_S16x576_0_9 h j
  · exact pc_apply D 8 (by decide) slices_S16x639_S16x576_0_8 h j
  · exact pc_apply D 7 (by decide) slices_S16x639_S16x576_0_7 h j
  · exact pc_apply D 6 (by decide) slices_S16x639_S16x576_0_6 h j
  · exact pc_apply D 5 (by decide) slices_S16x639_S16x576_0_5 h j
  · exact pc_apply D 4 (by decide) slices_S16x639_S16x576_0_4 h j
  · exact pc_apply D 3 (by decide) slices_S16x639_S16x576_0_3 h j
  · exact pc_apply D 2 (by decide) slices_S16x639_S16x576_0_2 h j
  · exact pc_apply D 1 (by decide) slices_S16x639_S16x576_0_1 h j
  · exact pc_apply D 0 (by decide) slices_S16x639_S16x576_0_0 h j

/-- The band at a query and a slot. -/
theorem bandOf_apply (D : S16x639.Idx → EReal) (h : Fin 16) (q : Fin 64) (j : Fin 576) :
    bandOf D (ix3 h q j) = D (ix2 h (⟨63 - q.val + j.val, by omega⟩ : Fin 639)) := by
  rw [bandOf_pick]
  split_ifs
  · rw [stk0_apply]; exact congrArg (fun p => D (ix2 h p)) (Fin.ext (by dsimp only; omega))
  · rw [stk1_apply]; exact congrArg (fun p => D (ix2 h p)) (Fin.ext (by dsimp only; omega))
  · rw [stk2_apply]; exact congrArg (fun p => D (ix2 h p)) (Fin.ext (by dsimp only; omega))
  · rw [stk3_apply]; exact congrArg (fun p => D (ix2 h p)) (Fin.ext (by dsimp only; omega))

theorem maskOf_apply (i : S16x64x64.Idx) : maskOf i = ⊥ := by
  show Ideal.ofBits .f32 0xFF800000#32 = ⊥
  simp [Ideal.ofBits, Ideal.ieee]

/-- Two chunks' biases, from one chunk's. -/
theorem twoOf_apply (b : S16x64x576.Idx → EReal) (z : S16x64x64.Idx → EReal) (hz : ∀ i, z i = ⊥) (h : Fin 16) (r : Fin 128) (j : Fin 640) :
    twoOf b z (ix3 h r j) = if (r.val < 64 ∧ j.val < 576) ∨ (64 ≤ r.val ∧ 64 ≤ j.val)
      then b (ix3 h (⟨r.val % 64, by omega⟩ : Fin 64) (⟨min (j.val - 64 * (r.val / 64)) 575, by omega⟩ : Fin 576)) else ⊥ := by
  unfold twoOf
  pointwise
  have e (p p' : Fin 64) (u u' : Fin 576) (hp : p.val = p'.val) (hu : u.val = u'.val) : b (ix3 h p u) = b (ix3 h p' u') := by
    rw [Fin.ext hp, Fin.ext hu]
  by_cases h1 : r.val < 64
  · refine (dif_pos h1).trans ?_
    by_cases h2 : j.val < 576
    · have hp : (r.val < 64 ∧ j.val < 576) ∨ (64 ≤ r.val ∧ 64 ≤ j.val) := Or.inl ⟨h1, h2⟩
      exact (dif_pos h2).trans ((e _ _ _ _ (by show r.val = r.val % 64; omega)
        (by show j.val = min (j.val - 64 * (r.val / 64)) 575; omega)).trans (if_pos hp).symm)
    · have hp : ¬ ((r.val < 64 ∧ j.val < 576) ∨ (64 ≤ r.val ∧ 64 ≤ j.val)) := by omega
      exact (dif_neg h2).trans ((hz _).trans (if_neg hp).symm)
  · refine (dif_neg h1).trans ?_
    have hr := r.isLt
    by_cases h2 : j.val < 64
    · have hp : ¬ ((r.val < 64 ∧ j.val < 576) ∨ (64 ≤ r.val ∧ 64 ≤ j.val)) := by omega
      exact (dif_pos h2).trans ((hz _).trans (if_neg hp).symm)
    · have hp : (r.val < 64 ∧ j.val < 576) ∨ (64 ≤ r.val ∧ 64 ≤ j.val) := by omega
      exact (dif_neg h2).trans ((e _ _ _ _ (by show r.val - 64 = r.val % 64; omega)
        (by show j.val - 64 = min (j.val - 64 * (r.val / 64)) 575; omega)).trans (if_pos hp).symm)

/-- The operand's entries inside the band and outside it. -/
theorem bias_apply (x : S16x513.Idx → EReal) (hx : ∀ h p, Fin' (x (ix2 h p))) : IsBias (fun h p => x (ix2 h p)) (twoOf (bandOf (diagOf x)) maskOf) := by
  intro h r j
  rw [twoOf_apply _ _ maskOf_apply]
  by_cases hc : (r.val < 64 ∧ j.val < 576) ∨ (64 ≤ r.val ∧ 64 ≤ j.val)
  · rw [if_pos hc, if_pos hc, bandOf_apply, diagOf_apply, (hx _ _).coe_toReal]
    refine congrArg (fun p => x (ix2 h p)) (Fin.ext ?_)
    dsimp only
    omega
  · rw [if_neg hc, if_neg hc]

end Cert.KernelIdeal.Att

end
-- ==== Proof.AttStack.lean ====
/- The bias operand over the diagonal of the table. -/
module

public import proofs.«01_k».proof.Proof.AttPieceA
public import proofs.«01_k».proof.Proof.AttPieceB
public import proofs.«01_k».proof.Proof.AttBias

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable (m : (ℓ : Loc nD τ sig) → Buf (Elt Ideal) ℓ)

theorem op150_eq (c : Dev nD) : (U m 165 c main_v150 : S16x16x576.Idx → EReal) = stk0 (diagOf (argB m c)) := by
  unfold U
  after_reads_simp
  refine Eq.trans (b := concatenate S16x16x576 1 [⟨S16x1x576, (U m 161 c main_v86 : S16x1x576.Idx → EReal)⟩,
    ⟨S16x1x576, (U m 161 c main_v87 : S16x1x576.Idx → EReal)⟩,
    ⟨S16x1x576, (U m 161 c main_v88 : S16x1x576.Idx → EReal)⟩,
    ⟨S16x1x576, (U m 161 c main_v89 : S16x1x576.Idx → EReal)⟩,
    ⟨S16x1x576, (U m 161 c main_v90 : S16x1x576.Idx → EReal)⟩,
    ⟨S16x1x576, (U m 161 c main_v91 : S16x1x576.Idx → EReal)⟩,
    ⟨S16x1x576, (U m 161 c main_v92 : S16x1x576.Idx → EReal)⟩,
    ⟨S16x1x576, (U m 161 c main_v93 : S16x1x576.Idx → EReal)⟩,
    ⟨S16x1x576, (U m 161 c main_v94 : S16x1x576.Idx → EReal)⟩,
    ⟨S16x1x576, (U m 161 c main_v95 : S16x1x576.Idx → EReal)⟩,
    ⟨S16x1x576, (U m 161 c main_v96 : S16x1x576.Idx → EReal)⟩,
    ⟨S16x1x576, (U m 161 c main_v97 : S16x1x576.Idx → EReal)⟩,
    ⟨S16x1x576, (U m 161 c main_v98 : S16x1x576.Idx → EReal)⟩,
    ⟨S16x1x576, (U m 161 c main_v99 : S16x1x576.Idx → EReal)⟩,
    ⟨S16x1x576, (U m 161 c main_v100 : S16x1x576.Idx → EReal)⟩,
    ⟨S16x1x576, (U m 161 c main_v101 : S16x1x576.Idx → EReal)⟩] concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1) rfl ?_
  rw [rd86, rd87, rd88, rd89, rd90, rd91, rd92, rd93, rd94, rd95, rd96, rd97, rd98, rd99, rd100, rd101]
  rfl

theorem op151_eq (c : Dev nD) : (U m 165 c main_v151 : S16x16x576.Idx → EReal) = stk1 (diagOf (argB m c)) := by
  unfold U
  after_reads_simp
  refine Eq.trans (b := concatenate S16x16x576 1 [⟨S16x1x576, (U m 162 c main_v102 : S16x1x576.Idx → EReal)⟩,
    ⟨S16x1x576, (U m 162 c main_v103 : S16x1x576.Idx → EReal)⟩,
    ⟨S16x1x576, (U m 162 c main_v104 : S16x1x576.Idx → EReal)⟩,
    ⟨S16x1x576, (U m 162 c main_v105 : S16x1x576.Idx → EReal)⟩,
    ⟨S16x1x576, (U m 162 c main_v106 : S16x1x576.Idx → EReal)⟩,
    ⟨S16x1x576, (U m 162 c main_v107 : S16x1x576.Idx → EReal)⟩,
    ⟨S16x1x576, (U m 162 c main_v108 : S16x1x576.Idx → EReal)⟩,
    ⟨S16x1x576, (U m 162 c main_v109 : S16x1x576.Idx → EReal)⟩,
    ⟨S16x1x576, (U m 162 c main_v110 : S16x1x576.Idx → EReal)⟩,
    ⟨S16x1x576, (U m 162 c main_v111 : S16x1x576.Idx → EReal)⟩,
    ⟨S16x1x576, (U m 162 c main_v112 : S16x1x576.Idx → EReal)⟩,
    ⟨S16x1x576, (U m 162 c main_v113 : S16x1x576.Idx → EReal)⟩,
    ⟨S16x1x576, (U m 162 c main_v114 : S16x1x576.Idx → EReal)⟩,
    ⟨S16x1x576, (U m 162 c main_v115 : S16x1x576.Idx → EReal)⟩,
    ⟨S16x1x576, (U m 162 c main_v116 : S16x1x576.Idx → EReal)⟩,
    ⟨S16x1x576, (U m 162 c main_v117 : S16x1x576.Idx → EReal)⟩] concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1) rfl ?_
  rw [rd102, rd103, rd104, rd105, rd106, rd107, rd108, rd109, rd110, rd111, rd112, rd113, rd114, rd115, rd116, rd117]
  rfl

theorem op152_eq (c : Dev nD) : (U m 165 c main_v152 : S16x16x576.Idx → EReal) = stk2 (diagOf (argB m c)) := by
  unfold U
  after_reads_simp
  refine Eq.trans (b := concatenate S16x16x576 1 [⟨S16x1x576, (U m 163 c main_v118 : S16x1x576.Idx → EReal)⟩,
    ⟨S16x1x576, (U m 163 c main_v119 : S16x1x576.Idx → EReal)⟩,
    ⟨S16x1x576, (U m 163 c main_v120 : S16x1x576.Idx → EReal)⟩,
    ⟨S16x1x576, (U m 163 c main_v121 : S16x1x576.Idx → EReal)⟩,
    ⟨S16x1x576, (U m 163 c main_v122 : S16x1x576.Idx → EReal)⟩,
    ⟨S16x1x576, (U m 163 c main_v123 : S16x1x576.Idx → EReal)⟩,
    ⟨S16x1x576, (U m 163 c main_v124 : S16x1x576.Idx → EReal)⟩,
    ⟨S16x1x576, (U m 163 c main_v125 : S16x1x576.Idx → EReal)⟩,
    ⟨S16x1x576, (U m 163 c main_v126 : S16x1x576.Idx → EReal)⟩,
    ⟨S16x1x576, (U m 163 c main_v127 : S16x1x576.Idx → EReal)⟩,
    ⟨S16x1x576, (U m 163 c main_v128 : S16x1x576.Idx → EReal)⟩,
    ⟨S16x1x576, (U m 163 c main_v129 : S16x1x576.Idx → EReal)⟩,
    ⟨S16x1x576, (U m 163 c main_v130 : S16x1x576.Idx → EReal)⟩,
    ⟨S16x1x576, (U m 163 c main_v131 : S16x1x576.Idx → EReal)⟩,
    ⟨S16x1x576, (U m 163 c main_v132 : S16x1x576.Idx → EReal)⟩,
    ⟨S16x1x576, (U m 163 c main_v133 : S16x1x576.Idx → EReal)⟩] concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1) rfl ?_
  rw [rd118, rd119, rd120, rd121, rd122, rd123, rd124, rd125, rd126, rd127, rd128, rd129, rd130, rd131, rd132, rd133]
  rfl

theorem op153_eq (c : Dev nD) : (U m 165 c main_v153 : S16x16x576.Idx → EReal) = stk3 (diagOf (argB m c)) := by
  unfold U
  after_reads_simp
  refine Eq.trans (b := concatenate S16x16x576 1 [⟨S16x1x576, (U m 164 c main_v134 : S16x1x576.Idx → EReal)⟩,
    ⟨S16x1x576, (U m 164 c main_v135 : S16x1x576.Idx → EReal)⟩,
    ⟨S16x1x576, (U m 164 c main_v136 : S16x1x576.Idx → EReal)⟩,
    ⟨S16x1x576, (U m 164 c main_v137 : S16x1x576.Idx → EReal)⟩,
    ⟨S16x1x576, (U m 164 c main_v138 : S16x1x576.Idx → EReal)⟩,
    ⟨S16x1x576, (U m 164 c main_v139 : S16x1x576.Idx → EReal)⟩,
    ⟨S16x1x576, (U m 164 c main_v140 : S16x1x576.Idx → EReal)⟩,
    ⟨S16x1x576, (U m 164 c main_v141 : S16x1x576.Idx → EReal)⟩,
    ⟨S16x1x576, (U m 164 c main_v142 : S16x1x576.Idx → EReal)⟩,
    ⟨S16x1x576, (U m 164 c main_v143 : S16x1x576.Idx → EReal)⟩,
    ⟨S16x1x576, (U m 164 c main_v144 : S16x1x576.Idx → EReal)⟩,
    ⟨S16x1x576, (U m 164 c main_v145 : S16x1x576.Idx → EReal)⟩,
    ⟨S16x1x576, (U m 164 c main_v146 : S16x1x576.Idx → EReal)⟩,
    ⟨S16x1x576, (U m 164 c main_v147 : S16x1x576.Idx → EReal)⟩,
    ⟨S16x1x576, (U m 164 c main_v148 : S16x1x576.Idx → EReal)⟩,
    ⟨S16x1x576, (U m 164 c main_v149 : S16x1x576.Idx → EReal)⟩] concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1) rfl ?_
  rw [rd134, rd135, rd136, rd137, rd138, rd139, rd140, rd141, rd142, rd143, rd144, rd145, rd146, rd147, rd148, rd149]
  rfl

theorem op154_eq (n : ℕ) (c : Dev nD)
    (h : (U m n c main_v154 : S16x64x576.Idx → EReal)
      = concatenate S16x64x576 1 [⟨S16x16x576, (U m 165 c main_v150 : S16x16x576.Idx → EReal)⟩, ⟨S16x16x576, (U m 165 c main_v151 : S16x16x576.Idx → EReal)⟩,
        ⟨S16x16x576, (U m 165 c main_v152 : S16x16x576.Idx → EReal)⟩, ⟨S16x16x576, (U m 165 c main_v153 : S16x16x576.Idx → EReal)⟩]
        concatenates_S16x16x576_S16x16x576_S16x16x576_S16x16x576_S16x64x576_d1) :
    (U m n c main_v154 : S16x64x576.Idx → EReal) = bandOf (diagOf (argB m c)) := by
  rw [h, op150_eq, op151_eq, op152_eq, op153_eq]

theorem op154_168 (c : Dev nD) : (U m 168 c main_v154 : S16x64x576.Idx → EReal) = bandOf (diagOf (argB m c)) := by
  refine op154_eq m 168 c ?_
  conv => lhs; unfold U
  after_reads_simp
  rfl

theorem op154_169 (c : Dev nD) : (U m 169 c main_v154 : S16x64x576.Idx → EReal) = bandOf (diagOf (argB m c)) := by
  refine op154_eq m 169 c ?_
  conv => lhs; unfold U
  after_reads_simp
  rfl

theorem op155_168 (c : Dev nD) : (U m 168 c main_v155 : S16x64x64.Idx → EReal) = maskOf := by
  unfold U
  after_reads_simp

theorem op155_169 (c : Dev nD) : (U m 169 c main_v155 : S16x64x64.Idx → EReal) = maskOf := by
  unfold U
  after_reads_simp

theorem op156_eq (c : Dev nD) : (U m 170 c main_v156 : S16x64x640.Idx → EReal)
    = concatenate S16x64x640 2 [⟨S16x64x576, bandOf (diagOf (argB m c))⟩, ⟨S16x64x64, maskOf⟩] concatenates_S16x64x576_S16x64x64_S16x64x640_d2 := by
  refine Eq.trans (b := concatenate S16x64x640 2 [⟨S16x64x576, (U m 168 c main_v154 : S16x64x576.Idx → EReal)⟩,
    ⟨S16x64x64, (U m 168 c main_v155 : S16x64x64.Idx → EReal)⟩] concatenates_S16x64x576_S16x64x64_S16x64x640_d2) ?_ ?_
  · conv => lhs; unfold U
    after_reads_simp
  · rw [op154_168, op155_168]

theorem op157_eq (c : Dev nD) : (U m 170 c main_v157 : S16x64x640.Idx → EReal)
    = concatenate S16x64x640 2 [⟨S16x64x64, maskOf⟩, ⟨S16x64x576, bandOf (diagOf (argB m c))⟩] concatenates_S16x64x64_S16x64x576_S16x64x640_d2 := by
  refine Eq.trans (b := concatenate S16x64x640 2 [⟨S16x64x64, (U m 169 c main_v155 : S16x64x64.Idx → EReal)⟩,
    ⟨S16x64x576, (U m 169 c main_v154 : S16x64x576.Idx → EReal)⟩] concatenates_S16x64x64_S16x64x576_S16x64x640_d2) ?_ ?_
  · conv => lhs; unfold U
    after_reads_simp
  · rw [op154_169, op155_169]

/-- The bias operand over the diagonal of the table. -/
theorem opB_eq (c : Dev nD) : opB m c = twoOf (bandOf (diagOf (argB m c))) maskOf := by
  refine Eq.trans (b := concatenate S16x128x640 1 [⟨S16x64x640, (U m 170 c main_v156 : S16x64x640.Idx → EReal)⟩,
    ⟨S16x64x640, (U m 170 c main_v157 : S16x64x640.Idx → EReal)⟩] concatenates_S16x64x640_S16x64x640_S16x128x640_d1) ?_ ?_
  · conv => lhs; unfold opB V
    after_reads_simp
  · rw [op156_eq, op157_eq]

/-- The bias operand holds the bias entry inside the band and −∞ outside it. -/
theorem opB_bias (c : Dev nD) (hx : ∀ i, AttSpec.Fin' (argB m c i)) : IsBias (fun h p => argB m c (ix2 h p)) (opB m c) := by
  rw [opB_eq]
  exact bias_apply (argB m c) fun _ _ => hx _

end Cert.KernelIdeal.Att

end
-- ==== Proof.AttRunA.lean ====
/- What the attention kernel stores in its block of attention rows at the first tile of a batch row. -/
module

public import proofs.«01_k».proof.Proof.AttPieces

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable {F : FTy → Type} [FloatOps F] [Named F]

variable (c : Dev nD) (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16)
  (harg6 : arg6.IsWhole) (arg7 : Memref sig .tc .vmem S1024x1024 .bf16) (harg7 : arg7.IsWhole)
  (arg8 : Memref sig .tc .vmem S16x128x640 .f32) (harg8 : arg8.IsWhole) (arg9 : Memref sig .tc .vmem S1x512x1024 .f32)
  (harg9 : arg9.IsWhole) (arg10 : Memref sig .tc .vmem S512x1024 .bf16) (harg10 : arg10.IsWhole)
  (arg11 : Memref sig .tc .vmem S1024x1024 .bf16) (harg11 : arg11.IsWhole) (arg12 : Memref sig .tc .vmem S1024x1024 .bf16)
  (harg12 : arg12.IsWhole) (arg13 : Memref sig .tc .vmem S1024x1024 .bf16) (harg13 : arg13.IsWhole)
  (arg14 : Memref sig .tc .vmem S1024x1024 .bf16) (harg14 : arg14.IsWhole) (arg15 : Memref sig .tc .vmem S512x1024 .bf16)
  (harg15 : arg15.IsWhole)
  (x0 : Vec F S1x512x1024 .f32) (x1 : Vec F S1x1024 .f32) (x2 : Vec F S1024x1024 .bf16) (x3 : Vec F S1024x1024 .bf16)
  (x4 : Vec F S1024x1024 .bf16) (x5 : Vec F S1024x1024 .bf16) (x6 : Vec F S16x128x640 .f32)

/-- At the first tile of a batch row the stores into the attention block are the 32 items, on what the stores before left. -/
theorem attA :
    kernelRun0_A.sl.HS5_32 c arg2 harg2 arg3 harg3 arg4 harg4 arg5 harg5 arg6 harg6 arg8 harg8 arg10 arg11 arg12 arg13 arg14 x0 x1 x2 x3 x4 x6
      = attPieces (itemA (View.canon (kernelRun0_A.sl.HS0_1 c arg2 harg2 arg3 harg3 arg4 harg4 x0 x1 x2))
          (View.canon (kernelRun0_A.sl.HS1_1 c arg2 harg2 arg3 harg3 arg5 harg5 x0 x1 x3))
          (View.canon (kernelRun0_A.sl.HS2_1 c arg2 harg2 arg3 harg3 arg5 harg5 x0 x1 x3))
          (View.canon (kernelRun0_A.sl.HS3_1 c arg2 harg2 arg3 harg3 arg6 harg6 x0 x1 x4))
          (View.canon (kernelRun0_A.sl.HS4_1 c arg2 harg2 arg3 harg3 arg6 harg6 x0 x1 x4)) x6) 32 := by
  simp only [kernelRun0_A.sl.HS5_32, kernelRun0_A.sl.cst_184, kernelRun0_A.sl.cst_319, kernelRun0_A.sl.cst_609, kernelRun0_A.sl.cst_754, kernelRun0_A.sl.r_10,
    kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_109,
    kernelRun0_A.sl.r_11, kernelRun0_A.sl.r_110, kernelRun0_A.sl.r_111, kernelRun0_A.sl.r_112, kernelRun0_A.sl.r_113,
    kernelRun0_A.sl.r_114, kernelRun0_A.sl.r_115, kernelRun0_A.sl.r_116, kernelRun0_A.sl.r_117, kernelRun0_A.sl.r_118,
    kernelRun0_A.sl.r_119, kernelRun0_A.sl.r_12, kernelRun0_A.sl.r_120, kernelRun0_A.sl.r_121, kernelRun0_A.sl.r_122,
    kernelRun0_A.sl.r_123, kernelRun0_A.sl.r_124, kernelRun0_A.sl.r_125, kernelRun0_A.sl.r_126, kernelRun0_A.sl.r_127,
    kernelRun0_A.sl.r_128, kernelRun0_A.sl.r_129, kernelRun0_A.sl.r_13, kernelRun0_A.sl.r_130, kernelRun0_A.sl.r_131,
    kernelRun0_A.sl.r_132, kernelRun0_A.sl.r_133, kernelRun0_A.sl.r_134, kernelRun0_A.sl.r_135, kernelRun0_A.sl.r_136,
    kernelRun0_A.sl.r_137, kernelRun0_A.sl.r_14, kernelRun0_A.sl.r_15, kernelRun0_A.sl.r_16, kernelRun0_A.sl.r_17,
    kernelRun0_A.sl.r_18, kernelRun0_A.sl.r_19, kernelRun0_A.sl.r_20, kernelRun0_A.sl.r_21, kernelRun0_A.sl.r_22,
    kernelRun0_A.sl.r_23, kernelRun0_A.sl.r_24, kernelRun0_A.sl.r_25, kernelRun0_A.sl.r_26, kernelRun0_A.sl.r_27,
    kernelRun0_A.sl.r_28, kernelRun0_A.sl.r_29, kernelRun0_A.sl.r_30, kernelRun0_A.sl.r_31, kernelRun0_A.sl.r_32,
    kernelRun0_A.sl.r_33, kernelRun0_A.sl.r_34, kernelRun0_A.sl.r_35, kernelRun0_A.sl.r_36, kernelRun0_A.sl.r_37,
    kernelRun0_A.sl.r_38, kernelRun0_A.sl.r_39, kernelRun0_A.sl.r_4, kernelRun0_A.sl.r_40, kernelRun0_A.sl.r_41,
    kernelRun0_A.sl.r_42, kernelRun0_A.sl.r_43, kernelRun0_A.sl.r_44, kernelRun0_A.sl.r_45, kernelRun0_A.sl.r_46,
    kernelRun0_A.sl.r_47, kernelRun0_A.sl.r_48, kernelRun0_A.sl.r_49, kernelRun0_A.sl.r_5, kernelRun0_A.sl.r_50,
    kernelRun0_A.sl.r_51, kernelRun0_A.sl.r_52, kernelRun0_A.sl.r_53, kernelRun0_A.sl.r_54, kernelRun0_A.sl.r_55,
    kernelRun0_A.sl.r_56, kernelRun0_A.sl.r_57, kernelRun0_A.sl.r_58, kernelRun0_A.sl.r_59, kernelRun0_A.sl.r_6,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_7, kernelRun0_A.sl.r_70, kernelRun0_A.sl.r_71, kernelRun0_A.sl.r_72, kernelRun0_A.sl.r_73,
    kernelRun0_A.sl.r_74, kernelRun0_A.sl.r_75, kernelRun0_A.sl.r_76, kernelRun0_A.sl.r_77, kernelRun0_A.sl.r_78,
    kernelRun0_A.sl.r_79, kernelRun0_A.sl.r_8, kernelRun0_A.sl.r_80, kernelRun0_A.sl.r_81, kernelRun0_A.sl.r_82,
    kernelRun0_A.sl.r_83, kernelRun0_A.sl.r_84, kernelRun0_A.sl.r_85, kernelRun0_A.sl.r_86, kernelRun0_A.sl.r_87,
    kernelRun0_A.sl.r_88, kernelRun0_A.sl.r_89, kernelRun0_A.sl.r_9, kernelRun0_A.sl.r_90, kernelRun0_A.sl.r_91,
    kernelRun0_A.sl.r_92, kernelRun0_A.sl.r_93, kernelRun0_A.sl.r_94, kernelRun0_A.sl.r_95, kernelRun0_A.sl.r_96,
    kernelRun0_A.sl.r_97, kernelRun0_A.sl.r_98, kernelRun0_A.sl.r_99, kernelRun0_A.sl.v1031, kernelRun0_A.sl.v1032,
    kernelRun0_A.sl.v1048, kernelRun0_A.sl.v1049, kernelRun0_A.sl.v1051, kernelRun0_A.sl.v1085, kernelRun0_A.sl.v1086,
    kernelRun0_A.sl.v1102, kernelRun0_A.sl.v1103, kernelRun0_A.sl.v1105, kernelRun0_A.sl.v1139, kernelRun0_A.sl.v1140,
    kernelRun0_A.sl.v1156, kernelRun0_A.sl.v1157, kernelRun0_A.sl.v1159, kernelRun0_A.sl.v1193, kernelRun0_A.sl.v1194,
    kernelRun0_A.sl.v1210, kernelRun0_A.sl.v1211, kernelRun0_A.sl.v1213, kernelRun0_A.sl.v124, kernelRun0_A.sl.v1247,
    kernelRun0_A.sl.v1248, kernelRun0_A.sl.v125, kernelRun0_A.sl.v126, kernelRun0_A.sl.v1264, kernelRun0_A.sl.v1265,
    kernelRun0_A.sl.v1267, kernelRun0_A.sl.v128, kernelRun0_A.sl.v130, kernelRun0_A.sl.v1301, kernelRun0_A.sl.v1302,
    kernelRun0_A.sl.v131, kernelRun0_A.sl.v1318, kernelRun0_A.sl.v1319, kernelRun0_A.sl.v1321, kernelRun0_A.sl.v133,
    kernelRun0_A.sl.v1355, kernelRun0_A.sl.v1356, kernelRun0_A.sl.v1372, kernelRun0_A.sl.v1373, kernelRun0_A.sl.v1375,
    kernelRun0_A.sl.v1409, kernelRun0_A.sl.v1410, kernelRun0_A.sl.v1426, kernelRun0_A.sl.v1427, kernelRun0_A.sl.v1429,
    kernelRun0_A.sl.v1463, kernelRun0_A.sl.v1464, kernelRun0_A.sl.v1480, kernelRun0_A.sl.v1481, kernelRun0_A.sl.v1483,
    kernelRun0_A.sl.v1517, kernelRun0_A.sl.v1518, kernelRun0_A.sl.v1534, kernelRun0_A.sl.v1535, kernelRun0_A.sl.v1537,
    kernelRun0_A.sl.v1571, kernelRun0_A.sl.v1572, kernelRun0_A.sl.v1588, kernelRun0_A.sl.v1589, kernelRun0_A.sl.v1591,
    kernelRun0_A.sl.v1625, kernelRun0_A.sl.v1626, kernelRun0_A.sl.v1642, kernelRun0_A.sl.v1643, kernelRun0_A.sl.v1645,
    kernelRun0_A.sl.v167, kernelRun0_A.sl.v1679, kernelRun0_A.sl.v168, kernelRun0_A.sl.v1680, kernelRun0_A.sl.v1696,
    kernelRun0_A.sl.v1697, kernelRun0_A.sl.v1699, kernelRun0_A.sl.v1733, kernelRun0_A.sl.v1734, kernelRun0_A.sl.v1750,
    kernelRun0_A.sl.v1751, kernelRun0_A.sl.v1753, kernelRun0_A.sl.v1787, kernelRun0_A.sl.v1788, kernelRun0_A.sl.v1836,
    kernelRun0_A.sl.v1837, kernelRun0_A.sl.v184, kernelRun0_A.sl.v185, kernelRun0_A.sl.v187, kernelRun0_A.sl.v221,
    kernelRun0_A.sl.v222, kernelRun0_A.sl.v238, kernelRun0_A.sl.v239, kernelRun0_A.sl.v241, kernelRun0_A.sl.v275,
    kernelRun0_A.sl.v276, kernelRun0_A.sl.v292, kernelRun0_A.sl.v293, kernelRun0_A.sl.v295, kernelRun0_A.sl.v329,
    kernelRun0_A.sl.v330, kernelRun0_A.sl.v346, kernelRun0_A.sl.v347, kernelRun0_A.sl.v349, kernelRun0_A.sl.v383,
    kernelRun0_A.sl.v384, kernelRun0_A.sl.v400, kernelRun0_A.sl.v401, kernelRun0_A.sl.v403, kernelRun0_A.sl.v437,
    kernelRun0_A.sl.v438, kernelRun0_A.sl.v454, kernelRun0_A.sl.v455, kernelRun0_A.sl.v457, kernelRun0_A.sl.v491,
    kernelRun0_A.sl.v492, kernelRun0_A.sl.v508, kernelRun0_A.sl.v509, kernelRun0_A.sl.v511, kernelRun0_A.sl.v545,
    kernelRun0_A.sl.v546, kernelRun0_A.sl.v562, kernelRun0_A.sl.v563, kernelRun0_A.sl.v565, kernelRun0_A.sl.v599,
    kernelRun0_A.sl.v600, kernelRun0_A.sl.v616, kernelRun0_A.sl.v617, kernelRun0_A.sl.v619, kernelRun0_A.sl.v653,
    kernelRun0_A.sl.v654, kernelRun0_A.sl.v670, kernelRun0_A.sl.v671, kernelRun0_A.sl.v673, kernelRun0_A.sl.v707,
    kernelRun0_A.sl.v708, kernelRun0_A.sl.v724, kernelRun0_A.sl.v725, kernelRun0_A.sl.v727, kernelRun0_A.sl.v761,
    kernelRun0_A.sl.v762, kernelRun0_A.sl.v778, kernelRun0_A.sl.v779, kernelRun0_A.sl.v781, kernelRun0_A.sl.v815,
    kernelRun0_A.sl.v816, kernelRun0_A.sl.v832, kernelRun0_A.sl.v833, kernelRun0_A.sl.v835, kernelRun0_A.sl.v869,
    kernelRun0_A.sl.v870, kernelRun0_A.sl.v886, kernelRun0_A.sl.v887, kernelRun0_A.sl.v889, kernelRun0_A.sl.v923,
    kernelRun0_A.sl.v924, kernelRun0_A.sl.v940, kernelRun0_A.sl.v941, kernelRun0_A.sl.v943, kernelRun0_A.sl.v977,
    kernelRun0_A.sl.v978, kernelRun0_A.sl.v994, kernelRun0_A.sl.v995, kernelRun0_A.sl.v997]
  generalize kernelRun0_A.sl.HS0_1 c arg2 harg2 arg3 harg3 arg4 harg4 x0 x1 x2 = L0
  generalize kernelRun0_A.sl.HS1_1 c arg2 harg2 arg3 harg3 arg5 harg5 x0 x1 x3 = L1
  generalize kernelRun0_A.sl.HS2_1 c arg2 harg2 arg3 harg3 arg5 harg5 x0 x1 x3 = L2
  generalize kernelRun0_A.sl.HS3_1 c arg2 harg2 arg3 harg3 arg6 harg6 x0 x1 x4 = L3
  generalize kernelRun0_A.sl.HS4_1 c arg2 harg2 arg3 harg3 arg6 harg6 x0 x1 x4 = L4
  simp only [View.readAt_eq_ld, Memref.IsWhole.read_unread, readCov_eq_ld, ld_sub2, ld_sub3]
  unfold_payloads
  simp only [attPieces, itemA, itemAt, itemOf, weighOf, expOf, scoresOf, prodOf, invOf, shapeCast_self, Nat.reduceMul, Nat.reduceAdd, Nat.reduceSub,
    Nat.reduceDiv, Nat.reduceMod, Nat.reduceLT, dite_true, dif_pos, if_pos, if_neg, if_true, if_false, Nat.mul_zero, Nat.mul_one, Nat.zero_add]
  rfl

end Cert.KernelIdeal.Att

end
-- ==== Proof.AttEndA.lean ====
/- What the attention kernel leaves in its output block and in the carried buffers, at the first tile of a batch row. -/
module

public import proofs.«01_k».proof.Proof.AttRunA

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable {F : FTy → Type} [FloatOps F] [Named F]

variable (c : Dev nD) (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16)
  (harg6 : arg6.IsWhole) (arg7 : Memref sig .tc .vmem S1024x1024 .bf16) (harg7 : arg7.IsWhole)
  (arg8 : Memref sig .tc .vmem S16x128x640 .f32) (harg8 : arg8.IsWhole) (arg9 : Memref sig .tc .vmem S1x512x1024 .f32)
  (harg9 : arg9.IsWhole) (arg10 : Memref sig .tc .vmem S512x1024 .bf16) (harg10 : arg10.IsWhole)
  (arg11 : Memref sig .tc .vmem S1024x1024 .bf16) (harg11 : arg11.IsWhole) (arg12 : Memref sig .tc .vmem S1024x1024 .bf16)
  (harg12 : arg12.IsWhole) (arg13 : Memref sig .tc .vmem S1024x1024 .bf16) (harg13 : arg13.IsWhole)
  (arg14 : Memref sig .tc .vmem S1024x1024 .bf16) (harg14 : arg14.IsWhole) (arg15 : Memref sig .tc .vmem S512x1024 .bf16)
  (harg15 : arg15.IsWhole)
  (x0 : Vec F S1x512x1024 .f32) (x1 : Vec F S1x1024 .f32) (x2 : Vec F S1024x1024 .bf16) (x3 : Vec F S1024x1024 .bf16)
  (x4 : Vec F S1024x1024 .bf16) (x5 : Vec F S1024x1024 .bf16) (x6 : Vec F S16x128x640 .f32)

/-- The store of the tile's queries. -/
theorem qStoreA :
    kernelRun0_A.sl.HS0_1 c arg2 harg2 arg3 harg3 arg4 harg4 x0 x1 x2
      = [⟨Rect.unit (s := S512x1024) ![0, 0] ![512, 1024] inb_S512x1024_S512x1024_0_0, qOf x0 x1 x2⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_A.sl.HS0_1
  simp only [View.readAt_eq_ld, Memref.IsWhole.read_unread, View.ld_unit_zero (S := S1x512x1024) hz3,
    View.ld_unit_zero (S := S1x1024) hz2, View.ld_unit_zero (S := S1024x1024) hz2]
  rfl

/-- The store of the tile's even heads' keys. -/
theorem keStoreA :
    kernelRun0_A.sl.HS1_1 c arg2 harg2 arg3 harg3 arg5 harg5 x0 x1 x3
      = [⟨Rect.unit (s := S1024x1024) ![0, 512] ![1024, 512] inb_S1024x1024_S1024x512_0_512, keOf x0 x1 x3⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_A.sl.HS1_1 kernelRun0_A.sl.r_2
  simp only [View.readAt_eq_ld, Memref.IsWhole.read_unread, View.ld_unit_zero (S := S1x512x1024) hz3,
    View.ld_unit_zero (S := S1x1024) hz2, View.ld_unit_zero (S := S1024x1024) hz2]
  rfl

/-- The store of the tile's odd heads' keys. -/
theorem koStoreA :
    kernelRun0_A.sl.HS2_1 c arg2 harg2 arg3 harg3 arg5 harg5 x0 x1 x3
      = [⟨Rect.unit (s := S1024x1024) ![0, 512] ![1024, 512] inb_S1024x1024_S1024x512_0_512, koOf x0 x1 x3⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_A.sl.HS2_1 kernelRun0_A.sl.r_2
  simp only [View.readAt_eq_ld, Memref.IsWhole.read_unread, View.ld_unit_zero (S := S1x512x1024) hz3,
    View.ld_unit_zero (S := S1x1024) hz2, View.ld_unit_zero (S := S1024x1024) hz2]
  rfl

/-- The store of the tile's even heads' values. -/
theorem veStoreA :
    kernelRun0_A.sl.HS3_1 c arg2 harg2 arg3 harg3 arg6 harg6 x0 x1 x4
      = [⟨Rect.unit (s := S1024x1024) ![512, 0] ![512, 1024] inb_S1024x1024_S512x1024_512_0, veOf x0 x1 x4⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_A.sl.HS3_1 kernelRun0_A.sl.r_3 kernelRun0_A.sl.r_1
  simp only [View.readAt_eq_ld, Memref.IsWhole.read_unread, View.ld_unit_zero (S := S1x512x1024) hz3,
    View.ld_unit_zero (S := S1x1024) hz2, View.ld_unit_zero (S := S1024x1024) hz2]
  rfl

/-- The store of the tile's odd heads' values. -/
theorem voStoreA :
    kernelRun0_A.sl.HS4_1 c arg2 harg2 arg3 harg3 arg6 harg6 x0 x1 x4
      = [⟨Rect.unit (s := S1024x1024) ![512, 0] ![512, 1024] inb_S1024x1024_S512x1024_512_0, voOf x0 x1 x4⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_A.sl.HS4_1 kernelRun0_A.sl.r_3 kernelRun0_A.sl.r_1
  simp only [View.readAt_eq_ld, Memref.IsWhole.read_unread, View.ld_unit_zero (S := S1x512x1024) hz3,
    View.ld_unit_zero (S := S1x1024) hz2, View.ld_unit_zero (S := S1024x1024) hz2]
  rfl

/-- What the body leaves in the output block. -/
theorem out_A (i : grid0.Coords) (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      = outOf x0 (attAll (itemA (qOf x0 x1 x2) (bufC noBuf (keOf x0 x1 x3)) (bufC noBuf (koOf x0 x1 x3)) (bufR noBuf (veOf x0 x1 x4)) (bufR noBuf (voOf x0 x1 x4)) x6)) x5 := by
  have hz3 : (![0, 0, 0] : Fin 3 → ℕ) = fun _ => 0 := by funext a; fin_cases a <;> rfl
  have hz2 : (![0, 0] : Fin 2 → ℕ) = fun _ => 0 := by funext a; fin_cases a <;> rfl
  unfold out0_A_7
  rw [View.read_writes_junk_eq_canon]
  unfold kernelRun0_A
  dsimp only
  rw [View.canon_unit_zero (S := S1x512x1024) hz3]
  unfold kernelRun0_A.sl.v100 kernelRun0_A.sl.r
  rw [attA, readCov_eq_ld, canon_attPieces_all]
  rw [qStoreA, keStoreA, koStoreA, veStoreA, voStoreA, View.canon_unit_zero (S := S512x1024) hz2]
  simp only [canon_bufC, canon_bufR, canon_nil_eq]
  simp only [View.readAt_eq_ld, Memref.IsWhole.read_unread, View.ld_unit_zero (S := S1x512x1024) hz3,
    View.ld_unit_zero (S := S512x1024) hz2, View.ld_unit_zero (S := S1024x1024) hz2]
  rfl

/-- What the body leaves of the even heads' keys for the next tile. -/
theorem ke_A (i : grid0.Coords) (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      = carryC (keOf x0 x1 x3) := by
  unfold sout0_A_1
  rw [View.read_writes_junk_eq_canon]
  unfold kernelRun0_A
  dsimp only
  unfold kernelRun0_A.sl.v108
  rw [keStoreA]
  simp only [cov_C]
  unfold k0_pay1
  simp only [shapeCast_self]
  exact canon_carryC _ _ _ []

/-- What the body leaves of the odd heads' keys for the next tile. -/
theorem ko_A (i : grid0.Coords) (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      = carryC (koOf x0 x1 x3) := by
  unfold sout0_A_2
  rw [View.read_writes_junk_eq_canon]
  unfold kernelRun0_A
  dsimp only
  unfold kernelRun0_A.sl.v112
  rw [koStoreA]
  simp only [cov_C]
  unfold k0_pay2
  simp only [shapeCast_self]
  exact canon_carryC _ _ _ []

/-- What the body leaves of the even heads' values for the next tile. -/
theorem ve_A (i : grid0.Coords) (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      = carryR (veOf x0 x1 x4) := by
  unfold sout0_A_3
  rw [View.read_writes_junk_eq_canon]
  unfold kernelRun0_A
  dsimp only
  unfold kernelRun0_A.sl.v116
  rw [veStoreA]
  simp only [cov_R]
  unfold k0_pay3
  simp only [shapeCast_self]
  exact canon_carryR _ _ _ []

/-- What the body leaves of the odd heads' values for the next tile. -/
theorem vo_A (i : grid0.Coords) (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      = carryR (voOf x0 x1 x4) := by
  unfold sout0_A_4
  rw [View.read_writes_junk_eq_canon]
  unfold kernelRun0_A
  dsimp only
  unfold kernelRun0_A.sl.v120
  rw [voStoreA]
  simp only [cov_R]
  unfold k0_pay4
  simp only [shapeCast_self]
  exact canon_carryR _ _ _ []

end Cert.KernelIdeal.Att

end
-- ==== Proof.AttRunB.lean ====
/- What the attention kernel stores in its block of attention rows at a later tile. -/
module

public import proofs.«01_k».proof.Proof.AttPieces

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable {F : FTy → Type} [FloatOps F] [Named F]

variable (c : Dev nD) (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16)
  (harg6 : arg6.IsWhole) (arg7 : Memref sig .tc .vmem S1024x1024 .bf16) (harg7 : arg7.IsWhole)
  (arg8 : Memref sig .tc .vmem S16x128x640 .f32) (harg8 : arg8.IsWhole) (arg9 : Memref sig .tc .vmem S1x512x1024 .f32)
  (harg9 : arg9.IsWhole) (arg10 : Memref sig .tc .vmem S512x1024 .bf16) (harg10 : arg10.IsWhole)
  (arg11 : Memref sig .tc .vmem S1024x1024 .bf16) (harg11 : arg11.IsWhole) (arg12 : Memref sig .tc .vmem S1024x1024 .bf16)
  (harg12 : arg12.IsWhole) (arg13 : Memref sig .tc .vmem S1024x1024 .bf16) (harg13 : arg13.IsWhole)
  (arg14 : Memref sig .tc .vmem S1024x1024 .bf16) (harg14 : arg14.IsWhole) (arg15 : Memref sig .tc .vmem S512x1024 .bf16)
  (harg15 : arg15.IsWhole)
  (x0 : Vec F S1x512x1024 .f32) (x1 : Vec F S1x1024 .f32) (x2 : Vec F S1024x1024 .bf16) (x3 : Vec F S1024x1024 .bf16)
  (x4 : Vec F S1024x1024 .bf16) (x5 : Vec F S1024x1024 .bf16) (x6 : Vec F S16x128x640 .f32) (xs1 : Vec F S1024x1024 .bf16)
  (xs2 : Vec F S1024x1024 .bf16) (xs3 : Vec F S1024x1024 .bf16) (xs4 : Vec F S1024x1024 .bf16)

/-- At a later tile the stores into the attention block are the 32 items, on the carried buffers and the stores before. -/
theorem attB :
    kernelRun0_B.sl.HS5_32 c arg2 harg2 arg3 harg3 arg4 harg4 arg5 harg5 arg6 harg6 arg8 harg8 arg10 arg11 harg11 arg12 harg12 arg13 harg13 arg14 harg14
      x0 x1 x2 x3 x4 x6 xs1 xs2 xs3 xs4
      = attPieces (itemB (View.canon (kernelRun0_B.sl.HS0_1 c arg2 harg2 arg3 harg3 arg4 harg4 x0 x1 x2))
          (arg11.view.read (Elt F) (arg11.view.writes (Elt F) (harg11.unread xs1)
            (kernelRun0_B.sl.HS1_1 c arg2 harg2 arg3 harg3 arg5 harg5 x0 x1 x3)))
          (arg12.view.read (Elt F) (arg12.view.writes (Elt F) (harg12.unread xs2)
            (kernelRun0_B.sl.HS2_1 c arg2 harg2 arg3 harg3 arg5 harg5 x0 x1 x3)))
          (arg13.view.read (Elt F) (arg13.view.writes (Elt F) (harg13.unread xs3)
            (kernelRun0_B.sl.HS3_1 c arg2 harg2 arg3 harg3 arg6 harg6 x0 x1 x4)))
          (arg14.view.read (Elt F) (arg14.view.writes (Elt F) (harg14.unread xs4)
            (kernelRun0_B.sl.HS4_1 c arg2 harg2 arg3 harg3 arg6 harg6 x0 x1 x4))) x6) 32 := by
  simp only [kernelRun0_B.sl.HS5_32, kernelRun0_B.sl.cst_184, kernelRun0_B.sl.r_10, kernelRun0_B.sl.r_100, kernelRun0_B.sl.r_101, kernelRun0_B.sl.r_102,
    kernelRun0_B.sl.r_103, kernelRun0_B.sl.r_104, kernelRun0_B.sl.r_105, kernelRun0_B.sl.r_106, kernelRun0_B.sl.r_107,
    kernelRun0_B.sl.r_108, kernelRun0_B.sl.r_109, kernelRun0_B.sl.r_11, kernelRun0_B.sl.r_110, kernelRun0_B.sl.r_111,
    kernelRun0_B.sl.r_112, kernelRun0_B.sl.r_113, kernelRun0_B.sl.r_114, kernelRun0_B.sl.r_115, kernelRun0_B.sl.r_116,
    kernelRun0_B.sl.r_117, kernelRun0_B.sl.r_118, kernelRun0_B.sl.r_119, kernelRun0_B.sl.r_12, kernelRun0_B.sl.r_120,
    kernelRun0_B.sl.r_121, kernelRun0_B.sl.r_122, kernelRun0_B.sl.r_123, kernelRun0_B.sl.r_124, kernelRun0_B.sl.r_125,
    kernelRun0_B.sl.r_126, kernelRun0_B.sl.r_127, kernelRun0_B.sl.r_128, kernelRun0_B.sl.r_129, kernelRun0_B.sl.r_13,
    kernelRun0_B.sl.r_130, kernelRun0_B.sl.r_131, kernelRun0_B.sl.r_132, kernelRun0_B.sl.r_133, kernelRun0_B.sl.r_134,
    kernelRun0_B.sl.r_135, kernelRun0_B.sl.r_136, kernelRun0_B.sl.r_137, kernelRun0_B.sl.r_14, kernelRun0_B.sl.r_15,
    kernelRun0_B.sl.r_16, kernelRun0_B.sl.r_17, kernelRun0_B.sl.r_18, kernelRun0_B.sl.r_19, kernelRun0_B.sl.r_20,
    kernelRun0_B.sl.r_21, kernelRun0_B.sl.r_22, kernelRun0_B.sl.r_23, kernelRun0_B.sl.r_24, kernelRun0_B.sl.r_25,
    kernelRun0_B.sl.r_26, kernelRun0_B.sl.r_27, kernelRun0_B.sl.r_28, kernelRun0_B.sl.r_29, kernelRun0_B.sl.r_30,
    kernelRun0_B.sl.r_31, kernelRun0_B.sl.r_32, kernelRun0_B.sl.r_33, kernelRun0_B.sl.r_34, kernelRun0_B.sl.r_35,
    kernelRun0_B.sl.r_36, kernelRun0_B.sl.r_37, kernelRun0_B.sl.r_38, kernelRun0_B.sl.r_39, kernelRun0_B.sl.r_4,
    kernelRun0_B.sl.r_40, kernelRun0_B.sl.r_41, kernelRun0_B.sl.r_42, kernelRun0_B.sl.r_43, kernelRun0_B.sl.r_44,
    kernelRun0_B.sl.r_45, kernelRun0_B.sl.r_46, kernelRun0_B.sl.r_47, kernelRun0_B.sl.r_48, kernelRun0_B.sl.r_49,
    kernelRun0_B.sl.r_5, kernelRun0_B.sl.r_50, kernelRun0_B.sl.r_51, kernelRun0_B.sl.r_52, kernelRun0_B.sl.r_53,
    kernelRun0_B.sl.r_54, kernelRun0_B.sl.r_55, kernelRun0_B.sl.r_56, kernelRun0_B.sl.r_57, kernelRun0_B.sl.r_58,
    kernelRun0_B.sl.r_59, kernelRun0_B.sl.r_6, kernelRun0_B.sl.r_60, kernelRun0_B.sl.r_61, kernelRun0_B.sl.r_62,
    kernelRun0_B.sl.r_63, kernelRun0_B.sl.r_64, kernelRun0_B.sl.r_65, kernelRun0_B.sl.r_66, kernelRun0_B.sl.r_67,
    kernelRun0_B.sl.r_68, kernelRun0_B.sl.r_69, kernelRun0_B.sl.r_7, kernelRun0_B.sl.r_70, kernelRun0_B.sl.r_71,
    kernelRun0_B.sl.r_72, kernelRun0_B.sl.r_73, kernelRun0_B.sl.r_74, kernelRun0_B.sl.r_75, kernelRun0_B.sl.r_76,
    kernelRun0_B.sl.r_77, kernelRun0_B.sl.r_78, kernelRun0_B.sl.r_79, kernelRun0_B.sl.r_8, kernelRun0_B.sl.r_80,
    kernelRun0_B.sl.r_81, kernelRun0_B.sl.r_82, kernelRun0_B.sl.r_83, kernelRun0_B.sl.r_84, kernelRun0_B.sl.r_85,
    kernelRun0_B.sl.r_86, kernelRun0_B.sl.r_87, kernelRun0_B.sl.r_88, kernelRun0_B.sl.r_89, kernelRun0_B.sl.r_9,
    kernelRun0_B.sl.r_90, kernelRun0_B.sl.r_91, kernelRun0_B.sl.r_92, kernelRun0_B.sl.r_93, kernelRun0_B.sl.r_94,
    kernelRun0_B.sl.r_95, kernelRun0_B.sl.r_96, kernelRun0_B.sl.r_97, kernelRun0_B.sl.r_98, kernelRun0_B.sl.r_99,
    kernelRun0_B.sl.v1051, kernelRun0_B.sl.v1105, kernelRun0_B.sl.v1159, kernelRun0_B.sl.v1213, kernelRun0_B.sl.v124,
    kernelRun0_B.sl.v1267, kernelRun0_B.sl.v128, kernelRun0_B.sl.v1321, kernelRun0_B.sl.v133, kernelRun0_B.sl.v1375,
    kernelRun0_B.sl.v1429, kernelRun0_B.sl.v1483, kernelRun0_B.sl.v1537, kernelRun0_B.sl.v1591, kernelRun0_B.sl.v1645,
    kernelRun0_B.sl.v1699, kernelRun0_B.sl.v1753, kernelRun0_B.sl.v187, kernelRun0_B.sl.v241, kernelRun0_B.sl.v295,
    kernelRun0_B.sl.v349, kernelRun0_B.sl.v403, kernelRun0_B.sl.v457, kernelRun0_B.sl.v511, kernelRun0_B.sl.v565,
    kernelRun0_B.sl.v619, kernelRun0_B.sl.v673, kernelRun0_B.sl.v727, kernelRun0_B.sl.v781, kernelRun0_B.sl.v835,
    kernelRun0_B.sl.v889, kernelRun0_B.sl.v943, kernelRun0_B.sl.v997]
  generalize kernelRun0_B.sl.HS0_1 c arg2 harg2 arg3 harg3 arg4 harg4 x0 x1 x2 = L0
  generalize kernelRun0_B.sl.HS1_1 c arg2 harg2 arg3 harg3 arg5 harg5 x0 x1 x3 = L1
  generalize kernelRun0_B.sl.HS2_1 c arg2 harg2 arg3 harg3 arg5 harg5 x0 x1 x3 = L2
  generalize kernelRun0_B.sl.HS3_1 c arg2 harg2 arg3 harg3 arg6 harg6 x0 x1 x4 = L3
  generalize kernelRun0_B.sl.HS4_1 c arg2 harg2 arg3 harg3 arg6 harg6 x0 x1 x4 = L4
  simp only [View.readAt_eq_ld, Memref.IsWhole.read_unread, readCov_eq_ld, ld_sub2, ld_sub3]
  unfold_payloads
  simp only [attPieces, itemB, itemAt, itemOf, weighOf, expOf, scoresOf, prodOf, invOf, shapeCast_self, Nat.reduceMul, Nat.reduceAdd, Nat.reduceSub,
    Nat.reduceDiv, Nat.reduceMod, Nat.reduceLT, dite_true, dif_pos, if_pos, if_neg, if_true, if_false, Nat.mul_zero, Nat.mul_one, Nat.zero_add]
  rfl

end Cert.KernelIdeal.Att

end
-- ==== Proof.AttEndB.lean ====
/- What the attention kernel leaves in its output block and in the carried buffers, at a later tile. -/
module

public import proofs.«01_k».proof.Proof.AttRunB

@[expose] public section

set_option maxRecDepth 16384

noncomputable section

namespace Cert.KernelIdeal.Att

open Cert.KernelIdeal Cert.KernelIdeal.Gen
open Idealize.ShloMosaic Idealize.ShloMosaic.TcCoe Idealize.ShloMosaic.Tactic

variable {F : FTy → Type} [FloatOps F] [Named F]

variable (c : Dev nD) (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16)
  (harg6 : arg6.IsWhole) (arg7 : Memref sig .tc .vmem S1024x1024 .bf16) (harg7 : arg7.IsWhole)
  (arg8 : Memref sig .tc .vmem S16x128x640 .f32) (harg8 : arg8.IsWhole) (arg9 : Memref sig .tc .vmem S1x512x1024 .f32)
  (harg9 : arg9.IsWhole) (arg10 : Memref sig .tc .vmem S512x1024 .bf16) (harg10 : arg10.IsWhole)
  (arg11 : Memref sig .tc .vmem S1024x1024 .bf16) (harg11 : arg11.IsWhole) (arg12 : Memref sig .tc .vmem S1024x1024 .bf16)
  (harg12 : arg12.IsWhole) (arg13 : Memref sig .tc .vmem S1024x1024 .bf16) (harg13 : arg13.IsWhole)
  (arg14 : Memref sig .tc .vmem S1024x1024 .bf16) (harg14 : arg14.IsWhole) (arg15 : Memref sig .tc .vmem S512x1024 .bf16)
  (harg15 : arg15.IsWhole)
  (x0 : Vec F S1x512x1024 .f32) (x1 : Vec F S1x1024 .f32) (x2 : Vec F S1024x1024 .bf16) (x3 : Vec F S1024x1024 .bf16)
  (x4 : Vec F S1024x1024 .bf16) (x5 : Vec F S1024x1024 .bf16) (x6 : Vec F S16x128x640 .f32) (xs1 : Vec F S1024x1024 .bf16)
  (xs2 : Vec F S1024x1024 .bf16) (xs3 : Vec F S1024x1024 .bf16) (xs4 : Vec F S1024x1024 .bf16)

/-- The store of the tile's queries. -/
theorem qStoreB :
    kernelRun0_B.sl.HS0_1 c arg2 harg2 arg3 harg3 arg4 harg4 x0 x1 x2
      = [⟨Rect.unit (s := S512x1024) ![0, 0] ![512, 1024] inb_S512x1024_S512x1024_0_0, qOf x0 x1 x2⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_B.sl.HS0_1
  simp only [View.readAt_eq_ld, Memref.IsWhole.read_unread, View.ld_unit_zero (S := S1x512x1024) hz3,
    View.ld_unit_zero (S := S1x1024) hz2, View.ld_unit_zero (S := S1024x1024) hz2]
  rfl

/-- The store of the tile's even heads' keys. -/
theorem keStoreB :
    kernelRun0_B.sl.HS1_1 c arg2 harg2 arg3 harg3 arg5 harg5 x0 x1 x3
      = [⟨Rect.unit (s := S1024x1024) ![0, 512] ![1024, 512] inb_S1024x1024_S1024x512_0_512, keOf x0 x1 x3⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_B.sl.HS1_1 kernelRun0_B.sl.r_2
  simp only [View.readAt_eq_ld, Memref.IsWhole.read_unread, View.ld_unit_zero (S := S1x512x1024) hz3,
    View.ld_unit_zero (S := S1x1024) hz2, View.ld_unit_zero (S := S1024x1024) hz2]
  rfl

/-- The store of the tile's odd heads' keys. -/
theorem koStoreB :
    kernelRun0_B.sl.HS2_1 c arg2 harg2 arg3 harg3 arg5 harg5 x0 x1 x3
      = [⟨Rect.unit (s := S1024x1024) ![0, 512] ![1024, 512] inb_S1024x1024_S1024x512_0_512, koOf x0 x1 x3⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_B.sl.HS2_1 kernelRun0_B.sl.r_2
  simp only [View.readAt_eq_ld, Memref.IsWhole.read_unread, View.ld_unit_zero (S := S1x512x1024) hz3,
    View.ld_unit_zero (S := S1x1024) hz2, View.ld_unit_zero (S := S1024x1024) hz2]
  rfl

/-- The store of the tile's even heads' values. -/
theorem veStoreB :
    kernelRun0_B.sl.HS3_1 c arg2 harg2 arg3 harg3 arg6 harg6 x0 x1 x4
      = [⟨Rect.unit (s := S1024x1024) ![512, 0] ![512, 1024] inb_S1024x1024_S512x1024_512_0, veOf x0 x1 x4⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_B.sl.HS3_1 kernelRun0_B.sl.r_3 kernelRun0_B.sl.r_1
  simp only [View.readAt_eq_ld, Memref.IsWhole.read_unread, View.ld_unit_zero (S := S1x512x1024) hz3,
    View.ld_unit_zero (S := S1x1024) hz2, View.ld_unit_zero (S := S1024x1024) hz2]
  rfl

/-- The store of the tile's odd heads' values. -/
theorem voStoreB :
    kernelRun0_B.sl.HS4_1 c arg2 harg2 arg3 harg3 arg6 harg6 x0 x1 x4
      = [⟨Rect.unit (s := S1024x1024) ![512, 0] ![512, 1024] inb_S1024x1024_S512x1024_512_0, voOf x0 x1 x4⟩] := by
  have hz3 : (![0, 0, 0] : Fin 3 → ℕ) = fun _ => 0 := by funext a; fin_cases a <;> rfl
  have hz2 : (![0, 0] : Fin 2 → ℕ) = fun _ => 0 := by funext a; fin_cases a <;> rfl
  unfold kernelRun0_B.sl.HS4_1 kernelRun0_B.sl.r_3 kernelRun0_B.sl.r_1
  simp only [View.readAt_eq_ld, Memref.IsWhole.read_unread, View.ld_unit_zero (S := S1x512x1024) hz3,
    View.ld_unit_zero (S := S1x1024) hz2, View.ld_unit_zero (S := S1024x1024) hz2]
  rfl

/-- What the body leaves in the output block. -/
theorem out_B (i : grid0.Coords) (hc0 : ¬cond0_0 i) (hc1 : cond0_1 i) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 xs4
      = outOf x0 (attAll (itemB (qOf x0 x1 x2) (bufC xs1 (keOf x0 x1 x3)) (bufC xs2 (koOf x0 x1 x3)) (bufR xs3 (veOf x0 x1 x4)) (bufR xs4 (voOf x0 x1 x4)) x6)) x5 := by
  have hz3 : (![0, 0, 0] : Fin 3 → ℕ) = fun _ => 0 := by funext a; fin_cases a <;> rfl
  have hz2 : (![0, 0] : Fin 2 → ℕ) = fun _ => 0 := by funext a; fin_cases a <;> rfl
  unfold out0_B_7
  rw [View.read_writes_junk_eq_canon]
  unfold kernelRun0_B
  dsimp only
  rw [View.canon_unit_zero (S := S1x512x1024) hz3]
  unfold kernelRun0_B.sl.v100 kernelRun0_B.sl.r
  rw [attB, readCov_eq_ld, canon_attPieces_all]
  rw [qStoreB, keStoreB, koStoreB, veStoreB, voStoreB, View.canon_unit_zero (S := S512x1024) hz2]
  simp only [read_bufC, read_bufR, Memref.IsWhole.read_unread]
  simp only [View.readAt_eq_ld, Memref.IsWhole.read_unread, View.ld_unit_zero (S := S1x512x1024) hz3,
    View.ld_unit_zero (S := S512x1024) hz2, View.ld_unit_zero (S := S1024x1024) hz2]
  rfl

/-- What the body leaves of the even heads' keys for the next tile. -/
theorem ke_B (i : grid0.Coords) (hc0 : ¬cond0_0 i) (hc1 : cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 xs4
      = carryC (keOf x0 x1 x3) := by
  unfold sout0_B_1
  rw [View.read_writes_junk_eq_canon]
  unfold kernelRun0_B
  dsimp only
  unfold kernelRun0_B.sl.v108
  rw [keStoreB]
  simp only [cov_C]
  unfold k0_pay1
  simp only [shapeCast_self]
  exact canon_carryC _ _ _ []

/-- What the body leaves of the odd heads' keys for the next tile. -/
theorem ko_B (i : grid0.Coords) (hc0 : ¬cond0_0 i) (hc1 : cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 xs4
      = carryC (koOf x0 x1 x3) := by
  unfold sout0_B_2
  rw [View.read_writes_junk_eq_canon]
  unfold kernelRun0_B
  dsimp only
  unfold kernelRun0_B.sl.v112
  rw [koStoreB]
  simp only [cov_C]
  unfold k0_pay2
  simp only [shapeCast_self]
  exact canon_carryC _ _ _ []

/-- What the body leaves of the even heads' values for the next tile. -/
theorem ve_B (i : grid0.Coords) (hc0 : ¬cond0_0 i) (hc1 : cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 xs4
      = carryR (veOf x0 x1 x4) := by
  unfold sout0_B_3
  rw [View.read_writes_junk_eq_canon]
  unfold kernelRun0_B
  dsimp only
  unfold kernelRun0_B.sl.v116
  rw [veStoreB]
  simp only [cov_R]
  unfold k0_pay3
  simp only [shapeCast_self]
  exact canon_carryR _ _ _ []

/-- What the body leaves of the odd heads' values for the next tile. -/
theorem vo_B (i : grid0.Coords) (hc0 : ¬cond0_0 i) (hc1 : cond0_1 i) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs1 xs2 xs3 xs4
      = carryR (voOf x0 x1 x4) := by
  unfold sout0_B_4
  rw [View.read_writes_junk_eq_canon]
  unfold kernelRun0_B
  dsimp only
  unfold kernelRun0_B.sl.v120
  rw [voStoreB]
  simp only [cov_R]
  unfold k0_pay4
  simp only [shapeCast_self]
  exact canon_carryR _ _ _ []

end Cert.KernelIdeal.Att

end
-- ==== Proof.AttValue.lean ====
/- The attention kernel's result array is the plain attention of AttSpec. -/
module

public import proofs.«01_k».proof.Proof.AttEndA
public import proofs.«01_k».proof.Proof.AttEndB
public import proofs.«01_k».proof.Proof.AttTile
public import proofs.«01_k».proof.Proof.AttHost

@[expose] public section

noncomputable section

namespace Cert.KernelIdeal.Att

open Cert.KernelIdeal Cert.KernelIdeal.Gen Cert.AttSpec
open Idealize.ShloMosaic Idealize.ShloMosaic.TcCoe Idealize.ShloMosaic.Tactic

variable (m : (ℓ : Loc nD τ sig) → Buf (Elt Ideal) ℓ)

/-- The grid has 64 points. -/
theorem pt_lt (t : Fin cfg0.N) : t.val < 64 := lt_of_lt_of_eq t.isLt N_0

/-- The batch entry of a point. -/
def bat (t : Fin cfg0.N) : Fin 4 := ⟨t.val / 16, by have := pt_lt t; omega⟩

/-- The tile of a point. -/
def til (t : Fin cfg0.N) : Fin 16 := ⟨t.val % 16, Nat.mod_lt _ (by decide)⟩

/-- Where the input's block sits at a point. -/
theorem index0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

/-- The input's block at a point: 512 rows of a batch entry. -/
theorem iblk0 (c : Dev nD) (t : Fin cfg0.N) (r : Fin 512) (k : Fin 1024) :
    (iblk m c 0 t : S1x512x1024.Idx → EReal) (ix3 (0 : Fin 1) r k) = argX m c (ix3 (bat t) (row (til t) r) k) := by
  obtain ⟨e0, e1, e2⟩ := index0 t
  unfold iblk
  rw [View.read_apply]
  show V m c main_arg0 _ = _
  rw [V_main_arg0]
  refine congrArg (argX m c) ?_
  funext a
  refine Fin.ext ?_
  match a with
  | ⟨0, _⟩ => show win0_0.index t (0 : Fin 3) * 1 + 0 = t.val / 16; omega
  | ⟨1, _⟩ => show win0_0.index t (1 : Fin 3) * 512 + 1 * r.val = 512 * (t.val % 16) + r.val; omega
  | ⟨2, _⟩ => show win0_0.index t (2 : Fin 3) * 1024 + 1 * k.val = k.val; omega

/-- The other blocks are the whole operands at every point. -/
theorem indexW : ∀ t : Fin cfg0.N, (win0_1.index t = ![0, 0] ∧ win0_2.index t = ![0, 0] ∧ win0_3.index t = ![0, 0])
    ∧ (win0_4.index t = ![0, 0] ∧ win0_5.index t = ![0, 0] ∧ win0_6.index t = ![0, 0, 0]) :=
  (by decide +kernel : ∀ t : Fin grid0.N, _)

/-- The query weight's block. -/
theorem iblk2 (c : Dev nD) (t : Fin cfg0.N) (k n : Fin 1024) :
    (iblk m c 2 t : S1024x1024.Idx → EReal) (ix2 k n) = opQ m c (ix2 k n) := by
  have e := indexW t |>.1.2.1
  have e0 := congrFun e (0 : Fin 2)
  have e1 := congrFun e (1 : Fin 2)
  simp only [Matrix.cons_val] at e0 e1
  unfold iblk
  rw [View.read_apply]
  refine congrArg (opQ m c) ?_
  funext a
  refine Fin.ext ?_
  match a with
  | ⟨0, _⟩ => show win0_2.index t (0 : Fin 2) * 1024 + 1 * k.val = k.val; omega
  | ⟨1, _⟩ => show win0_2.index t (1 : Fin 2) * 1024 + 1 * n.val = n.val; omega

/-- The key weight's block. -/
theorem iblk3 (c : Dev nD) (t : Fin cfg0.N) (k n : Fin 1024) :
    (iblk m c 3 t : S1024x1024.Idx → EReal) (ix2 k n) = opK m c (ix2 k n) := by
  have e := indexW t |>.1.2.2
  have e0 := congrFun e (0 : Fin 2)
  have e1 := congrFun e (1 : Fin 2)
  simp only [Matrix.cons_val] at e0 e1
  unfold iblk
  rw [View.read_apply]
  refine congrArg (opK m c) ?_
  funext a
  refine Fin.ext ?_
  match a with
  | ⟨0, _⟩ => show win0_3.index t (0 : Fin 2) * 1024 + 1 * k.val = k.val; omega
  | ⟨1, _⟩ => show win0_3.index t (1 : Fin 2) * 1024 + 1 * n.val = n.val; omega

/-- The value weight's block. -/
theorem iblk4 (c : Dev nD) (t : Fin cfg0.N) (k n : Fin 1024) :
    (iblk m c 4 t : S1024x1024.Idx → EReal) (ix2 k n) = opV m c (ix2 k n) := by
  have e := indexW t |>.2.1
  have e0 := congrFun e (0 : Fin 2)
  have e1 := congrFun e (1 : Fin 2)
  simp only [Matrix.cons_val] at e0 e1
  unfold iblk
  rw [View.read_apply]
  refine congrArg (opV m c) ?_
  funext a
  refine Fin.ext ?_
  match a with
  | ⟨0, _⟩ => show win0_4.index t (0 : Fin 2) * 1024 + 1 * k.val = k.val; omega
  | ⟨1, _⟩ => show win0_4.index t (1 : Fin 2) * 1024 + 1 * n.val = n.val; omega

/-- The output weight's block. -/
theorem iblk5 (c : Dev nD) (t : Fin cfg0.N) (k n : Fin 1024) :
    (iblk m c 5 t : S1024x1024.Idx → EReal) (ix2 k n) = opO m c (ix2 k n) := by
  have e := indexW t |>.2.2.1
  have e0 := congrFun e (0 : Fin 2)
  have e1 := congrFun e (1 : Fin 2)
  simp only [Matrix.cons_val] at e0 e1
  unfold iblk
  rw [View.read_apply]
  refine congrArg (opO m c) ?_
  funext a
  refine Fin.ext ?_
  match a with
  | ⟨0, _⟩ => show win0_5.index t (0 : Fin 2) * 1024 + 1 * k.val = k.val; omega
  | ⟨1, _⟩ => show win0_5.index t (1 : Fin 2) * 1024 + 1 * n.val = n.val; omega

/-- The norm weight's block. -/
theorem iblk1 (c : Dev nD) (t : Fin cfg0.N) (n : Fin 1024) :
    (iblk m c 1 t : S1x1024.Idx → EReal) (ix2 (0 : Fin 1) n) = opG m c (ix2 (0 : Fin 1) n) := by
  have e := indexW t |>.1.1
  have e0 := congrFun e (0 : Fin 2)
  have e1 := congrFun e (1 : Fin 2)
  simp only [Matrix.cons_val] at e0 e1
  unfold iblk
  rw [View.read_apply]
  refine congrArg (opG m c) ?_
  funext a
  refine Fin.ext ?_
  match a with
  | ⟨0, _⟩ => show win0_1.index t (0 : Fin 2) * 1 + 0 = 0; omega
  | ⟨1, _⟩ => show win0_1.index t (1 : Fin 2) * 1024 + 1 * n.val = n.val; omega

/-- The bias block. -/
theorem iblk6 (c : Dev nD) (t : Fin cfg0.N) (h : Fin 16) (r : Fin 128) (j : Fin 640) :
    (iblk m c 6 t : S16x128x640.Idx → EReal) (ix3 h r j) = opB m c (ix3 h r j) := by
  have e := indexW t |>.2.2.2
  have e0 := congrFun e (0 : Fin 3)
  have e1 := congrFun e (1 : Fin 3)
  have e2 := congrFun e (2 : Fin 3)
  simp only [Matrix.cons_val] at e0 e1 e2
  unfold iblk
  rw [View.read_apply]
  refine congrArg (opB m c) ?_
  funext a
  refine Fin.ext ?_
  match a with
  | ⟨0, _⟩ => show win0_6.index t (0 : Fin 3) * 16 + 1 * h.val = h.val; omega
  | ⟨1, _⟩ => show win0_6.index t (1 : Fin 3) * 128 + 1 * r.val = r.val; omega
  | ⟨2, _⟩ => show win0_6.index t (2 : Fin 3) * 640 + 1 * j.val = j.val; omega

/-- What a point leaves of the even heads' keys. -/
theorem carried_ke (c : Dev nD) (t : Fin cfg0.N) :
    (outsAt0 m c t.val t.isLt).2.1 = carryC (keOf (F := Ideal) (iblk m c 0 t) (iblk m c 1 t) (iblk m c 3 t)) := by
  by_cases h0 : t.val % 16 = 0
  · refine (congrArg (fun z => z.2.1) (outsAt0_A m c t h0 (by omega))).trans ?_
    dsimp only
    apply ke_A (F := Ideal)
  · refine (congrArg (fun z => z.2.1) (outsAt0_B m c t h0 (by omega))).trans ?_
    dsimp only
    apply ke_B (F := Ideal)

/-- What a point leaves of the odd heads' keys. -/
theorem carried_ko (c : Dev nD) (t : Fin cfg0.N) :
    (outsAt0 m c t.val t.isLt).2.2.1 = carryC (koOf (F := Ideal) (iblk m c 0 t) (iblk m c 1 t) (iblk m c 3 t)) := by
  by_cases h0 : t.val % 16 = 0
  · refine (congrArg (fun z => z.2.2.1) (outsAt0_A m c t h0 (by omega))).trans ?_
    dsimp only
    apply ko_A (F := Ideal)
  · refine (congrArg (fun z => z.2.2.1) (outsAt0_B m c t h0 (by omega))).trans ?_
    dsimp only
    apply ko_B (F := Ideal)

/-- What a point leaves of the even heads' values. -/
theorem carried_ve (c : Dev nD) (t : Fin cfg0.N) :
    (outsAt0 m c t.val t.isLt).2.2.2.1 = carryR (veOf (F := Ideal) (iblk m c 0 t) (iblk m c 1 t) (iblk m c 4 t)) := by
  by_cases h0 : t.val % 16 = 0
  · refine (congrArg (fun z => z.2.2.2.1) (outsAt0_A m c t h0 (by omega))).trans ?_
    dsimp only
    apply ve_A (F := Ideal)
  · refine (congrArg (fun z => z.2.2.2.1) (outsAt0_B m c t h0 (by omega))).trans ?_
    dsimp only
    apply ve_B (F := Ideal)

/-- What a point leaves of the odd heads' values. -/
theorem carried_vo (c : Dev nD) (t : Fin cfg0.N) :
    (outsAt0 m c t.val t.isLt).2.2.2.2 = carryR (voOf (F := Ideal) (iblk m c 0 t) (iblk m c 1 t) (iblk m c 4 t)) := by
  by_cases h0 : t.val % 16 = 0
  · refine (congrArg (fun z => z.2.2.2.2) (outsAt0_A m c t h0 (by omega))).trans ?_
    dsimp only
    apply vo_A (F := Ideal)
  · refine (congrArg (fun z => z.2.2.2.2) (outsAt0_B m c t h0 (by omega))).trans ?_
    dsimp only
    apply vo_B (F := Ideal)

/-- A point's blocks are the batch entry's rows and the weights. -/
theorem blocks (c : Dev nD) (t : Fin cfg0.N) (b : Fin 4) (hb : bat t = b) :
    Blk (fun s d => argX m c (ix3 b s d)) (fun d => argG m c (ix1 d)) (fun k n => argW m c (ix2 k n)) (til t)
      (iblk m c 0 t) (iblk m c 1 t) (iblk m c 2 t) (iblk m c 3 t) (iblk m c 4 t) where
  x0 := fun r d => by rw [← hb]; exact iblk0 m c t r d
  x1 := fun d => (iblk1 m c t d).trans (opG_apply m c d)
  x2 := fun k n => (iblk2 m c t k n).trans (opQ_apply m c k n)
  x3 := fun n k => (iblk3 m c t n k).trans (opK_apply m c n k)
  x4 := fun k n => (iblk4 m c t k n).trans (opV_apply m c k n)

/-- The plain result on the launched arguments. -/
def spec (c : Dev nD) (b : Fin 4) : Fin 8192 → Fin 1024 → EReal :=
  AttSpec.out (fun s d => argX m c (ix3 b s d)) (fun d => argG m c (ix1 d)) (fun k n => argW m c (ix2 k n))
    (fun h p => argB m c (ix2 h p)) (fun k n => argO m c (ix2 k n))

section

variable (c : Dev nD) (hG : ∀ i, Fin' (argG m c i)) (hW : ∀ i, Fin' (argW m c i))
  (hB : IsBias (fun h p => argB m c (ix2 h p)) (opB m c))

include hG hW hB

/-- A point leaves the plain result at its rows. -/
theorem outs_apply (t : Fin cfg0.N) (r : Fin 512) (n : Fin 1024) :
    (outsAt0 m c t.val t.isLt).1 (ix3 (0 : Fin 1) r n) = spec m c (bat t) (row (til t) r) n := by
  have hB' : IsBias (fun h p => argB m c (ix2 h p)) (iblk m c 6 t) := fun h r j => (iblk6 m c t h r j).trans (hB h r j)
  have K := blocks m c t (bat t) rfl
  have h5 : ∀ k n : Fin 1024, (iblk m c 5 t : S1024x1024.Idx → EReal) (ix2 k n) = argO m c (ix2 k n) :=
    fun k n => (iblk5 m c t k n).trans (congrFun (opO_eq m c) _)
  by_cases h0 : t.val % 16 = 0
  · have e : (outsAt0 m c t.val t.isLt).1 = outOf (F := Ideal) (iblk m c 0 t)
        (attAll (itemA (qOf (F := Ideal) (iblk m c 0 t) (iblk m c 1 t) (iblk m c 2 t))
          (bufC noBuf (keOf (F := Ideal) (iblk m c 0 t) (iblk m c 1 t) (iblk m c 3 t)))
          (bufC noBuf (koOf (F := Ideal) (iblk m c 0 t) (iblk m c 1 t) (iblk m c 3 t)))
          (bufR noBuf (veOf (F := Ideal) (iblk m c 0 t) (iblk m c 1 t) (iblk m c 4 t)))
          (bufR noBuf (voOf (F := Ideal) (iblk m c 0 t) (iblk m c 1 t) (iblk m c 4 t))) (iblk m c 6 t))) (iblk m c 5 t) := by
      refine (congrArg Prod.fst (outsAt0_A m c t h0 (by omega))).trans ?_
      dsimp only
      apply out_A (F := Ideal)
    rw [e]
    exact out_tile K _ _ _ _ (attAll_A (holds_A (fun _ => hG _) (fun _ _ => hW _) K h0 _ _ _ _) hB' h0) h5 r n
  · have hlt : t.val - 1 < cfg0.N := Nat.lt_of_le_of_lt (Nat.sub_le _ _) t.isLt
    have ht : (til ⟨t.val - 1, hlt⟩).val + 1 = (til t).val := by
      show (t.val - 1) % 16 + 1 = t.val % 16
      omega
    have K' := blocks m c ⟨t.val - 1, hlt⟩ (bat t) (Fin.ext (by show (t.val - 1) / 16 = t.val / 16; omega))
    have e : (outsAt0 m c t.val t.isLt).1 = outOf (F := Ideal) (iblk m c 0 t)
        (attAll (itemB (qOf (F := Ideal) (iblk m c 0 t) (iblk m c 1 t) (iblk m c 2 t))
          (bufC (outsAt0 m c (t.val - 1) hlt).2.1 (keOf (F := Ideal) (iblk m c 0 t) (iblk m c 1 t) (iblk m c 3 t)))
          (bufC (outsAt0 m c (t.val - 1) hlt).2.2.1 (koOf (F := Ideal) (iblk m c 0 t) (iblk m c 1 t) (iblk m c 3 t)))
          (bufR (outsAt0 m c (t.val - 1) hlt).2.2.2.1 (veOf (F := Ideal) (iblk m c 0 t) (iblk m c 1 t) (iblk m c 4 t)))
          (bufR (outsAt0 m c (t.val - 1) hlt).2.2.2.2 (voOf (F := Ideal) (iblk m c 0 t) (iblk m c 1 t) (iblk m c 4 t))) (iblk m c 6 t))) (iblk m c 5 t) := by
      refine (congrArg Prod.fst (outsAt0_B m c t h0 (by omega))).trans ?_
      dsimp only
      apply out_B (F := Ideal)
    rw [e]
    have H := holds_B (fun _ => hG _) (fun _ _ => hW _) K ht K'
    rw [← carried_ke m c ⟨t.val - 1, hlt⟩, ← carried_ko m c ⟨t.val - 1, hlt⟩, ← carried_ve m c ⟨t.val - 1, hlt⟩,
      ← carried_vo m c ⟨t.val - 1, hlt⟩] at H
    exact out_tile K _ _ _ _ (attAll_B H hB' (by show 1 ≤ t.val % 16; omega)) h5 r n

/-- The kernel's result array is the plain result. -/
theorem result (b : Fin 4) (s : Fin 8192) (n : Fin 1024) :
    (Value.G7 m c : S4x8192x1024.Idx → EReal) (ix3 b s n) = spec m c b s n := by
  have hpt : Value.pt7Of (ix3 b s n) = 16 * b.val + s.val / 512 := by
    show 16 * (b.val / 1 - 0) + 1 * (s.val / 512 - 0) + 1 * (n.val / 1024 - 0) = _
    omega
  have hlt : Value.pt7Of (ix3 b s n) < cfg0.N := by
    rw [hpt]; exact lt_of_lt_of_eq (by omega) N_0.symm
  unfold Value.G7
  rw [dif_pos hlt, ← Value.outsAt0_sweep m c _ hlt]
  have hl : Value.loc7Of (ix3 b s n) = ix3 (0 : Fin 1) (⟨s.val % 512, Nat.mod_lt _ (by decide)⟩ : Fin 512) n := by
    funext a
    refine Fin.ext ?_
    match a with
    | ⟨0, _⟩ => show b.val % 1 = 0; omega
    | ⟨1, _⟩ => rfl
    | ⟨2, _⟩ => show n.val % 1024 = n.val; omega
  rw [hl]
  refine (outs_apply m c hG hW hB ⟨_, hlt⟩ _ n).trans ?_
  have hb : bat ⟨_, hlt⟩ = b := Fin.ext (by
    show Value.pt7Of (ix3 b s n) / 16 = b.val
    rw [hpt]; omega)
  have hr : row (til ⟨_, hlt⟩) (⟨s.val % 512, Nat.mod_lt _ (by decide)⟩ : Fin 512) = s := Fin.ext (by
    show 512 * (Value.pt7Of (ix3 b s n) % 16) + s.val % 512 = s.val
    rw [hpt]; omega)
  rw [hb, hr]

end

end Cert.KernelIdeal.Att

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnRef
public import proofs.«01_k».proof.Proof.FfnValue
public import proofs.«01_k».proof.Proof.AttFinite
public import proofs.«01_k».proof.Proof.AttRefC
public import proofs.«01_k».proof.Proof.AttStack
public import proofs.«01_k».proof.Proof.AttValue
public import Idealize.ShloMosaic.Adequacy
public import Idealize.ShloMosaic.Init
public import Idealize.ShloMosaic.Lib.Quiescent

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Pre_finite.Facts := Cert.Pre_finite.Att.facts

/-- The attention's reference terminates, keeps its arguments and leaves every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward call's reference terminates, keeps its arguments and leaves every semaphore at zero. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The attention call and its reference compute the same array over the extended reals, where the norm's gain,
the projection's weights and the bias table are real. -/
theorem equal : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  obtain ⟨hG, hW, hB⟩ := Cert.Pre_finite.Att.fin_of_pre _ _ _ _ _ (hpre c)
  refine (h c).1.trans ?_
  rw [Cert.ReferenceIdeal.Read.val_main_v95_eq, h0, h1, h2, h3, h4]
  funext i
  obtain ⟨b, s, n, rfl⟩ : ∃ (b : Fin 4) (s : Fin 8192) (n : Fin 1024), i = ix3 b s n :=
    ⟨i 0, i 1, i 2, by funext a; fin_cases a <;> rfl⟩
  exact (Cert.ReferenceIdeal.Att.v95_apply _ _ _ _ _ hG hW hB b s n).trans
    (Cert.KernelIdeal.Att.result m c hG hW (Cert.KernelIdeal.Att.opB_bias m c hB) b s n).symm

/-- The feed-forward call and its reference compute the same array over the extended reals. -/
theorem equal2 : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4, h5, h6⟩ := hagree c
  refine (h c).1.trans ?_
  rw [Cert.Reference2Ideal.Read.val_main_v68_eq, h0, h1, h2, h3, h4, h5, h6]
  funext i
  obtain ⟨b, s, n, rfl⟩ : ∃ (b : Fin 4) (s : Fin 8192) (n : Fin 1024), i = ix3 b s n :=
    ⟨i 0, i 1, i 2, by funext a; fin_cases a <;> rfl⟩
  exact (Cert.Reference2Ideal.Ffn.v68_apply _ _ _ _ _ _ _ b s n).trans (Cert.Kernel2Ideal.Ffn.result m c b s n).symm

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite.Att.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    ⟨IdealRules.named_const.statement Cert.KernelIdeal.κ "qscale" .f32 0x3E38AA3B#32
      (((Real.sqrt 64)⁻¹ * (Real.log 2)⁻¹ : ℝ) : EReal) rfl,
    IdealRules.named_const.statement Cert.KernelIdeal.κ "log2e" .f32 0x3FB8AA3B#32 (((Real.log 2)⁻¹ : ℝ) : EReal) rfl⟩,
    equal, trivial, equal2⟩

end Cert.Proof

end
